-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42_0) = v0 c
          ∧ r.2.mem ((c.tc : Thread Cert.ReferenceIdeal.nD Cert.ReferenceIdeal.τ).loc Cert.ReferenceIdeal.main_v42_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S3x640x576 : Shape := ⟨3, ![3, 640, 576]⟩
abbrev S3x640 : Shape := ⟨2, ![3, 640]⟩
abbrev S3x160x8 : Shape := ⟨3, ![3, 160, 8]⟩
abbrev S8x576x448 : Shape := ⟨3, ![8, 576, 448]⟩
abbrev S448 : Shape := ⟨1, ![448]⟩
abbrev S_ : Shape := ⟨0, ![]⟩

class Facts : Prop where
  bcast_S_S3x160x8 : S_.BroadcastsInDim S3x160x8 (![] : Fin 0 → Fin S3x160x8.rank)
  reducesTo_S3x160x8_S_d0_1_2 : S3x160x8.ReducesTo [0, 1, 2] S_
  h_S_ : 0 < S_.numel

variable [Facts]

def fn {F : FTy → Type} [FloatOps F] (main_arg0 : FVec F S3x640x576 .fp8e4m3) (main_arg1 : FVec F S3x640 .f32) (main_arg2 : IVec S3x160x8 32) (main_arg3 : FVec F S8x576x448 .fp8e4m3) (main_arg4 : FVec F S448 .f32) (main_arg5 : FVec F S448 .f32) : IVec S_ 1 :=
  let main_c : IVec S_ 32 := constantI S_ 32 640#32
  let main_v0 : IVec S3x160x8 32 := broadcastInDim S3x160x8 ![] bcast_S_S3x160x8 main_c
  let main_v1 : IVec S3x160x8 1 := cmpi .slt main_arg2 main_v0
  let main_c_0 : IVec S_ 1 := constantI S_ 1 1#1
  let main_v2 : IVec S_ 1 := (fun x v => Host.reduce IntOp.andi x v reducesTo_S3x160x8_S_d0_1_2 h_S_) main_v1 main_c_0
  main_v2
-- ==== Kernel.lean ====
abbrev S3x640x576 : Shape := ⟨3, ![3, 640, 576]⟩
abbrev S3x640 : Shape := ⟨2, ![3, 640]⟩
abbrev S3x160x8 : Shape := ⟨3, ![3, 160, 8]⟩
abbrev S8x576x448 : Shape := ⟨3, ![8, 576, 448]⟩
abbrev S448 : Shape := ⟨1, ![448]⟩
abbrev S3x576x640 : Shape := ⟨3, ![3, 576, 640]⟩
abbrev S3x8x160 : Shape := ⟨3, ![3, 8, 160]⟩
abbrev S8x448x576 : Shape := ⟨3, ![8, 448, 576]⟩
abbrev S1x448 : Shape := ⟨2, ![1, 448]⟩
abbrev S3x160x448 : Shape := ⟨3, ![3, 160, 448]⟩
abbrev S3x160 : Shape := ⟨2, ![3, 160]⟩
abbrev S4x8x128 : Shape := ⟨3, ![4, 8, 128]⟩
abbrev S4608x512 : Shape := ⟨2, ![4608, 512]⟩
abbrev S448x4608 : Shape := ⟨2, ![448, 4608]⟩
abbrev S7 : Shape := ⟨1, ![7]⟩
abbrev S1 : Shape := ⟨1, ![1]⟩
abbrev S_ : Shape := ⟨0, ![]⟩
abbrev S8x128 : Shape := ⟨2, ![8, 128]⟩
abbrev S32x128 : Shape := ⟨2, ![32, 128]⟩
abbrev S1x128 : Shape := ⟨2, ![1, 128]⟩
abbrev S1x8x128 : Shape := ⟨3, ![1, 8, 128]⟩
abbrev S8x128x1 : Shape := ⟨3, ![8, 128, 1]⟩
abbrev S1x8x32 : Shape := ⟨3, ![1, 8, 32]⟩
abbrev S8x32 : Shape := ⟨2, ![8, 32]⟩
abbrev S1x1x128 : Shape := ⟨3, ![1, 1, 128]⟩
abbrev S1x32x128 : Shape := ⟨3, ![1, 32, 128]⟩
abbrev S32x128x1 : Shape := ⟨3, ![32, 128, 1]⟩
abbrev S1x448x512 : Shape := ⟨3, ![1, 448, 512]⟩
abbrev S448x512 : Shape := ⟨2, ![448, 512]⟩
abbrev S1x448x64 : Shape := ⟨3, ![1, 448, 64]⟩
abbrev S448x64 : Shape := ⟨2, ![448, 64]⟩
abbrev S448x128 : Shape := ⟨2, ![448, 128]⟩
abbrev S1x64 : Shape := ⟨2, ![1, 64]⟩
abbrev S1x512 : Shape := ⟨2, ![1, 512]⟩
abbrev S128x128 : Shape := ⟨2, ![128, 128]⟩
abbrev S512x128 : Shape := ⟨2, ![512, 128]⟩
abbrev S4608x256 : Shape := ⟨2, ![4608, 256]⟩
abbrev S448x256 : Shape := ⟨2, ![448, 256]⟩
abbrev S128 : Shape := ⟨1, ![128]⟩
abbrev S256x128 : Shape := ⟨2, ![256, 128]⟩
abbrev S128x448 : Shape := ⟨2, ![128, 448]⟩
abbrev S1x128x448 : Shape := ⟨3, ![1, 128, 448]⟩
abbrev S32x448 : Shape := ⟨2, ![32, 448]⟩
abbrev S1x32x448 : Shape := ⟨3, ![1, 32, 448]⟩
abbrev S1x32 : Shape := ⟨2, ![1, 32]⟩

abbrev nBuf : Space → Nat
  | .hbm => 13
  | .vmem => 11
  | .smem => 0
  | _ => 0

abbrev bufTy : (tb : Table) → Fin (tcTables nBuf tb) → BufTy
  | .hbm, ⟨0, _⟩ => ⟨S3x640x576, .fp8e4m3⟩
  | .hbm, ⟨1, _⟩ => ⟨S3x640, .f32⟩
  | .hbm, ⟨2, _⟩ => ⟨S3x160x8, .i32⟩
  | .hbm, ⟨3, _⟩ => ⟨S8x576x448, .fp8e4m3⟩
  | .hbm, ⟨4, _⟩ => ⟨S448, .f32⟩
  | .hbm, ⟨5, _⟩ => ⟨S448, .f32⟩
  | .hbm, ⟨6, _⟩ => ⟨S3x576x640, .fp8e4m3⟩
  | .hbm, ⟨7, _⟩ => ⟨S3x8x160, .i32⟩
  | .hbm, ⟨8, _⟩ => ⟨S8x448x576, .fp8e4m3⟩
  | .hbm, ⟨9, _⟩ => ⟨S1x448, .f32⟩
  | .hbm, ⟨10, _⟩ => ⟨S1x448, .f32⟩
  | .hbm, ⟨11, _⟩ => ⟨S3x160x448, .fp8e4m3⟩
  | .hbm, ⟨12, _⟩ => ⟨S3x160, .f32⟩
  | .local _ .vmem, ⟨0, _⟩ => ⟨S3x160, .f32⟩
  | .local _ .vmem, ⟨1, _⟩ => ⟨S3x576x640, .fp8e4m3⟩
  | .local _ .vmem, ⟨2, _⟩ => ⟨S3x640, .f32⟩
  | .local _ .vmem, ⟨3, _⟩ => ⟨S3x8x160, .i32⟩
  | .local _ .vmem, ⟨4, _⟩ => ⟨S8x448x576, .fp8e4m3⟩
  | .local _ .vmem, ⟨5, _⟩ => ⟨S1x448, .f32⟩
  | .local _ .vmem, ⟨6, _⟩ => ⟨S1x448, .f32⟩
  | .local _ .vmem, ⟨7, _⟩ => ⟨S4x8x128, .f32⟩
  | .local _ .vmem, ⟨8, _⟩ => ⟨S4608x512, .bf16⟩
  | .local _ .vmem, ⟨9, _⟩ => ⟨S448x4608, .fp8e4m3⟩
  | .local _ .vmem, ⟨10, _⟩ => ⟨S3x160x448, .fp8e4m3⟩
  | _, _ => ⟨S3x640x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_184 : BitVec 32 := 0#32
  let c8_i32 : BitVec 32 := 8#32
  let v510 : BitVec 32 := Scalar.addi c0_i32_184 c8_i32
  let c1_i32_185 : BitVec 32 := 1#32
  ⟨c0_i32_184, v510, c1_i32_185⟩
@[reducible] def k0_t2_loop : Scf.Loop 32 :=
  let c0_i32_455 : BitVec 32 := 0#32
  let c3_i32_456 : BitVec 32 := 3#32
  let v1155 : BitVec 32 := Scalar.addi c0_i32_455 c3_i32_456
  let c1_i32_457 : BitVec 32 := 1#32
  ⟨c0_i32_455, v1155, c1_i32_457⟩
def k0_off1 (k0_t1 : Fin k0_t1_loop.trips) (k0_t2 : Fin k0_t2_loop.trips) : Fin 3 → Nat :=
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1158 : Index := Scalar.indexCast v1157
  let c0_i32_454 : BitVec 32 := 0#32
  let c0_i32_184 : BitVec 32 := 0#32
  let c1_i32_185 : BitVec 32 := 1#32
  let arg19 : BitVec 32 := Scf.iv c0_i32_184 c1_i32_185 k0_t1
  let c1_i32_453 : BitVec 32 := 1#32
  let v1153 : BitVec 32 := Scalar.muli arg19 c1_i32_453
  let v1154 : BitVec 32 := Scalar.addi c0_i32_454 v1153
  let v1159 : Index := Scalar.indexCast v1154
  let c0_461 : Index := 0#32
  ![v1158.toNat, v1159.toNat, 0]
@[reducible] def k0_t3_loop : Scf.Loop 32 :=
  let c0_i32_471 : BitVec 32 := 0#32
  let c18_i32 : BitVec 32 := 18#32
  let v1182 : BitVec 32 := Scalar.addi c0_i32_471 c18_i32
  let c1_i32_472 : BitVec 32 := 1#32
  ⟨c0_i32_471, v1182, c1_i32_472⟩
def k0_mult1 (k0_t3 : Fin k0_t3_loop.trips) : BitVec 32 :=
  let c32_i32_481 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1195 : BitVec 32 := Scalar.muli c32_i32_481 v1184
  v1195
def k0_off2 (k0_t2 : Fin k0_t2_loop.trips) (k0_t3 : Fin k0_t3_loop.trips) : Fin 3 → Nat :=
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1197 : Index := Scalar.indexCast v1157
  let c32_i32_481 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1195 : BitVec 32 := Scalar.muli c32_i32_481 v1184
  let v1196 : BitVec 32 := v1195
  let v1198 : Index := Scalar.indexCast v1196
  let c0_482 : Index := 0#32
  ![v1197.toNat, v1198.toNat, 0]
def k0_mult2 (k0_t3 : Fin k0_t3_loop.trips) : BitVec 32 :=
  let c32_i32_483 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1202 : BitVec 32 := Scalar.muli c32_i32_483 v1184
  v1202
def k0_off3 (k0_t2 : Fin k0_t2_loop.trips) (k0_t3 : Fin k0_t3_loop.trips) : Fin 3 → Nat :=
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1204 : Index := Scalar.indexCast v1157
  let c32_i32_483 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1202 : BitVec 32 := Scalar.muli c32_i32_483 v1184
  let v1203 : BitVec 32 := v1202
  let v1205 : Index := Scalar.indexCast v1203
  let c128_484 : Index := 128#32
  ![v1204.toNat, v1205.toNat, 128]
def k0_mult3 (k0_t3 : Fin k0_t3_loop.trips) : BitVec 32 :=
  let c32_i32_485 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1209 : BitVec 32 := Scalar.muli c32_i32_485 v1184
  v1209
def k0_off4 (k0_t2 : Fin k0_t2_loop.trips) (k0_t3 : Fin k0_t3_loop.trips) : Fin 3 → Nat :=
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1211 : Index := Scalar.indexCast v1157
  let c32_i32_485 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1209 : BitVec 32 := Scalar.muli c32_i32_485 v1184
  let v1210 : BitVec 32 := v1209
  let v1212 : Index := Scalar.indexCast v1210
  let c256_486 : Index := 256#32
  ![v1211.toNat, v1212.toNat, 256]
def k0_mult4 (k0_t3 : Fin k0_t3_loop.trips) : BitVec 32 :=
  let c32_i32_487 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1216 : BitVec 32 := Scalar.muli c32_i32_487 v1184
  v1216
def k0_off5 (k0_t2 : Fin k0_t2_loop.trips) (k0_t3 : Fin k0_t3_loop.trips) : Fin 3 → Nat :=
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1218 : Index := Scalar.indexCast v1157
  let c32_i32_487 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1216 : BitVec 32 := Scalar.muli c32_i32_487 v1184
  let v1217 : BitVec 32 := v1216
  let v1219 : Index := Scalar.indexCast v1217
  let c384_488 : Index := 384#32
  ![v1218.toNat, v1219.toNat, 384]
def k0_mult5 (k0_t3 : Fin k0_t3_loop.trips) : BitVec 32 :=
  let c32_i32_489 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1223 : BitVec 32 := Scalar.muli c32_i32_489 v1184
  v1223
def k0_off6 (k0_t2 : Fin k0_t2_loop.trips) (k0_t3 : Fin k0_t3_loop.trips) : Fin 3 → Nat :=
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1225 : Index := Scalar.indexCast v1157
  let c32_i32_489 : BitVec 32 := 32#32
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let v1223 : BitVec 32 := Scalar.muli c32_i32_489 v1184
  let v1224 : BitVec 32 := v1223
  let v1226 : Index := Scalar.indexCast v1224
  let c512_490 : Index := 512#32
  ![v1225.toNat, v1226.toNat, 512]
def k0_off7 (k0_t1 : Fin k0_t1_loop.trips) (k0_t2 : Fin k0_t2_loop.trips) : Fin 3 → Nat :=
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1276 : Index := Scalar.indexCast v1157
  let c0_i32_454 : BitVec 32 := 0#32
  let c0_i32_184 : BitVec 32 := 0#32
  let c1_i32_185 : BitVec 32 := 1#32
  let arg19 : BitVec 32 := Scf.iv c0_i32_184 c1_i32_185 k0_t1
  let c1_i32_453 : BitVec 32 := 1#32
  let v1153 : BitVec 32 := Scalar.muli arg19 c1_i32_453
  let v1154 : BitVec 32 := Scalar.addi c0_i32_454 v1153
  let v1277 : Index := Scalar.indexCast v1154
  let c0_501 : Index := 0#32
  ![v1276.toNat, v1277.toNat, 0]
def k0_mult6 (k0_t1 : Fin k0_t1_loop.trips) (k0_t3 : Fin k0_t3_loop.trips) : BitVec 32 :=
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let c16_i32_476 : BitVec 32 := 16#32
  let v1185 : BitVec 1 := Scalar.cmpi .slt v1184 c16_i32_476
  let c0_i32_454 : BitVec 32 := 0#32
  let c0_i32_184 : BitVec 32 := 0#32
  let c1_i32_185 : BitVec 32 := 1#32
  let arg19 : BitVec 32 := Scf.iv c0_i32_184 c1_i32_185 k0_t1
  let c1_i32_453 : BitVec 32 := 1#32
  let v1153 : BitVec 32 := Scalar.muli arg19 c1_i32_453
  let v1154 : BitVec 32 := Scalar.addi c0_i32_454 v1153
  let c512_i32 : BitVec 32 := 512#32
  let v1186 : BitVec 32 := Scalar.muli v1154 c512_i32
  let c32_i32_477 : BitVec 32 := 32#32
  let v1187 : BitVec 32 := Scalar.muli c32_i32_477 v1184
  let v1188 : BitVec 32 := Scalar.addi v1186 v1187
  let c4096_i32 : BitVec 32 := 4096#32
  let c64_i32_478 : BitVec 32 := 64#32
  let v1189 : BitVec 32 := Scalar.muli v1154 c64_i32_478
  let v1190 : BitVec 32 := Scalar.addi c4096_i32 v1189
  let c32_i32_480 : BitVec 32 := 32#32
  let c16_i32_479 : BitVec 32 := 16#32
  let v1191 : BitVec 32 := Scalar.subi v1184 c16_i32_479
  let v1192 : BitVec 32 := Scalar.muli c32_i32_480 v1191
  let v1193 : BitVec 32 := Scalar.addi v1190 v1192
  let v1194 : BitVec 32 := Scalar.select v1185 v1188 v1193
  v1194
def k0_mult7 (k0_t2 : Fin k0_t2_loop.trips) : BitVec 32 :=
  let c128_i32_502 : BitVec 32 := 128#32
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1284 : BitVec 32 := Scalar.muli c128_i32_502 v1157
  v1284
def k0_off8 (k0_t1 : Fin k0_t1_loop.trips) (k0_t2 : Fin k0_t2_loop.trips) (k0_t3 : Fin k0_t3_loop.trips) : Fin 2 → Nat :=
  let c0_i32_475 : BitVec 32 := 0#32
  let c0_i32_471 : BitVec 32 := 0#32
  let c1_i32_472 : BitVec 32 := 1#32
  let arg21 : BitVec 32 := Scf.iv c0_i32_471 c1_i32_472 k0_t3
  let c1_i32_474 : BitVec 32 := 1#32
  let v1183 : BitVec 32 := Scalar.muli arg21 c1_i32_474
  let v1184 : BitVec 32 := Scalar.addi c0_i32_475 v1183
  let c16_i32_476 : BitVec 32 := 16#32
  let v1185 : BitVec 1 := Scalar.cmpi .slt v1184 c16_i32_476
  let c0_i32_454 : BitVec 32 := 0#32
  let c0_i32_184 : BitVec 32 := 0#32
  let c1_i32_185 : BitVec 32 := 1#32
  let arg19 : BitVec 32 := Scf.iv c0_i32_184 c1_i32_185 k0_t1
  let c1_i32_453 : BitVec 32 := 1#32
  let v1153 : BitVec 32 := Scalar.muli arg19 c1_i32_453
  let v1154 : BitVec 32 := Scalar.addi c0_i32_454 v1153
  let c512_i32 : BitVec 32 := 512#32
  let v1186 : BitVec 32 := Scalar.muli v1154 c512_i32
  let c32_i32_477 : BitVec 32 := 32#32
  let v1187 : BitVec 32 := Scalar.muli c32_i32_477 v1184
  let v1188 : BitVec 32 := Scalar.addi v1186 v1187
  let c4096_i32 : BitVec 32 := 4096#32
  let c64_i32_478 : BitVec 32 := 64#32
  let v1189 : BitVec 32 := Scalar.muli v1154 c64_i32_478
  let v1190 : BitVec 32 := Scalar.addi c4096_i32 v1189
  let c32_i32_480 : BitVec 32 := 32#32
  let c16_i32_479 : BitVec 32 := 16#32
  let v1191 : BitVec 32 := Scalar.subi v1184 c16_i32_479
  let v1192 : BitVec 32 := Scalar.muli c32_i32_480 v1191
  let v1193 : BitVec 32 := Scalar.addi v1190 v1192
  let v1194 : BitVec 32 := Scalar.select v1185 v1188 v1193
  let v1283 : BitVec 32 := v1194
  let v1286 : Index := Scalar.indexCast v1283
  let c128_i32_502 : BitVec 32 := 128#32
  let c0_i32_460 : BitVec 32 := 0#32
  let c0_i32_455 : BitVec 32 := 0#32
  let c1_i32_457 : BitVec 32 := 1#32
  let arg20 : BitVec 32 := Scf.iv c0_i32_455 c1_i32_457 k0_t2
  let c1_i32_459 : BitVec 32 := 1#32
  let v1156 : BitVec 32 := Scalar.muli arg20 c1_i32_459
  let v1157 : BitVec 32 := Scalar.addi c0_i32_460 v1156
  let v1284 : BitVec 32 := Scalar.muli c128_i32_502 v1157
  let v1285 : BitVec 32 := v1284
  let v1287 : Index := Scalar.indexCast v1285
  ![v1286.toNat, v1287.toNat]
@[reducible] def k0_t4_loop : Scf.Loop 32 :=
  let c0_i32_220 : BitVec 32 := 0#32
  let c16_i32 : BitVec 32 := 16#32
  let v622 : BitVec 32 := Scalar.addi c0_i32_220 c16_i32
  let c1_i32_221 : BitVec 32 := 1#32
  ⟨c0_i32_220, v622, c1_i32_221⟩
def k0_mult8 (k0_t4 : Fin k0_t4_loop.trips) : BitVec 32 :=
  let c32_i32_455 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1155 : BitVec 32 := Scalar.muli c32_i32_455 v1154
  v1155
def k0_off9 (k0_t4 : Fin k0_t4_loop.trips) : Fin 3 → Nat :=
  let c0_456 : Index := 0#32
  let c32_i32_455 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1155 : BitVec 32 := Scalar.muli c32_i32_455 v1154
  let v1156 : BitVec 32 := v1155
  let v1157 : Index := Scalar.indexCast v1156
  let c0_457 : Index := 0#32
  ![0, v1157.toNat, 0]
def k0_mult9 (k0_t4 : Fin k0_t4_loop.trips) : BitVec 32 :=
  let c32_i32_458 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1161 : BitVec 32 := Scalar.muli c32_i32_458 v1154
  v1161
def k0_off10 (k0_t4 : Fin k0_t4_loop.trips) : Fin 3 → Nat :=
  let c0_459 : Index := 0#32
  let c32_i32_458 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1161 : BitVec 32 := Scalar.muli c32_i32_458 v1154
  let v1162 : BitVec 32 := v1161
  let v1163 : Index := Scalar.indexCast v1162
  let c128_460 : Index := 128#32
  ![0, v1163.toNat, 128]
def k0_mult10 (k0_t4 : Fin k0_t4_loop.trips) : BitVec 32 :=
  let c32_i32_461 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1167 : BitVec 32 := Scalar.muli c32_i32_461 v1154
  v1167
def k0_off11 (k0_t4 : Fin k0_t4_loop.trips) : Fin 3 → Nat :=
  let c0_462 : Index := 0#32
  let c32_i32_461 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1167 : BitVec 32 := Scalar.muli c32_i32_461 v1154
  let v1168 : BitVec 32 := v1167
  let v1169 : Index := Scalar.indexCast v1168
  let c256_463 : Index := 256#32
  ![0, v1169.toNat, 256]
def k0_mult11 (k0_t4 : Fin k0_t4_loop.trips) : BitVec 32 :=
  let c32_i32_464 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1173 : BitVec 32 := Scalar.muli c32_i32_464 v1154
  v1173
def k0_off12 (k0_t4 : Fin k0_t4_loop.trips) : Fin 3 → Nat :=
  let c0_465 : Index := 0#32
  let c32_i32_464 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1173 : BitVec 32 := Scalar.muli c32_i32_464 v1154
  let v1174 : BitVec 32 := v1173
  let v1175 : Index := Scalar.indexCast v1174
  let c384_466 : Index := 384#32
  ![0, v1175.toNat, 384]
def k0_mult12 (k0_t4 : Fin k0_t4_loop.trips) : BitVec 32 :=
  let c32_i32_467 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1179 : BitVec 32 := Scalar.muli c32_i32_467 v1154
  v1179
def k0_off13 (k0_t4 : Fin k0_t4_loop.trips) : Fin 3 → Nat :=
  let c0_468 : Index := 0#32
  let c32_i32_467 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1179 : BitVec 32 := Scalar.muli c32_i32_467 v1154
  let v1180 : BitVec 32 := v1179
  let v1181 : Index := Scalar.indexCast v1180
  let c512_469 : Index := 512#32
  ![0, v1181.toNat, 512]
def k0_mult13 (k0_t4 : Fin k0_t4_loop.trips) : BitVec 32 :=
  let c32_i32_480 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1229 : BitVec 32 := Scalar.muli c32_i32_480 v1154
  v1229
def k0_off14 (k0_t4 : Fin k0_t4_loop.trips) : Fin 3 → Nat :=
  let c1_481 : Index := 1#32
  let c32_i32_480 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1229 : BitVec 32 := Scalar.muli c32_i32_480 v1154
  let v1230 : BitVec 32 := v1229
  let v1231 : Index := Scalar.indexCast v1230
  let c0_482 : Index := 0#32
  ![1, v1231.toNat, 0]
def k0_mult14 (k0_t4 : Fin k0_t4_loop.trips) : BitVec 32 :=
  let c32_i32_483 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1235 : BitVec 32 := Scalar.muli c32_i32_483 v1154
  v1235
def k0_off15 (k0_t4 : Fin k0_t4_loop.trips) : Fin 3 → Nat :=
  let c1_484 : Index := 1#32
  let c32_i32_483 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1235 : BitVec 32 := Scalar.muli c32_i32_483 v1154
  let v1236 : BitVec 32 := v1235
  let v1237 : Index := Scalar.indexCast v1236
  let c128_485 : Index := 128#32
  ![1, v1237.toNat, 128]
def k0_mult15 (k0_t4 : Fin k0_t4_loop.trips) : BitVec 32 :=
  let c32_i32_486 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1241 : BitVec 32 := Scalar.muli c32_i32_486 v1154
  v1241
def k0_off16 (k0_t4 : Fin k0_t4_loop.trips) : Fin 3 → Nat :=
  let c1_487 : Index := 1#32
  let c32_i32_486 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1241 : BitVec 32 := Scalar.muli c32_i32_486 v1154
  let v1242 : BitVec 32 := v1241
  let v1243 : Index := Scalar.indexCast v1242
  let c256_488 : Index := 256#32
  ![1, v1243.toNat, 256]
def k0_mult16 (k0_t4 : Fin k0_t4_loop.trips) : BitVec 32 :=
  let c32_i32_489 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1247 : BitVec 32 := Scalar.muli c32_i32_489 v1154
  v1247
def k0_off17 (k0_t4 : Fin k0_t4_loop.trips) : Fin 3 → Nat :=
  let c1_490 : Index := 1#32
  let c32_i32_489 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1247 : BitVec 32 := Scalar.muli c32_i32_489 v1154
  let v1248 : BitVec 32 := v1247
  let v1249 : Index := Scalar.indexCast v1248
  let c384_491 : Index := 384#32
  ![1, v1249.toNat, 384]
def k0_mult17 (k0_t4 : Fin k0_t4_loop.trips) : BitVec 32 :=
  let c32_i32_492 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1253 : BitVec 32 := Scalar.muli c32_i32_492 v1154
  v1253
def k0_off18 (k0_t4 : Fin k0_t4_loop.trips) : Fin 3 → Nat :=
  let c1_493 : Index := 1#32
  let c32_i32_492 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1253 : BitVec 32 := Scalar.muli c32_i32_492 v1154
  let v1254 : BitVec 32 := v1253
  let v1255 : Index := Scalar.indexCast v1254
  let c512_494 : Index := 512#32
  ![1, v1255.toNat, 512]
def k0_mult18 (k0_t4 : Fin k0_t4_loop.trips) : BitVec 32 :=
  let c32_i32_505 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1303 : BitVec 32 := Scalar.muli c32_i32_505 v1154
  v1303
def k0_off19 (k0_t4 : Fin k0_t4_loop.trips) : Fin 3 → Nat :=
  let c2_506 : Index := 2#32
  let c32_i32_505 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1303 : BitVec 32 := Scalar.muli c32_i32_505 v1154
  let v1304 : BitVec 32 := v1303
  let v1305 : Index := Scalar.indexCast v1304
  let c0_507 : Index := 0#32
  ![2, v1305.toNat, 0]
def k0_mult19 (k0_t4 : Fin k0_t4_loop.trips) : BitVec 32 :=
  let c32_i32_508 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1309 : BitVec 32 := Scalar.muli c32_i32_508 v1154
  v1309
def k0_off20 (k0_t4 : Fin k0_t4_loop.trips) : Fin 3 → Nat :=
  let c2_509 : Index := 2#32
  let c32_i32_508 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1309 : BitVec 32 := Scalar.muli c32_i32_508 v1154
  let v1310 : BitVec 32 := v1309
  let v1311 : Index := Scalar.indexCast v1310
  let c128_510 : Index := 128#32
  ![2, v1311.toNat, 128]
def k0_mult20 (k0_t4 : Fin k0_t4_loop.trips) : BitVec 32 :=
  let c32_i32_511 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1315 : BitVec 32 := Scalar.muli c32_i32_511 v1154
  v1315
def k0_off21 (k0_t4 : Fin k0_t4_loop.trips) : Fin 3 → Nat :=
  let c2_512 : Index := 2#32
  let c32_i32_511 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1315 : BitVec 32 := Scalar.muli c32_i32_511 v1154
  let v1316 : BitVec 32 := v1315
  let v1317 : Index := Scalar.indexCast v1316
  let c256_513 : Index := 256#32
  ![2, v1317.toNat, 256]
def k0_mult21 (k0_t4 : Fin k0_t4_loop.trips) : BitVec 32 :=
  let c32_i32_514 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1321 : BitVec 32 := Scalar.muli c32_i32_514 v1154
  v1321
def k0_off22 (k0_t4 : Fin k0_t4_loop.trips) : Fin 3 → Nat :=
  let c2_515 : Index := 2#32
  let c32_i32_514 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1321 : BitVec 32 := Scalar.muli c32_i32_514 v1154
  let v1322 : BitVec 32 := v1321
  let v1323 : Index := Scalar.indexCast v1322
  let c384_516 : Index := 384#32
  ![2, v1323.toNat, 384]
def k0_mult22 (k0_t4 : Fin k0_t4_loop.trips) : BitVec 32 :=
  let c32_i32_517 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1327 : BitVec 32 := Scalar.muli c32_i32_517 v1154
  v1327
def k0_off23 (k0_t4 : Fin k0_t4_loop.trips) : Fin 3 → Nat :=
  let c2_518 : Index := 2#32
  let c32_i32_517 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1327 : BitVec 32 := Scalar.muli c32_i32_517 v1154
  let v1328 : BitVec 32 := v1327
  let v1329 : Index := Scalar.indexCast v1328
  let c512_519 : Index := 512#32
  ![2, v1329.toNat, 512]
def k0_mult23 (k0_t4 : Fin k0_t4_loop.trips) : BitVec 32 :=
  let c0_i32_535 : BitVec 32 := 0#32
  let c32_i32_534 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1389 : BitVec 32 := Scalar.muli c32_i32_534 v1154
  let v1390 : BitVec 32 := Scalar.addi c0_i32_535 v1389
  v1390
def k0_mult24 : BitVec 32 :=
  let c384_i32 : BitVec 32 := 384#32
  c384_i32
def k0_off24 (k0_t4 : Fin k0_t4_loop.trips) (c0_i32_535 : BitVec 32) : Fin 2 → Nat :=
  let c32_i32_534 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1389 : BitVec 32 := Scalar.muli c32_i32_534 v1154
  let v1390 : BitVec 32 := Scalar.addi c0_i32_535 v1389
  let v1398 : BitVec 32 := v1390
  let v1400 : Index := Scalar.indexCast v1398
  let c384_i32 : BitVec 32 := 384#32
  let v1399 : BitVec 32 := c384_i32
  let v1401 : Index := Scalar.indexCast v1399
  ![v1400.toNat, 384]
def k0_mult25 (k0_t4 : Fin k0_t4_loop.trips) : BitVec 32 :=
  let c512_i32 : BitVec 32 := 512#32
  let c32_i32_544 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1418 : BitVec 32 := Scalar.muli c32_i32_544 v1154
  let v1419 : BitVec 32 := Scalar.addi c512_i32 v1418
  v1419
def k0_mult26 : BitVec 32 :=
  let c384_i32_548 : BitVec 32 := 384#32
  c384_i32_548
def k0_mult27 (k0_t4 : Fin k0_t4_loop.trips) : BitVec 32 :=
  let c1024_i32 : BitVec 32 := 1024#32
  let c32_i32_554 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1447 : BitVec 32 := Scalar.muli c32_i32_554 v1154
  let v1448 : BitVec 32 := Scalar.addi c1024_i32 v1447
  v1448
def k0_mult28 : BitVec 32 :=
  let c384_i32_558 : BitVec 32 := 384#32
  c384_i32_558
def k0_mult29 (k0_t4 : Fin k0_t4_loop.trips) : BitVec 32 :=
  let c1536_i32 : BitVec 32 := 1536#32
  let c32_i32_564 : BitVec 32 := 32#32
  let c0_i32_454 : BitVec 32 := 0#32
  let c0_i32_220 : BitVec 32 := 0#32
  let c1_i32_221 : BitVec 32 := 1#32
  let arg19 : BitVec 32 := Scf.iv c0_i32_220 c1_i32_221 k0_t4
  let c1_i32_453 : BitVec 32 := 1#32
  let v1153 : BitVec 32 := Scalar.muli arg19 c1_i32_453
  let v1154 : BitVec 32 := Scalar.addi c0_i32_454 v1153
  let v1476 : BitVec 32 := Scalar.muli c32_i32_564 v1154
  let v1477 : BitVec 32 := Scalar.addi c1536_i32 v1476
  v1477
def k0_mult30 : BitVec 32 :=
  let c384_i32_568 : BitVec 32 := 384#32
  c384_i32_568
@[reducible] def k0_t5_loop : Scf.Loop 32 :=
  let c0_i32_223 : BitVec 32 := 0#32
  let c2_i32_224 : BitVec 32 := 2#32
  let v623 : BitVec 32 := Scalar.addi c0_i32_223 c2_i32_224
  let c1_i32_225 : BitVec 32 := 1#32
  ⟨c0_i32_223, v623, c1_i32_225⟩
def k0_mult31 (k0_t5 : Fin k0_t5_loop.trips) : BitVec 32 :=
  let c32_i32_455 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1155 : BitVec 32 := Scalar.muli c32_i32_455 v1154
  v1155
def k0_off25 (k0_t5 : Fin k0_t5_loop.trips) : Fin 3 → Nat :=
  let c0_456 : Index := 0#32
  let c32_i32_455 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1155 : BitVec 32 := Scalar.muli c32_i32_455 v1154
  let v1156 : BitVec 32 := v1155
  let v1157 : Index := Scalar.indexCast v1156
  let c0_457 : Index := 0#32
  ![0, v1157.toNat, 0]
def k0_mult32 (k0_t5 : Fin k0_t5_loop.trips) : BitVec 32 :=
  let c32_i32_458 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1161 : BitVec 32 := Scalar.muli c32_i32_458 v1154
  v1161
def k0_off26 (k0_t5 : Fin k0_t5_loop.trips) : Fin 3 → Nat :=
  let c0_459 : Index := 0#32
  let c32_i32_458 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1161 : BitVec 32 := Scalar.muli c32_i32_458 v1154
  let v1162 : BitVec 32 := v1161
  let v1163 : Index := Scalar.indexCast v1162
  let c128_460 : Index := 128#32
  ![0, v1163.toNat, 128]
def k0_mult33 (k0_t5 : Fin k0_t5_loop.trips) : BitVec 32 :=
  let c32_i32_461 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1167 : BitVec 32 := Scalar.muli c32_i32_461 v1154
  v1167
def k0_off27 (k0_t5 : Fin k0_t5_loop.trips) : Fin 3 → Nat :=
  let c0_462 : Index := 0#32
  let c32_i32_461 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1167 : BitVec 32 := Scalar.muli c32_i32_461 v1154
  let v1168 : BitVec 32 := v1167
  let v1169 : Index := Scalar.indexCast v1168
  let c256_463 : Index := 256#32
  ![0, v1169.toNat, 256]
def k0_mult34 (k0_t5 : Fin k0_t5_loop.trips) : BitVec 32 :=
  let c32_i32_464 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1173 : BitVec 32 := Scalar.muli c32_i32_464 v1154
  v1173
def k0_off28 (k0_t5 : Fin k0_t5_loop.trips) : Fin 3 → Nat :=
  let c0_465 : Index := 0#32
  let c32_i32_464 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1173 : BitVec 32 := Scalar.muli c32_i32_464 v1154
  let v1174 : BitVec 32 := v1173
  let v1175 : Index := Scalar.indexCast v1174
  let c384_466 : Index := 384#32
  ![0, v1175.toNat, 384]
def k0_mult35 (k0_t5 : Fin k0_t5_loop.trips) : BitVec 32 :=
  let c32_i32_467 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1179 : BitVec 32 := Scalar.muli c32_i32_467 v1154
  v1179
def k0_off29 (k0_t5 : Fin k0_t5_loop.trips) : Fin 3 → Nat :=
  let c0_468 : Index := 0#32
  let c32_i32_467 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1179 : BitVec 32 := Scalar.muli c32_i32_467 v1154
  let v1180 : BitVec 32 := v1179
  let v1181 : Index := Scalar.indexCast v1180
  let c512_469 : Index := 512#32
  ![0, v1181.toNat, 512]
def k0_mult36 (k0_t5 : Fin k0_t5_loop.trips) : BitVec 32 :=
  let c32_i32_480 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1229 : BitVec 32 := Scalar.muli c32_i32_480 v1154
  v1229
def k0_off30 (k0_t5 : Fin k0_t5_loop.trips) : Fin 3 → Nat :=
  let c1_481 : Index := 1#32
  let c32_i32_480 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1229 : BitVec 32 := Scalar.muli c32_i32_480 v1154
  let v1230 : BitVec 32 := v1229
  let v1231 : Index := Scalar.indexCast v1230
  let c0_482 : Index := 0#32
  ![1, v1231.toNat, 0]
def k0_mult37 (k0_t5 : Fin k0_t5_loop.trips) : BitVec 32 :=
  let c32_i32_483 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1235 : BitVec 32 := Scalar.muli c32_i32_483 v1154
  v1235
def k0_off31 (k0_t5 : Fin k0_t5_loop.trips) : Fin 3 → Nat :=
  let c1_484 : Index := 1#32
  let c32_i32_483 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1235 : BitVec 32 := Scalar.muli c32_i32_483 v1154
  let v1236 : BitVec 32 := v1235
  let v1237 : Index := Scalar.indexCast v1236
  let c128_485 : Index := 128#32
  ![1, v1237.toNat, 128]
def k0_mult38 (k0_t5 : Fin k0_t5_loop.trips) : BitVec 32 :=
  let c32_i32_486 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1241 : BitVec 32 := Scalar.muli c32_i32_486 v1154
  v1241
def k0_off32 (k0_t5 : Fin k0_t5_loop.trips) : Fin 3 → Nat :=
  let c1_487 : Index := 1#32
  let c32_i32_486 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1241 : BitVec 32 := Scalar.muli c32_i32_486 v1154
  let v1242 : BitVec 32 := v1241
  let v1243 : Index := Scalar.indexCast v1242
  let c256_488 : Index := 256#32
  ![1, v1243.toNat, 256]
def k0_mult39 (k0_t5 : Fin k0_t5_loop.trips) : BitVec 32 :=
  let c32_i32_489 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1247 : BitVec 32 := Scalar.muli c32_i32_489 v1154
  v1247
def k0_off33 (k0_t5 : Fin k0_t5_loop.trips) : Fin 3 → Nat :=
  let c1_490 : Index := 1#32
  let c32_i32_489 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1247 : BitVec 32 := Scalar.muli c32_i32_489 v1154
  let v1248 : BitVec 32 := v1247
  let v1249 : Index := Scalar.indexCast v1248
  let c384_491 : Index := 384#32
  ![1, v1249.toNat, 384]
def k0_mult40 (k0_t5 : Fin k0_t5_loop.trips) : BitVec 32 :=
  let c32_i32_492 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1253 : BitVec 32 := Scalar.muli c32_i32_492 v1154
  v1253
def k0_off34 (k0_t5 : Fin k0_t5_loop.trips) : Fin 3 → Nat :=
  let c1_493 : Index := 1#32
  let c32_i32_492 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1253 : BitVec 32 := Scalar.muli c32_i32_492 v1154
  let v1254 : BitVec 32 := v1253
  let v1255 : Index := Scalar.indexCast v1254
  let c512_494 : Index := 512#32
  ![1, v1255.toNat, 512]
def k0_mult41 (k0_t5 : Fin k0_t5_loop.trips) : BitVec 32 :=
  let c32_i32_505 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1303 : BitVec 32 := Scalar.muli c32_i32_505 v1154
  v1303
def k0_off35 (k0_t5 : Fin k0_t5_loop.trips) : Fin 3 → Nat :=
  let c2_506 : Index := 2#32
  let c32_i32_505 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1303 : BitVec 32 := Scalar.muli c32_i32_505 v1154
  let v1304 : BitVec 32 := v1303
  let v1305 : Index := Scalar.indexCast v1304
  let c0_507 : Index := 0#32
  ![2, v1305.toNat, 0]
def k0_mult42 (k0_t5 : Fin k0_t5_loop.trips) : BitVec 32 :=
  let c32_i32_508 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1309 : BitVec 32 := Scalar.muli c32_i32_508 v1154
  v1309
def k0_off36 (k0_t5 : Fin k0_t5_loop.trips) : Fin 3 → Nat :=
  let c2_509 : Index := 2#32
  let c32_i32_508 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1309 : BitVec 32 := Scalar.muli c32_i32_508 v1154
  let v1310 : BitVec 32 := v1309
  let v1311 : Index := Scalar.indexCast v1310
  let c128_510 : Index := 128#32
  ![2, v1311.toNat, 128]
def k0_mult43 (k0_t5 : Fin k0_t5_loop.trips) : BitVec 32 :=
  let c32_i32_511 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1315 : BitVec 32 := Scalar.muli c32_i32_511 v1154
  v1315
def k0_off37 (k0_t5 : Fin k0_t5_loop.trips) : Fin 3 → Nat :=
  let c2_512 : Index := 2#32
  let c32_i32_511 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1315 : BitVec 32 := Scalar.muli c32_i32_511 v1154
  let v1316 : BitVec 32 := v1315
  let v1317 : Index := Scalar.indexCast v1316
  let c256_513 : Index := 256#32
  ![2, v1317.toNat, 256]
def k0_mult44 (k0_t5 : Fin k0_t5_loop.trips) : BitVec 32 :=
  let c32_i32_514 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1321 : BitVec 32 := Scalar.muli c32_i32_514 v1154
  v1321
def k0_off38 (k0_t5 : Fin k0_t5_loop.trips) : Fin 3 → Nat :=
  let c2_515 : Index := 2#32
  let c32_i32_514 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1321 : BitVec 32 := Scalar.muli c32_i32_514 v1154
  let v1322 : BitVec 32 := v1321
  let v1323 : Index := Scalar.indexCast v1322
  let c384_516 : Index := 384#32
  ![2, v1323.toNat, 384]
def k0_mult45 (k0_t5 : Fin k0_t5_loop.trips) : BitVec 32 :=
  let c32_i32_517 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1327 : BitVec 32 := Scalar.muli c32_i32_517 v1154
  v1327
def k0_off39 (k0_t5 : Fin k0_t5_loop.trips) : Fin 3 → Nat :=
  let c2_518 : Index := 2#32
  let c32_i32_517 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let v1327 : BitVec 32 := Scalar.muli c32_i32_517 v1154
  let v1328 : BitVec 32 := v1327
  let v1329 : Index := Scalar.indexCast v1328
  let c512_519 : Index := 512#32
  ![2, v1329.toNat, 512]
def k0_mult46 (k0_t5 : Fin k0_t5_loop.trips) : BitVec 32 :=
  let c4096_i32 : BitVec 32 := 4096#32
  let c32_i32_535 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let c16_i32_534 : BitVec 32 := 16#32
  let v1389 : BitVec 32 := Scalar.subi v1154 c16_i32_534
  let v1390 : BitVec 32 := Scalar.muli c32_i32_535 v1389
  let v1391 : BitVec 32 := Scalar.addi c4096_i32 v1390
  v1391
def k0_mult47 : BitVec 32 :=
  let c384_i32 : BitVec 32 := 384#32
  c384_i32
def k0_off40 (k0_t5 : Fin k0_t5_loop.trips) (c4096_i32 : BitVec 32) : Fin 2 → Nat :=
  let c32_i32_535 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let c16_i32_534 : BitVec 32 := 16#32
  let v1389 : BitVec 32 := Scalar.subi v1154 c16_i32_534
  let v1390 : BitVec 32 := Scalar.muli c32_i32_535 v1389
  let v1391 : BitVec 32 := Scalar.addi c4096_i32 v1390
  let v1399 : BitVec 32 := v1391
  let v1401 : Index := Scalar.indexCast v1399
  let c384_i32 : BitVec 32 := 384#32
  let v1400 : BitVec 32 := c384_i32
  let v1402 : Index := Scalar.indexCast v1400
  ![v1401.toNat, 384]
def k0_mult48 (k0_t5 : Fin k0_t5_loop.trips) : BitVec 32 :=
  let c4160_i32 : BitVec 32 := 4160#32
  let c32_i32_545 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let c16_i32_544 : BitVec 32 := 16#32
  let v1419 : BitVec 32 := Scalar.subi v1154 c16_i32_544
  let v1420 : BitVec 32 := Scalar.muli c32_i32_545 v1419
  let v1421 : BitVec 32 := Scalar.addi c4160_i32 v1420
  v1421
def k0_mult49 : BitVec 32 :=
  let c384_i32_549 : BitVec 32 := 384#32
  c384_i32_549
def k0_mult50 (k0_t5 : Fin k0_t5_loop.trips) : BitVec 32 :=
  let c4224_i32 : BitVec 32 := 4224#32
  let c32_i32_556 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let c16_i32_555 : BitVec 32 := 16#32
  let v1449 : BitVec 32 := Scalar.subi v1154 c16_i32_555
  let v1450 : BitVec 32 := Scalar.muli c32_i32_556 v1449
  let v1451 : BitVec 32 := Scalar.addi c4224_i32 v1450
  v1451
def k0_mult51 : BitVec 32 :=
  let c384_i32_560 : BitVec 32 := 384#32
  c384_i32_560
def k0_mult52 (k0_t5 : Fin k0_t5_loop.trips) : BitVec 32 :=
  let c4288_i32 : BitVec 32 := 4288#32
  let c32_i32_567 : BitVec 32 := 32#32
  let c16_i32_454 : BitVec 32 := 16#32
  let c0_i32_223 : BitVec 32 := 0#32
  let c1_i32_225 : BitVec 32 := 1#32
  let arg19 : BitVec 32 := Scf.iv c0_i32_223 c1_i32_225 k0_t5
  let c1_i32_453 : BitVec 32 := 1#32
  let v1153 : BitVec 32 := Scalar.muli arg19 c1_i32_453
  let v1154 : BitVec 32 := Scalar.addi c16_i32_454 v1153
  let c16_i32_566 : BitVec 32 := 16#32
  let v1479 : BitVec 32 := Scalar.subi v1154 c16_i32_566
  let v1480 : BitVec 32 := Scalar.muli c32_i32_567 v1479
  let v1481 : BitVec 32 := Scalar.addi c4288_i32 v1480
  v1481
def k0_mult53 : BitVec 32 :=
  let c384_i32_571 : BitVec 32 := 384#32
  c384_i32_571
@[reducible] def k0_t6_loop : Scf.Loop 32 :=
  let c0_i32_260 : BitVec 32 := 0#32
  let c16_i32_261 : BitVec 32 := 16#32
  let v735 : BitVec 32 := Scalar.addi c0_i32_260 c16_i32_261
  let c1_i32_262 : BitVec 32 := 1#32
  ⟨c0_i32_260, v735, c1_i32_262⟩
def k0_mult54 (k0_t6 : Fin k0_t6_loop.trips) : BitVec 32 :=
  let c32_i32_455 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1155 : BitVec 32 := Scalar.muli c32_i32_455 v1154
  v1155
def k0_off41 (k0_t6 : Fin k0_t6_loop.trips) : Fin 3 → Nat :=
  let c0_456 : Index := 0#32
  let c32_i32_455 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1155 : BitVec 32 := Scalar.muli c32_i32_455 v1154
  let v1156 : BitVec 32 := v1155
  let v1157 : Index := Scalar.indexCast v1156
  let c0_457 : Index := 0#32
  ![0, v1157.toNat, 0]
def k0_mult55 (k0_t6 : Fin k0_t6_loop.trips) : BitVec 32 :=
  let c32_i32_458 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1161 : BitVec 32 := Scalar.muli c32_i32_458 v1154
  v1161
def k0_off42 (k0_t6 : Fin k0_t6_loop.trips) : Fin 3 → Nat :=
  let c0_459 : Index := 0#32
  let c32_i32_458 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1161 : BitVec 32 := Scalar.muli c32_i32_458 v1154
  let v1162 : BitVec 32 := v1161
  let v1163 : Index := Scalar.indexCast v1162
  let c128_460 : Index := 128#32
  ![0, v1163.toNat, 128]
def k0_mult56 (k0_t6 : Fin k0_t6_loop.trips) : BitVec 32 :=
  let c32_i32_461 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1167 : BitVec 32 := Scalar.muli c32_i32_461 v1154
  v1167
def k0_off43 (k0_t6 : Fin k0_t6_loop.trips) : Fin 3 → Nat :=
  let c0_462 : Index := 0#32
  let c32_i32_461 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1167 : BitVec 32 := Scalar.muli c32_i32_461 v1154
  let v1168 : BitVec 32 := v1167
  let v1169 : Index := Scalar.indexCast v1168
  let c256_463 : Index := 256#32
  ![0, v1169.toNat, 256]
def k0_mult57 (k0_t6 : Fin k0_t6_loop.trips) : BitVec 32 :=
  let c32_i32_464 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1173 : BitVec 32 := Scalar.muli c32_i32_464 v1154
  v1173
def k0_off44 (k0_t6 : Fin k0_t6_loop.trips) : Fin 3 → Nat :=
  let c0_465 : Index := 0#32
  let c32_i32_464 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1173 : BitVec 32 := Scalar.muli c32_i32_464 v1154
  let v1174 : BitVec 32 := v1173
  let v1175 : Index := Scalar.indexCast v1174
  let c384_466 : Index := 384#32
  ![0, v1175.toNat, 384]
def k0_mult58 (k0_t6 : Fin k0_t6_loop.trips) : BitVec 32 :=
  let c32_i32_467 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1179 : BitVec 32 := Scalar.muli c32_i32_467 v1154
  v1179
def k0_off45 (k0_t6 : Fin k0_t6_loop.trips) : Fin 3 → Nat :=
  let c0_468 : Index := 0#32
  let c32_i32_467 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1179 : BitVec 32 := Scalar.muli c32_i32_467 v1154
  let v1180 : BitVec 32 := v1179
  let v1181 : Index := Scalar.indexCast v1180
  let c512_469 : Index := 512#32
  ![0, v1181.toNat, 512]
def k0_mult59 (k0_t6 : Fin k0_t6_loop.trips) : BitVec 32 :=
  let c32_i32_480 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1229 : BitVec 32 := Scalar.muli c32_i32_480 v1154
  v1229
def k0_off46 (k0_t6 : Fin k0_t6_loop.trips) : Fin 3 → Nat :=
  let c1_481 : Index := 1#32
  let c32_i32_480 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1229 : BitVec 32 := Scalar.muli c32_i32_480 v1154
  let v1230 : BitVec 32 := v1229
  let v1231 : Index := Scalar.indexCast v1230
  let c0_482 : Index := 0#32
  ![1, v1231.toNat, 0]
def k0_mult60 (k0_t6 : Fin k0_t6_loop.trips) : BitVec 32 :=
  let c32_i32_483 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1235 : BitVec 32 := Scalar.muli c32_i32_483 v1154
  v1235
def k0_off47 (k0_t6 : Fin k0_t6_loop.trips) : Fin 3 → Nat :=
  let c1_484 : Index := 1#32
  let c32_i32_483 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1235 : BitVec 32 := Scalar.muli c32_i32_483 v1154
  let v1236 : BitVec 32 := v1235
  let v1237 : Index := Scalar.indexCast v1236
  let c128_485 : Index := 128#32
  ![1, v1237.toNat, 128]
def k0_mult61 (k0_t6 : Fin k0_t6_loop.trips) : BitVec 32 :=
  let c32_i32_486 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1241 : BitVec 32 := Scalar.muli c32_i32_486 v1154
  v1241
def k0_off48 (k0_t6 : Fin k0_t6_loop.trips) : Fin 3 → Nat :=
  let c1_487 : Index := 1#32
  let c32_i32_486 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1241 : BitVec 32 := Scalar.muli c32_i32_486 v1154
  let v1242 : BitVec 32 := v1241
  let v1243 : Index := Scalar.indexCast v1242
  let c256_488 : Index := 256#32
  ![1, v1243.toNat, 256]
def k0_mult62 (k0_t6 : Fin k0_t6_loop.trips) : BitVec 32 :=
  let c32_i32_489 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1247 : BitVec 32 := Scalar.muli c32_i32_489 v1154
  v1247
def k0_off49 (k0_t6 : Fin k0_t6_loop.trips) : Fin 3 → Nat :=
  let c1_490 : Index := 1#32
  let c32_i32_489 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1247 : BitVec 32 := Scalar.muli c32_i32_489 v1154
  let v1248 : BitVec 32 := v1247
  let v1249 : Index := Scalar.indexCast v1248
  let c384_491 : Index := 384#32
  ![1, v1249.toNat, 384]
def k0_mult63 (k0_t6 : Fin k0_t6_loop.trips) : BitVec 32 :=
  let c32_i32_492 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1253 : BitVec 32 := Scalar.muli c32_i32_492 v1154
  v1253
def k0_off50 (k0_t6 : Fin k0_t6_loop.trips) : Fin 3 → Nat :=
  let c1_493 : Index := 1#32
  let c32_i32_492 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1253 : BitVec 32 := Scalar.muli c32_i32_492 v1154
  let v1254 : BitVec 32 := v1253
  let v1255 : Index := Scalar.indexCast v1254
  let c512_494 : Index := 512#32
  ![1, v1255.toNat, 512]
def k0_mult64 (k0_t6 : Fin k0_t6_loop.trips) : BitVec 32 :=
  let c32_i32_505 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1303 : BitVec 32 := Scalar.muli c32_i32_505 v1154
  v1303
def k0_off51 (k0_t6 : Fin k0_t6_loop.trips) : Fin 3 → Nat :=
  let c2_506 : Index := 2#32
  let c32_i32_505 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1303 : BitVec 32 := Scalar.muli c32_i32_505 v1154
  let v1304 : BitVec 32 := v1303
  let v1305 : Index := Scalar.indexCast v1304
  let c0_507 : Index := 0#32
  ![2, v1305.toNat, 0]
def k0_mult65 (k0_t6 : Fin k0_t6_loop.trips) : BitVec 32 :=
  let c32_i32_508 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1309 : BitVec 32 := Scalar.muli c32_i32_508 v1154
  v1309
def k0_off52 (k0_t6 : Fin k0_t6_loop.trips) : Fin 3 → Nat :=
  let c2_509 : Index := 2#32
  let c32_i32_508 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1309 : BitVec 32 := Scalar.muli c32_i32_508 v1154
  let v1310 : BitVec 32 := v1309
  let v1311 : Index := Scalar.indexCast v1310
  let c128_510 : Index := 128#32
  ![2, v1311.toNat, 128]
def k0_mult66 (k0_t6 : Fin k0_t6_loop.trips) : BitVec 32 :=
  let c32_i32_511 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1315 : BitVec 32 := Scalar.muli c32_i32_511 v1154
  v1315
def k0_off53 (k0_t6 : Fin k0_t6_loop.trips) : Fin 3 → Nat :=
  let c2_512 : Index := 2#32
  let c32_i32_511 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1315 : BitVec 32 := Scalar.muli c32_i32_511 v1154
  let v1316 : BitVec 32 := v1315
  let v1317 : Index := Scalar.indexCast v1316
  let c256_513 : Index := 256#32
  ![2, v1317.toNat, 256]
def k0_mult67 (k0_t6 : Fin k0_t6_loop.trips) : BitVec 32 :=
  let c32_i32_514 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1321 : BitVec 32 := Scalar.muli c32_i32_514 v1154
  v1321
def k0_off54 (k0_t6 : Fin k0_t6_loop.trips) : Fin 3 → Nat :=
  let c2_515 : Index := 2#32
  let c32_i32_514 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1321 : BitVec 32 := Scalar.muli c32_i32_514 v1154
  let v1322 : BitVec 32 := v1321
  let v1323 : Index := Scalar.indexCast v1322
  let c384_516 : Index := 384#32
  ![2, v1323.toNat, 384]
def k0_mult68 (k0_t6 : Fin k0_t6_loop.trips) : BitVec 32 :=
  let c32_i32_517 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1327 : BitVec 32 := Scalar.muli c32_i32_517 v1154
  v1327
def k0_off55 (k0_t6 : Fin k0_t6_loop.trips) : Fin 3 → Nat :=
  let c2_518 : Index := 2#32
  let c32_i32_517 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1327 : BitVec 32 := Scalar.muli c32_i32_517 v1154
  let v1328 : BitVec 32 := v1327
  let v1329 : Index := Scalar.indexCast v1328
  let c512_519 : Index := 512#32
  ![2, v1329.toNat, 512]
def k0_mult69 (k0_t6 : Fin k0_t6_loop.trips) : BitVec 32 :=
  let c2048_i32 : BitVec 32 := 2048#32
  let c32_i32_534 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1389 : BitVec 32 := Scalar.muli c32_i32_534 v1154
  let v1390 : BitVec 32 := Scalar.addi c2048_i32 v1389
  v1390
def k0_mult70 : BitVec 32 :=
  let c384_i32 : BitVec 32 := 384#32
  c384_i32
def k0_off56 (k0_t6 : Fin k0_t6_loop.trips) (c2048_i32 : BitVec 32) : Fin 2 → Nat :=
  let c32_i32_534 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1389 : BitVec 32 := Scalar.muli c32_i32_534 v1154
  let v1390 : BitVec 32 := Scalar.addi c2048_i32 v1389
  let v1398 : BitVec 32 := v1390
  let v1400 : Index := Scalar.indexCast v1398
  let c384_i32 : BitVec 32 := 384#32
  let v1399 : BitVec 32 := c384_i32
  let v1401 : Index := Scalar.indexCast v1399
  ![v1400.toNat, 384]
def k0_mult71 (k0_t6 : Fin k0_t6_loop.trips) : BitVec 32 :=
  let c2560_i32 : BitVec 32 := 2560#32
  let c32_i32_543 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1418 : BitVec 32 := Scalar.muli c32_i32_543 v1154
  let v1419 : BitVec 32 := Scalar.addi c2560_i32 v1418
  v1419
def k0_mult72 : BitVec 32 :=
  let c384_i32_547 : BitVec 32 := 384#32
  c384_i32_547
def k0_mult73 (k0_t6 : Fin k0_t6_loop.trips) : BitVec 32 :=
  let c3072_i32 : BitVec 32 := 3072#32
  let c32_i32_553 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1447 : BitVec 32 := Scalar.muli c32_i32_553 v1154
  let v1448 : BitVec 32 := Scalar.addi c3072_i32 v1447
  v1448
def k0_mult74 : BitVec 32 :=
  let c384_i32_557 : BitVec 32 := 384#32
  c384_i32_557
def k0_mult75 (k0_t6 : Fin k0_t6_loop.trips) : BitVec 32 :=
  let c3584_i32 : BitVec 32 := 3584#32
  let c32_i32_563 : BitVec 32 := 32#32
  let c0_i32_454 : BitVec 32 := 0#32
  let c0_i32_260 : BitVec 32 := 0#32
  let c1_i32_262 : BitVec 32 := 1#32
  let arg19 : BitVec 32 := Scf.iv c0_i32_260 c1_i32_262 k0_t6
  let c1_i32_453 : BitVec 32 := 1#32
  let v1153 : BitVec 32 := Scalar.muli arg19 c1_i32_453
  let v1154 : BitVec 32 := Scalar.addi c0_i32_454 v1153
  let v1476 : BitVec 32 := Scalar.muli c32_i32_563 v1154
  let v1477 : BitVec 32 := Scalar.addi c3584_i32 v1476
  v1477
def k0_mult76 : BitVec 32 :=
  let c384_i32_567 : BitVec 32 := 384#32
  c384_i32_567
@[reducible] def k0_t7_loop : Scf.Loop 32 :=
  let c0_i32_264 : BitVec 32 := 0#32
  let c2_i32_265 : BitVec 32 := 2#32
  let v736 : BitVec 32 := Scalar.addi c0_i32_264 c2_i32_265
  let c1_i32_266 : BitVec 32 := 1#32
  ⟨c0_i32_264, v736, c1_i32_266⟩
def k0_mult77 (k0_t7 : Fin k0_t7_loop.trips) : BitVec 32 :=
  let c32_i32_455 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1155 : BitVec 32 := Scalar.muli c32_i32_455 v1154
  v1155
def k0_off57 (k0_t7 : Fin k0_t7_loop.trips) : Fin 3 → Nat :=
  let c0_456 : Index := 0#32
  let c32_i32_455 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1155 : BitVec 32 := Scalar.muli c32_i32_455 v1154
  let v1156 : BitVec 32 := v1155
  let v1157 : Index := Scalar.indexCast v1156
  let c0_457 : Index := 0#32
  ![0, v1157.toNat, 0]
def k0_mult78 (k0_t7 : Fin k0_t7_loop.trips) : BitVec 32 :=
  let c32_i32_458 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1161 : BitVec 32 := Scalar.muli c32_i32_458 v1154
  v1161
def k0_off58 (k0_t7 : Fin k0_t7_loop.trips) : Fin 3 → Nat :=
  let c0_459 : Index := 0#32
  let c32_i32_458 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1161 : BitVec 32 := Scalar.muli c32_i32_458 v1154
  let v1162 : BitVec 32 := v1161
  let v1163 : Index := Scalar.indexCast v1162
  let c128_460 : Index := 128#32
  ![0, v1163.toNat, 128]
def k0_mult79 (k0_t7 : Fin k0_t7_loop.trips) : BitVec 32 :=
  let c32_i32_461 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1167 : BitVec 32 := Scalar.muli c32_i32_461 v1154
  v1167
def k0_off59 (k0_t7 : Fin k0_t7_loop.trips) : Fin 3 → Nat :=
  let c0_462 : Index := 0#32
  let c32_i32_461 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1167 : BitVec 32 := Scalar.muli c32_i32_461 v1154
  let v1168 : BitVec 32 := v1167
  let v1169 : Index := Scalar.indexCast v1168
  let c256_463 : Index := 256#32
  ![0, v1169.toNat, 256]
def k0_mult80 (k0_t7 : Fin k0_t7_loop.trips) : BitVec 32 :=
  let c32_i32_464 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1173 : BitVec 32 := Scalar.muli c32_i32_464 v1154
  v1173
def k0_off60 (k0_t7 : Fin k0_t7_loop.trips) : Fin 3 → Nat :=
  let c0_465 : Index := 0#32
  let c32_i32_464 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1173 : BitVec 32 := Scalar.muli c32_i32_464 v1154
  let v1174 : BitVec 32 := v1173
  let v1175 : Index := Scalar.indexCast v1174
  let c384_466 : Index := 384#32
  ![0, v1175.toNat, 384]
def k0_mult81 (k0_t7 : Fin k0_t7_loop.trips) : BitVec 32 :=
  let c32_i32_467 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1179 : BitVec 32 := Scalar.muli c32_i32_467 v1154
  v1179
def k0_off61 (k0_t7 : Fin k0_t7_loop.trips) : Fin 3 → Nat :=
  let c0_468 : Index := 0#32
  let c32_i32_467 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1179 : BitVec 32 := Scalar.muli c32_i32_467 v1154
  let v1180 : BitVec 32 := v1179
  let v1181 : Index := Scalar.indexCast v1180
  let c512_469 : Index := 512#32
  ![0, v1181.toNat, 512]
def k0_mult82 (k0_t7 : Fin k0_t7_loop.trips) : BitVec 32 :=
  let c32_i32_480 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1229 : BitVec 32 := Scalar.muli c32_i32_480 v1154
  v1229
def k0_off62 (k0_t7 : Fin k0_t7_loop.trips) : Fin 3 → Nat :=
  let c1_481 : Index := 1#32
  let c32_i32_480 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1229 : BitVec 32 := Scalar.muli c32_i32_480 v1154
  let v1230 : BitVec 32 := v1229
  let v1231 : Index := Scalar.indexCast v1230
  let c0_482 : Index := 0#32
  ![1, v1231.toNat, 0]
def k0_mult83 (k0_t7 : Fin k0_t7_loop.trips) : BitVec 32 :=
  let c32_i32_483 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1235 : BitVec 32 := Scalar.muli c32_i32_483 v1154
  v1235
def k0_off63 (k0_t7 : Fin k0_t7_loop.trips) : Fin 3 → Nat :=
  let c1_484 : Index := 1#32
  let c32_i32_483 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1235 : BitVec 32 := Scalar.muli c32_i32_483 v1154
  let v1236 : BitVec 32 := v1235
  let v1237 : Index := Scalar.indexCast v1236
  let c128_485 : Index := 128#32
  ![1, v1237.toNat, 128]
def k0_mult84 (k0_t7 : Fin k0_t7_loop.trips) : BitVec 32 :=
  let c32_i32_486 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1241 : BitVec 32 := Scalar.muli c32_i32_486 v1154
  v1241
def k0_off64 (k0_t7 : Fin k0_t7_loop.trips) : Fin 3 → Nat :=
  let c1_487 : Index := 1#32
  let c32_i32_486 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1241 : BitVec 32 := Scalar.muli c32_i32_486 v1154
  let v1242 : BitVec 32 := v1241
  let v1243 : Index := Scalar.indexCast v1242
  let c256_488 : Index := 256#32
  ![1, v1243.toNat, 256]
def k0_mult85 (k0_t7 : Fin k0_t7_loop.trips) : BitVec 32 :=
  let c32_i32_489 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1247 : BitVec 32 := Scalar.muli c32_i32_489 v1154
  v1247
def k0_off65 (k0_t7 : Fin k0_t7_loop.trips) : Fin 3 → Nat :=
  let c1_490 : Index := 1#32
  let c32_i32_489 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1247 : BitVec 32 := Scalar.muli c32_i32_489 v1154
  let v1248 : BitVec 32 := v1247
  let v1249 : Index := Scalar.indexCast v1248
  let c384_491 : Index := 384#32
  ![1, v1249.toNat, 384]
def k0_mult86 (k0_t7 : Fin k0_t7_loop.trips) : BitVec 32 :=
  let c32_i32_492 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1253 : BitVec 32 := Scalar.muli c32_i32_492 v1154
  v1253
def k0_off66 (k0_t7 : Fin k0_t7_loop.trips) : Fin 3 → Nat :=
  let c1_493 : Index := 1#32
  let c32_i32_492 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1253 : BitVec 32 := Scalar.muli c32_i32_492 v1154
  let v1254 : BitVec 32 := v1253
  let v1255 : Index := Scalar.indexCast v1254
  let c512_494 : Index := 512#32
  ![1, v1255.toNat, 512]
def k0_mult87 (k0_t7 : Fin k0_t7_loop.trips) : BitVec 32 :=
  let c32_i32_505 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1303 : BitVec 32 := Scalar.muli c32_i32_505 v1154
  v1303
def k0_off67 (k0_t7 : Fin k0_t7_loop.trips) : Fin 3 → Nat :=
  let c2_506 : Index := 2#32
  let c32_i32_505 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1303 : BitVec 32 := Scalar.muli c32_i32_505 v1154
  let v1304 : BitVec 32 := v1303
  let v1305 : Index := Scalar.indexCast v1304
  let c0_507 : Index := 0#32
  ![2, v1305.toNat, 0]
def k0_mult88 (k0_t7 : Fin k0_t7_loop.trips) : BitVec 32 :=
  let c32_i32_508 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1309 : BitVec 32 := Scalar.muli c32_i32_508 v1154
  v1309
def k0_off68 (k0_t7 : Fin k0_t7_loop.trips) : Fin 3 → Nat :=
  let c2_509 : Index := 2#32
  let c32_i32_508 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1309 : BitVec 32 := Scalar.muli c32_i32_508 v1154
  let v1310 : BitVec 32 := v1309
  let v1311 : Index := Scalar.indexCast v1310
  let c128_510 : Index := 128#32
  ![2, v1311.toNat, 128]
def k0_mult89 (k0_t7 : Fin k0_t7_loop.trips) : BitVec 32 :=
  let c32_i32_511 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1315 : BitVec 32 := Scalar.muli c32_i32_511 v1154
  v1315
def k0_off69 (k0_t7 : Fin k0_t7_loop.trips) : Fin 3 → Nat :=
  let c2_512 : Index := 2#32
  let c32_i32_511 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1315 : BitVec 32 := Scalar.muli c32_i32_511 v1154
  let v1316 : BitVec 32 := v1315
  let v1317 : Index := Scalar.indexCast v1316
  let c256_513 : Index := 256#32
  ![2, v1317.toNat, 256]
def k0_mult90 (k0_t7 : Fin k0_t7_loop.trips) : BitVec 32 :=
  let c32_i32_514 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1321 : BitVec 32 := Scalar.muli c32_i32_514 v1154
  v1321
def k0_off70 (k0_t7 : Fin k0_t7_loop.trips) : Fin 3 → Nat :=
  let c2_515 : Index := 2#32
  let c32_i32_514 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1321 : BitVec 32 := Scalar.muli c32_i32_514 v1154
  let v1322 : BitVec 32 := v1321
  let v1323 : Index := Scalar.indexCast v1322
  let c384_516 : Index := 384#32
  ![2, v1323.toNat, 384]
def k0_mult91 (k0_t7 : Fin k0_t7_loop.trips) : BitVec 32 :=
  let c32_i32_517 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1327 : BitVec 32 := Scalar.muli c32_i32_517 v1154
  v1327
def k0_off71 (k0_t7 : Fin k0_t7_loop.trips) : Fin 3 → Nat :=
  let c2_518 : Index := 2#32
  let c32_i32_517 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let v1327 : BitVec 32 := Scalar.muli c32_i32_517 v1154
  let v1328 : BitVec 32 := v1327
  let v1329 : Index := Scalar.indexCast v1328
  let c512_519 : Index := 512#32
  ![2, v1329.toNat, 512]
def k0_mult92 (k0_t7 : Fin k0_t7_loop.trips) : BitVec 32 :=
  let c4352_i32 : BitVec 32 := 4352#32
  let c32_i32_535 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let c16_i32_534 : BitVec 32 := 16#32
  let v1389 : BitVec 32 := Scalar.subi v1154 c16_i32_534
  let v1390 : BitVec 32 := Scalar.muli c32_i32_535 v1389
  let v1391 : BitVec 32 := Scalar.addi c4352_i32 v1390
  v1391
def k0_mult93 : BitVec 32 :=
  let c384_i32 : BitVec 32 := 384#32
  c384_i32
def k0_off72 (k0_t7 : Fin k0_t7_loop.trips) (c4352_i32 : BitVec 32) : Fin 2 → Nat :=
  let c32_i32_535 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let c16_i32_534 : BitVec 32 := 16#32
  let v1389 : BitVec 32 := Scalar.subi v1154 c16_i32_534
  let v1390 : BitVec 32 := Scalar.muli c32_i32_535 v1389
  let v1391 : BitVec 32 := Scalar.addi c4352_i32 v1390
  let v1399 : BitVec 32 := v1391
  let v1401 : Index := Scalar.indexCast v1399
  let c384_i32 : BitVec 32 := 384#32
  let v1400 : BitVec 32 := c384_i32
  let v1402 : Index := Scalar.indexCast v1400
  ![v1401.toNat, 384]
def k0_mult94 (k0_t7 : Fin k0_t7_loop.trips) : BitVec 32 :=
  let c4416_i32 : BitVec 32 := 4416#32
  let c32_i32_545 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let c16_i32_544 : BitVec 32 := 16#32
  let v1419 : BitVec 32 := Scalar.subi v1154 c16_i32_544
  let v1420 : BitVec 32 := Scalar.muli c32_i32_545 v1419
  let v1421 : BitVec 32 := Scalar.addi c4416_i32 v1420
  v1421
def k0_mult95 : BitVec 32 :=
  let c384_i32_549 : BitVec 32 := 384#32
  c384_i32_549
def k0_mult96 (k0_t7 : Fin k0_t7_loop.trips) : BitVec 32 :=
  let c4480_i32 : BitVec 32 := 4480#32
  let c32_i32_556 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let c16_i32_555 : BitVec 32 := 16#32
  let v1449 : BitVec 32 := Scalar.subi v1154 c16_i32_555
  let v1450 : BitVec 32 := Scalar.muli c32_i32_556 v1449
  let v1451 : BitVec 32 := Scalar.addi c4480_i32 v1450
  v1451
def k0_mult97 : BitVec 32 :=
  let c384_i32_560 : BitVec 32 := 384#32
  c384_i32_560
def k0_mult98 (k0_t7 : Fin k0_t7_loop.trips) : BitVec 32 :=
  let c4544_i32 : BitVec 32 := 4544#32
  let c32_i32_567 : BitVec 32 := 32#32
  let c16_i32_454 : BitVec 32 := 16#32
  let c0_i32_264 : BitVec 32 := 0#32
  let c1_i32_266 : BitVec 32 := 1#32
  let arg19 : BitVec 32 := Scf.iv c0_i32_264 c1_i32_266 k0_t7
  let c1_i32_453 : BitVec 32 := 1#32
  let v1153 : BitVec 32 := Scalar.muli arg19 c1_i32_453
  let v1154 : BitVec 32 := Scalar.addi c16_i32_454 v1153
  let c16_i32_566 : BitVec 32 := 16#32
  let v1479 : BitVec 32 := Scalar.subi v1154 c16_i32_566
  let v1480 : BitVec 32 := Scalar.muli c32_i32_567 v1479
  let v1481 : BitVec 32 := Scalar.addi c4544_i32 v1480
  v1481
def k0_mult99 : BitVec 32 :=
  let c384_i32_571 : BitVec 32 := 384#32
  c384_i32_571
abbrev stage0_0 : Fin 1 → Memref sig .tc .vmem S3x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S3x640x576 : Shape := ⟨3, ![3, 640, 576]⟩
abbrev S3x640 : Shape := ⟨2, ![3, 640]⟩
abbrev S3x160x8 : Shape := ⟨3, ![3, 160, 8]⟩
abbrev S8x576x448 : Shape := ⟨3, ![8, 576, 448]⟩
abbrev S448 : Shape := ⟨1, ![448]⟩
abbrev S_ : Shape := ⟨0, ![]⟩
abbrev S3 : Shape := ⟨1, ![3]⟩
abbrev S3x1x1 : Shape := ⟨3, ![3, 1, 1]⟩
abbrev S3x160x8x1 : Shape := ⟨4, ![3, 160, 8, 1]⟩
abbrev S3x160x8x2 : Shape := ⟨4, ![3, 160, 8, 2]⟩
abbrev S3x160x8x576 : Shape := ⟨4, ![3, 160, 8, 576]⟩
abbrev S8x3x160 : Shape := ⟨3, ![8, 3, 160]⟩
abbrev S8x480x1 : Shape := ⟨3, ![8, 480, 1]⟩
abbrev S8x3x160x576 : Shape := ⟨4, ![8, 3, 160, 576]⟩
abbrev S8x480x576 : Shape := ⟨3, ![8, 480, 576]⟩
abbrev S1x448 : Shape := ⟨2, ![1, 448]⟩
abbrev S3x160x448 : Shape := ⟨3, ![3, 160, 448]⟩
abbrev S3x160 : Shape := ⟨2, ![3, 160]⟩
abbrev S480x448 : Shape := ⟨2, ![480, 448]⟩
abbrev S1x480x1 : Shape := ⟨3, ![1, 480, 1]⟩
abbrev S480x1 : Shape := ⟨2, ![480, 1]⟩
abbrev S1x480x576 : Shape := ⟨3, ![1, 480, 576]⟩
abbrev S480x576 : Shape := ⟨2, ![480, 576]⟩
abbrev S1x576x448 : Shape := ⟨3, ![1, 576, 448]⟩
abbrev S576x448 : Shape := ⟨2, ![576, 448]⟩
abbrev S480 : Shape := ⟨1, ![480]⟩
abbrev S480x252 : Shape := ⟨2, ![480, 252]⟩

abbrev nBuf : Space → Nat
  | .hbm => 59
  | .vmem => 8
  | .smem => 0
  | _ => 0

abbrev bufTy : (tb : Table) → Fin (tcTables nBuf tb) → BufTy
  | .hbm, ⟨0, _⟩ => ⟨S3x640x576, .fp8e4m3⟩
  | .hbm, ⟨1, _⟩ => ⟨S3x640, .f32⟩
  | .hbm, ⟨2, _⟩ => ⟨S3x160x8, .i32⟩
  | .hbm, ⟨3, _⟩ => ⟨S8x576x448, .fp8e4m3⟩
  | .hbm, ⟨4, _⟩ => ⟨S448, .f32⟩
  | .hbm, ⟨5, _⟩ => ⟨S448, .f32⟩
  | .hbm, ⟨6, _⟩ => ⟨S_, .i32⟩
  | .hbm, ⟨7, _⟩ => ⟨S3x160x8, .i32⟩
  | .hbm, ⟨8, _⟩ => ⟨S3x160x8, .i32⟩
  | .hbm, ⟨9, _⟩ => ⟨S3, .i32⟩
  | .hbm, ⟨10, _⟩ => ⟨S3x1x1, .i32⟩
  | .hbm, ⟨11, _⟩ => ⟨S_, .i32⟩
  | .hbm, ⟨12, _⟩ => ⟨S3x1x1, .i32⟩
  | .hbm, ⟨13, _⟩ => ⟨S3x1x1, .i1⟩
  | .hbm, ⟨14, _⟩ => ⟨S_, .i32⟩
  | .hbm, ⟨15, _⟩ => ⟨S3x1x1, .i32⟩
  | .hbm, ⟨16, _⟩ => ⟨S3x1x1, .i32⟩
  | .hbm, ⟨17, _⟩ => ⟨S3x1x1, .i32⟩
  | .hbm, ⟨18, _⟩ => ⟨S_, .i32⟩
  | .hbm, ⟨19, _⟩ => ⟨S3x160x8, .i32⟩
  | .hbm, ⟨20, _⟩ => ⟨S3x160x8, .i1⟩
  | .hbm, ⟨21, _⟩ => ⟨S_, .i32⟩
  | .hbm, ⟨22, _⟩ => ⟨S3x160x8, .i32⟩
  | .hbm, ⟨23, _⟩ => ⟨S3x160x8, .i32⟩
  | .hbm, ⟨24, _⟩ => ⟨S3x160x8, .i32⟩
  | .hbm, ⟨25, _⟩ => ⟨S3x160x8, .i32⟩
  | .hbm, ⟨26, _⟩ => ⟨S3x160x8x1, .i32⟩
  | .hbm, ⟨27, _⟩ => ⟨S3x160x8x1, .i32⟩
  | .hbm, ⟨28, _⟩ => ⟨S3x160x8x2, .i32⟩
  | .hbm, ⟨29, _⟩ => ⟨S3x160x8x576, .fp8e4m3⟩
  | .hbm, ⟨30, _⟩ => ⟨S_, .i32⟩
  | .hbm, ⟨31, _⟩ => ⟨S3x1x1, .i32⟩
  | .hbm, ⟨32, _⟩ => ⟨S3x1x1, .i1⟩
  | .hbm, ⟨33, _⟩ => ⟨S_, .i32⟩
  | .hbm, ⟨34, _⟩ => ⟨S3x1x1, .i32⟩
  | .hbm, ⟨35, _⟩ => ⟨S3x1x1, .i32⟩
  | .hbm, ⟨36, _⟩ => ⟨S3x1x1, .i32⟩
  | .hbm, ⟨37, _⟩ => ⟨S_, .i32⟩
  | .hbm, ⟨38, _⟩ => ⟨S3x160x8, .i32⟩
  | .hbm, ⟨39, _⟩ => ⟨S3x160x8, .i1⟩
  | .hbm, ⟨40, _⟩ => ⟨S_, .i32⟩
  | .hbm, ⟨41, _⟩ => ⟨S3x160x8, .i32⟩
  | .hbm, ⟨42, _⟩ => ⟨S3x160x8, .i32⟩
  | .hbm, ⟨43, _⟩ => ⟨S3x160x8, .i32⟩
  | .hbm, ⟨44, _⟩ => ⟨S3x160x8, .i32⟩
  | .hbm, ⟨45, _⟩ => ⟨S3x160x8x1, .i32⟩
  | .hbm, ⟨46, _⟩ => ⟨S3x160x8x1, .i32⟩
  | .hbm, ⟨47, _⟩ => ⟨S3x160x8x2, .i32⟩
  | .hbm, ⟨48, _⟩ => ⟨S3x160x8, .f32⟩
  | .hbm, ⟨49, _⟩ => ⟨S8x3x160, .i32⟩
  | .hbm, ⟨50, _⟩ => ⟨S8x480x1, .i32⟩
  | .hbm, ⟨51, _⟩ => ⟨S8x3x160x576, .fp8e4m3⟩
  | .hbm, ⟨52, _⟩ => ⟨S8x480x576, .fp8e4m3⟩
  | .hbm, ⟨53, _⟩ => ⟨S8x3x160, .f32⟩
  | .hbm, ⟨54, _⟩ => ⟨S8x480x1, .f32⟩
  | .hbm, ⟨55, _⟩ => ⟨S1x448, .f32⟩
  | .hbm, ⟨56, _⟩ => ⟨S1x448, .f32⟩
  | .hbm, ⟨57, _⟩ => ⟨S3x160x448, .fp8e4m3⟩
  | .hbm, ⟨58, _⟩ => ⟨S3x160, .f32⟩
  | .local _ .vmem, ⟨0, _⟩ => ⟨S8x480x1, .i32⟩
  | .local _ .vmem, ⟨1, _⟩ => ⟨S8x480x576, .fp8e4m3⟩
  | .local _ .vmem, ⟨2, _⟩ => ⟨S8x480x1, .f32⟩
  | .local _ .vmem, ⟨3, _⟩ => ⟨S8x576x448, .fp8e4m3⟩
  | .local _ .vmem, ⟨4, _⟩ => ⟨S1x448, .f32⟩
  | .local _ .vmem, ⟨5, _⟩ => ⟨S1x448, .f32⟩
  | .local _ .vmem, ⟨6, _⟩ => ⟨S3x160x448, .fp8e4m3⟩
  | .local _ .vmem, ⟨7, _⟩ => ⟨S3x160, .f32⟩
  | _, _ => ⟨S3x640x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x480x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x480x576 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x480x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x576x448 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x448 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x160x448 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Loops.lean ====
/- The counted loops of the kernel's gather, each by an invariant at the algebra WITH the transfer counters (the
   generated instances are at the frame kit's, without): what one trip writes is the run's own find, and after the loop
   the written buffer holds the pieces of all trips over what it held before. The shape is that of
   Gen/Kernel/Loops.lean; the outermost loop `k0_t1` (three deep) is stated here by the same pattern over its inner two. -/
module

public import proofs.«01_k».proof.Proof.Gen.Kernel.Skeleton
public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The frame kit's algebra paired with the transfer counters. -/
local notation "𝕄G" => MT nD τ sig Unit (Elt F) ℕ (UR sig nD τ × Counters) ℕ

variable (𝒱 : Variants) (c : Dev nD) (bd : Option 𝒱.V) (arg0 : Memref sig .tc .hbm S3x576x640 .fp8e4m3) (harg0 : arg0.IsWhole) (arg1 : Memref sig .tc .hbm S3x640 .f32) (harg1 : arg1.IsWhole) (arg2 : Memref sig .tc .hbm S3x8x160 .i32) (harg2 : arg2.IsWhole) (arg3 : Memref sig .tc .hbm S8x448x576 .fp8e4m3) (harg3 : arg3.IsWhole) (arg4 : Memref sig .tc .hbm S1x448 .f32) (harg4 : arg4.IsWhole) (arg5 : Memref sig .tc .hbm S1x448 .f32) (harg5 : arg5.IsWhole) (arg6 : Memref sig .tc .hbm S3x160x448 .fp8e4m3) (harg6 : arg6.IsWhole) (arg7 : Memref sig .tc .vmem S3x160 .f32) (harg7 : arg7.IsWhole) (arg8 : Memref sig .tc .vmem S3x576x640 .fp8e4m3) (harg8 : arg8.IsWhole) (arg9 : Memref sig .tc .vmem S3x640 .f32) (harg9 : arg9.IsWhole) (arg10 : Memref sig .tc .vmem S3x8x160 .i32) (harg10 : arg10.IsWhole) (arg11 : Memref sig .tc .vmem S8x448x576 .fp8e4m3) (harg11 : arg11.IsWhole) (arg12 : Memref sig .tc .vmem S1x448 .f32) (harg12 : arg12.IsWhole) (arg13 : Memref sig .tc .vmem S1x448 .f32) (harg13 : arg13.IsWhole) (arg14 : Memref sig .tc .vmem S4x8x128 .f32) (harg14 : arg14.IsWhole) (arg15 : Memref sig .tc .vmem S4608x512 .bf16) (harg15 : arg15.IsWhole) (arg16 : Memref sig .tc .vmem S448x4608 .fp8e4m3) (harg16 : arg16.IsWhole) (arg17 : Memref sig .tc .vmem S3x160x448 .fp8e4m3) (harg17 : arg17.IsWhole) (arg18 : DmaSems sig S7)

/-! ### `k0_t3_loop`: the invariant (classifier: listed) -/

/-- One trip's resources: what the region reads (arg8, arg14) at its contents, what it writes
   (arg15) at any. -/
abbrev Trip_k0_t3 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t3_loop` at a symbolic `k`, run by `sl_exec` (its rectangles where the program's
   in-range evidence puts them, their places unread): the pieces it writes into arg15 are the run's
   own finds — the witnesses `sl_close` assigns handing the buffers to the continuation.
   `@[irreducible]`: cited, never unfolded. -/
@[irreducible] def trip_k0_t3 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (k : Fin k0_t3_loop.trips) :
    { L_arg15 : List (View.Piece (Elt F) S4608x512 .bf16) // ∀ (E : Set ℕ) (f_arg15 : BufTy.Contents (Elt F) arg15.view.ty),
      Trip_k0_t3 (F := F) c arg8 arg14 arg15 X_arg8 X_arg14 f_arg15
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 k PUnit.unit)
          (fun _ => Trip_k0_t3 (F := F) c arg8 arg14 arg15 X_arg8 X_arg14 (arg15.view.writes (Elt F) f_arg15 L_arg15)) } := by
  have hk : k.val < 18 := Nat.lt_of_lt_of_le k.isLt k0_t3_abs.2.1
  refine ⟨?_, fun E f_arg15 => ?run⟩
  case run =>
    unfold k0_t3_body
    iintro ⟨HR_arg8, HR_arg14, HW_arg15⟩
    sl_exec
    sl_step
    sl_close

/-- The trip's piece lists (plain projections of `trip_…`, for the recursion below to cite without
   its proof). -/
abbrev tripL_k0_t3 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (k : Fin k0_t3_loop.trips) : List (View.Piece (Elt F) S4608x512 .bf16) :=
  (trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k).1

/-- Trip `k`'s contribution to the state the recursion `pb_k0_t3` below carries (`prev`): its pieces
   in front, per written memref; past the last trip, `prev` itself. -/
@[irreducible] def pb_k0_t3Step (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t3_loop.trips then
    (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 ⟨k, h⟩) ++ prev
  else prev

/-- The pieces of the trips before `k` (last first), per written memref. -/
def pb_k0_t3 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) : ℕ → List (View.Piece (Elt F) S4608x512 .bf16)
  | 0 => []
  | k + 1 => pb_k0_t3Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k (pb_k0_t3 v25 v180 v182 v337 v494 v498 v500 v502 cst_181 k0_t1 v1154 k0_t2 v1157 v1160 X_arg8 X_arg14 k)

theorem pb_k0_t3_succ (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (k : Fin k0_t3_loop.trips) :
    pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 (k.val + 1)
      = (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k) ++ (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k.val) := by
  rw [pb_k0_t3.eq_2]; unfold pb_k0_t3Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t3 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k)⌝))

set_option warn.classDefReducibility false in
/-- THE LOOP BY ITS INVARIANT (`@[sl_loop]`: `sl_exec` finds it meeting `k0_t3_loop`,
   fixing `X_· G_·` against the context; after the loop each written memref holds `writes G (pb …
   trips)`). -/
@[sl_loop] def loopInv_k0_t3 (E : Set ℕ) (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (G_arg15 : BufTy.Contents (Elt F) arg15.view.ty) :
    LoopInvTy_k0_t3 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 where
  inv := inv_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t3_succ]
      iexists _; isplitl [HW_arg15]; · iexact HW_arg15
      ipureintro; rw [h_arg15, ← View.writes_append]

/-! ### `k0_t2_loop`: the invariant (classifier: listed) -/

/-- One trip's resources: what the region reads (arg8, arg10, arg14) at its contents, what it writes
   (arg15) at any. -/
abbrev Trip_k0_t2 (c : Dev nD) (arg8 : Memref sig .tc .vmem S3x576x640 .fp8e4m3) (arg10 : Memref sig .tc .vmem S3x8x160 .i32) (arg14 : Memref sig .tc .vmem S4x8x128 .f32) (arg15 : Memref sig .tc .vmem S4608x512 .bf16) (X_arg8 : BufTy.Contents (Elt F) arg8.view.ty) (X_arg10 : BufTy.Contents (Elt F) arg10.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15))

/-- ONE TRIP of `k0_t2_loop` at a symbolic `k`, run by `sl_exec` (its rectangles where the program's
   in-range evidence puts them, their places unread): the pieces it writes into arg15 are the run's
   own finds — the witnesses `sl_close` assigns handing the buffers to the continuation.
   `@[irreducible]`: cited, never unfolded. -/
@[irreducible] def trip_k0_t2 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (k : Fin k0_t2_loop.trips) :
    { L_arg15 : List (View.Piece (Elt F) S4608x512 .bf16) // ∀ (E : Set ℕ) (f_arg15 : BufTy.Contents (Elt F) arg15.view.ty),
      Trip_k0_t2 (F := F) c arg8 arg10 arg14 arg15 X_arg8 X_arg10 X_arg14 f_arg15
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k PUnit.unit)
          (fun _ => Trip_k0_t2 (F := F) c arg8 arg10 arg14 arg15 X_arg8 X_arg10 X_arg14 (arg15.view.writes (Elt F) f_arg15 L_arg15)) } := by
  have hk : k.val < 3 := Nat.lt_of_lt_of_le k.isLt k0_t2_abs.2.1
  refine ⟨?_, fun E f_arg15 => ?run⟩
  case run =>
    unfold k0_t2_body
    iintro ⟨HR_arg8, HR_arg10, HR_arg14, HW_arg15⟩
    sl_exec
    sl_step
    sl_close

/-- The trip's piece lists (plain projections of `trip_…`, for the recursion below to cite without
   its proof). -/
abbrev tripL_k0_t2 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (k : Fin k0_t2_loop.trips) : List (View.Piece (Elt F) S4608x512 .bf16) :=
  (trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k).1

/-- Trip `k`'s contribution to the state the recursion `pb_k0_t2` below carries (`prev`): its pieces
   in front, per written memref; past the last trip, `prev` itself. -/
@[irreducible] def pb_k0_t2Step (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (k : ℕ) (prev : List (View.Piece (Elt F) S4608x512 .bf16)) : List (View.Piece (Elt F) S4608x512 .bf16) :=
  if h : k < k0_t2_loop.trips then
    (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 ⟨k, h⟩) ++ prev
  else prev

/-- The pieces of the trips before `k` (last first), per written memref. -/
def pb_k0_t2 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) : ℕ → List (View.Piece (Elt F) S4608x512 .bf16)
  | 0 => []
  | k + 1 => pb_k0_t2Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k (pb_k0_t2 v25 v180 v182 v337 v494 v498 v500 v502 cst_181 k0_t1 v1154 X_arg8 X_arg10 X_arg14 k)

theorem pb_k0_t2_succ (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (k : Fin k0_t2_loop.trips) :
    pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 (k.val + 1)
      = (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k) ++ (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k.val) := by
  rw [pb_k0_t2.eq_2]; unfold pb_k0_t2Step; exact dif_pos k.isLt

/-- THE INVARIANT before trip `k`: arg8, arg10, arg14 read at `X_·`; arg15 holding the pieces of the
   trips before `k` written over the contents at loop entry `G_·` (stated `∃ f, … ∗ ⌜f = …⌝`, so
   that a hypothesis of any contents matches and the equation is what is proved). -/
abbrev inv_k0_t2 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg10.view.loc (c : Thread nD τ) ↦[arg10.view.set]{fullShare} X_arg10) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k)⌝))

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (E : Set ℕ) (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (G_arg15 : BufTy.Contents (Elt F) arg15.view.ty) :
    LoopInvTy_k0_t2 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 where
  inv := inv_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 G_arg15
  step k acc := by
    iintro ⟨HR_arg8, HR_arg10, HR_arg14, ⟨%f_arg15, HW_arg15, %h_arg15⟩⟩
    iapply (wp_wand_r Idealize.ShloMosaic.frame (wpE (defs₀ (F := F)) 𝒱 (c : Thread nD τ) bd) E)
    isplitl [HR_arg8 HR_arg10 HR_arg14 HW_arg15]
    · iapply ((trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k).2 E f_arg15)
      isplitl [HR_arg8]; · iexact HR_arg8
      isplitl [HR_arg10]; · iexact HR_arg10
      isplitl [HR_arg14]; · iexact HR_arg14
      iexact HW_arg15
    · iintro %_ ⟨HR_arg8, HR_arg10, HR_arg14, HW_arg15⟩
      isplitl [HR_arg8]; · iexact HR_arg8
      isplitl [HR_arg10]; · iexact HR_arg10
      isplitl [HR_arg14]; · iexact HR_arg14
      rw [pb_k0_t2_succ]
      iexists _; isplitl [HW_arg15]; · iexact HW_arg15
      ipureintro; rw [h_arg15, ← View.writes_append]

/-! ### `k0_t1_loop`: the invariant (a loop over two nested loops) -/

/-- One trip's resources: what the region reads (arg8, arg10, arg14) at its contents, what it writes
   (arg15) at any. -/
abbrev Trip_k0_t1 (c : Dev nD) (arg8 : Memref sig .tc .vmem S3x576x640 .fp8e4m3) (arg10 : Memref sig .tc .vmem S3x8x160 .i32) (arg14 : Memref sig .tc .vmem S4x8x128 .f32) (arg15 : Memref sig .tc .vmem S4608x512 .bf16) (X_arg8 : BufTy.Contents (Elt F) arg8.view.ty) (X_arg10 : BufTy.Contents (Elt F) arg10.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15))

/-- ONE TRIP of `k0_t1_loop` at a symbolic `k`, run by `sl_exec` (its rectangles where the program's
   in-range evidence puts them, their places unread): the pieces it writes into arg15 are the run's
   own finds — the witnesses `sl_close` assigns handing the buffers to the continuation.
   `@[irreducible]`: cited, never unfolded. -/
@[irreducible] def trip_k0_t1 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (k : Fin k0_t1_loop.trips) :
    { L_arg15 : List (View.Piece (Elt F) S4608x512 .bf16) // ∀ (E : Set ℕ) (f_arg15 : BufTy.Contents (Elt F) arg15.view.ty),
      Trip_k0_t1 (F := F) c arg8 arg10 arg14 arg15 X_arg8 X_arg10 X_arg14 f_arg15
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k PUnit.unit)
          (fun _ => Trip_k0_t1 (F := F) c arg8 arg10 arg14 arg15 X_arg8 X_arg10 X_arg14 (arg15.view.writes (Elt F) f_arg15 L_arg15)) } := by
  have hk : k.val < 8 := Nat.lt_of_lt_of_le k.isLt k0_t1_abs.2.1
  refine ⟨?_, fun E f_arg15 => ?run⟩
  case run =>
    unfold k0_t1_body
    iintro ⟨HR_arg8, HR_arg10, HR_arg14, HW_arg15⟩
    sl_exec
    sl_step
    sl_close

/-- The trip's piece lists (plain projections of `trip_…`, for the recursion below to cite without
   its proof). -/
abbrev tripL_k0_t1 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (k : Fin k0_t1_loop.trips) : List (View.Piece (Elt F) S4608x512 .bf16) :=
  (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k).1

/-- Trip `k`'s contribution to the state the recursion `pb_k0_t1` below carries (`prev`): its pieces
   in front, per written memref; past the last trip, `prev` itself. -/
@[irreducible] def pb_k0_t1Step (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (k : ℕ) (prev : List (View.Piece (Elt F) S4608x512 .bf16)) : List (View.Piece (Elt F) S4608x512 .bf16) :=
  if h : k < k0_t1_loop.trips then
    (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 ⟨k, h⟩) ++ prev
  else prev

/-- The pieces of the trips before `k` (last first), per written memref. -/
def pb_k0_t1 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) : ℕ → List (View.Piece (Elt F) S4608x512 .bf16)
  | 0 => []
  | k + 1 => pb_k0_t1Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k (pb_k0_t1 v25 v180 v182 v337 v494 v498 v500 v502 cst_181 X_arg8 X_arg10 X_arg14 k)

theorem pb_k0_t1_succ (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (k : Fin k0_t1_loop.trips) :
    pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 (k.val + 1)
      = (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k) ++ (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k.val) := by
  rw [pb_k0_t1.eq_2]; unfold pb_k0_t1Step; exact dif_pos k.isLt

/-- THE INVARIANT before trip `k`: arg8, arg10, arg14 read at `X_·`; arg15 holding the pieces of the
   trips before `k` written over the contents at loop entry `G_·` (stated `∃ f, … ∗ ⌜f = …⌝`, so
   that a hypothesis of any contents matches and the equation is what is proved). -/
abbrev inv_k0_t1 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg10.view.loc (c : Thread nD τ) ↦[arg10.view.set]{fullShare} X_arg10) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k)⌝))

set_option warn.classDefReducibility false in
/-- THE LOOP BY ITS INVARIANT — (`@[sl_loop]`: `sl_exec` finds it meeting `k0_t1_loop`,
   fixing `X_· G_·` against the context; after the loop each written memref holds `writes G (pb …
   trips)`). -/
@[sl_loop] def loopInv_k0_t1 (E : Set ℕ) (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (G_arg15 : BufTy.Contents (Elt F) arg15.view.ty) :
    LoopInvTy_k0_t1 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 where
  inv := inv_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 G_arg15
  step k acc := by
    iintro ⟨HR_arg8, HR_arg10, HR_arg14, ⟨%f_arg15, HW_arg15, %h_arg15⟩⟩
    iapply (wp_wand_r Idealize.ShloMosaic.frame (wpE (defs₀ (F := F)) 𝒱 (c : Thread nD τ) bd) E)
    isplitl [HR_arg8 HR_arg10 HR_arg14 HW_arg15]
    · iapply ((trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k).2 E f_arg15)
      isplitl [HR_arg8]; · iexact HR_arg8
      isplitl [HR_arg10]; · iexact HR_arg10
      isplitl [HR_arg14]; · iexact HR_arg14
      iexact HW_arg15
    · iintro %_ ⟨HR_arg8, HR_arg10, HR_arg14, HW_arg15⟩
      isplitl [HR_arg8]; · iexact HR_arg8
      isplitl [HR_arg10]; · iexact HR_arg10
      isplitl [HR_arg14]; · iexact HR_arg14
      rw [pb_k0_t1_succ]
      iexists _; isplitl [HW_arg15]; · iexact HW_arg15
      ipureintro; rw [h_arg15, ← View.writes_append]

/-! ### `k0_t4_loop`: the invariant (classifier: affine) -/

/-- One trip's resources: what the region reads (arg8, arg14) at its contents, what it writes
   (arg15) at any. -/
abbrev Trip_k0_t4 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t4_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t4_loop.trips) :
    { L_arg15 : List (View.Piece (Elt F) S4608x512 .bf16) // ∀ (E : Set ℕ) (f_arg15 : BufTy.Contents (Elt F) arg15.view.ty),
      Trip_k0_t4 (F := F) c arg8 arg14 arg15 X_arg8 X_arg14 f_arg15
      ⊢ wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 k PUnit.unit)
          (fun _ => Trip_k0_t4 (F := F) c arg8 arg14 arg15 X_arg8 X_arg14 (arg15.view.writes (Elt F) f_arg15 L_arg15)) } := by
  have hk : k.val < 16 := Nat.lt_of_lt_of_le k.isLt k0_t4_abs.2.1
  refine ⟨?_, fun E f_arg15 => ?run⟩
  case run =>
    unfold k0_t4_body
    iintro ⟨HR_arg8, HR_arg14, HW_arg15⟩
    sl_exec
    sl_step
    sl_close

/-- The trip's piece lists (plain projections of `trip_…`, for the recursion below to cite without
   its proof). -/
abbrev tripL_k0_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t4_loop.trips) : List (View.Piece (Elt F) S4608x512 .bf16) :=
  (trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k).1

/-- Trip `k`'s contribution to the state the recursion `pb_k0_t4` below carries (`prev`): its pieces
   in front, per written memref; past the last trip, `prev` itself. -/
@[irreducible] def pb_k0_t4Step (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t4_loop.trips then
    (tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 ⟨k, h⟩) ++ prev
  else prev

/-- The pieces of the trips before `k` (last first), per written memref. -/
def pb_k0_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) : ℕ → List (View.Piece (Elt F) S4608x512 .bf16)
  | 0 => []
  | k + 1 => pb_k0_t4Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k (pb_k0_t4 v25 v182 v496 v533 v539 v543 v547 v570 v576 v580 v584 v587 v590 v591 X_arg8 X_arg14 k)

theorem pb_k0_t4_succ (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t4_loop.trips) :
    pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (k.val + 1)
      = (tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k) ++ (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k.val) := by
  rw [pb_k0_t4.eq_2]; unfold pb_k0_t4Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k)⌝))

set_option warn.classDefReducibility false in
/-- THE LOOP BY ITS INVARIANT (`@[sl_loop]`: `sl_exec` finds it meeting `k0_t4_loop`,
   fixing `X_· G_·` against the context; after the loop each written memref holds `writes G (pb …
   trips)`). -/
@[sl_loop] def loopInv_k0_t4 (E : Set ℕ) (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (G_arg15 : BufTy.Contents (Elt F) arg15.view.ty) :
    LoopInvTy_k0_t4 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 where
  inv := inv_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t4_succ]
      iexists _; isplitl [HW_arg15]; · iexact HW_arg15
      ipureintro; rw [h_arg15, ← View.writes_append]

/-! ### `k0_t5_loop`: the invariant (classifier: affine) -/

/-- One trip's resources: what the region reads (arg8, arg14) at its contents, what it writes
   (arg15) at any. -/
abbrev Trip_k0_t5 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t5_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t5_loop.trips) :
    { L_arg15 : List (View.Piece (Elt F) S4608x512 .bf16) // ∀ (E : Set ℕ) (f_arg15 : BufTy.Contents (Elt F) arg15.view.ty),
      Trip_k0_t5 (F := F) c arg8 arg14 arg15 X_arg8 X_arg14 f_arg15
      ⊢ wp frame (wpE (defs₀ (F := F)) 𝒱 (c : Thread nD τ) bd) E (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 k PUnit.unit)
          (fun _ => Trip_k0_t5 (F := F) c arg8 arg14 arg15 X_arg8 X_arg14 (arg15.view.writes (Elt F) f_arg15 L_arg15)) } := by
  have hk : k.val < 2 := Nat.lt_of_lt_of_le k.isLt k0_t5_abs.2.1
  refine ⟨?_, fun E f_arg15 => ?run⟩
  case run =>
    unfold k0_t5_body
    iintro ⟨HR_arg8, HR_arg14, HW_arg15⟩
    sl_exec
    sl_step
    sl_close

/-- The trip's piece lists (plain projections of `trip_…`, for the recursion below to cite without
   its proof). -/
abbrev tripL_k0_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t5_loop.trips) : List (View.Piece (Elt F) S4608x512 .bf16) :=
  (trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k).1

/-- Trip `k`'s contribution to the state the recursion `pb_k0_t5` below carries (`prev`): its pieces
   in front, per written memref; past the last trip, `prev` itself. -/
@[irreducible] def pb_k0_t5Step (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t5_loop.trips then
    (tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 ⟨k, h⟩) ++ prev
  else prev

/-- The pieces of the trips before `k` (last first), per written memref. -/
def pb_k0_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) : ℕ → List (View.Piece (Elt F) S4608x512 .bf16)
  | 0 => []
  | k + 1 => pb_k0_t5Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k (pb_k0_t5 v25 v182 v496 v533 v539 v543 v547 v570 v576 v580 v584 v587 v590 v591 X_arg8 X_arg14 k)

theorem pb_k0_t5_succ (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t5_loop.trips) :
    pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (k.val + 1)
      = (tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k) ++ (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k.val) := by
  rw [pb_k0_t5.eq_2]; unfold pb_k0_t5Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k)⌝))

set_option warn.classDefReducibility false in
/-- THE LOOP BY ITS INVARIANT (`@[sl_loop]`: `sl_exec` finds it meeting `k0_t5_loop`,
   fixing `X_· G_·` against the context; after the loop each written memref holds `writes G (pb …
   trips)`). -/
@[sl_loop] def loopInv_k0_t5 (E : Set ℕ) (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (G_arg15 : BufTy.Contents (Elt F) arg15.view.ty) :
    LoopInvTy_k0_t5 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 where
  inv := inv_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t5_succ]
      iexists _; isplitl [HW_arg15]; · iexact HW_arg15
      ipureintro; rw [h_arg15, ← View.writes_append]

/-! ### `k0_t6_loop`: the invariant (classifier: affine) -/

/-- One trip's resources: what the region reads (arg8, arg14) at its contents, what it writes
   (arg15) at any. -/
abbrev Trip_k0_t6 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t6_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t6_loop.trips) :
    { L_arg15 : List (View.Piece (Elt F) S4608x512 .bf16) // ∀ (E : Set ℕ) (f_arg15 : BufTy.Contents (Elt F) arg15.view.ty),
      Trip_k0_t6 (F := F) c arg8 arg14 arg15 X_arg8 X_arg14 f_arg15
      ⊢ wp frame (wpE (defs₀ (F := F)) 𝒱 (c : Thread nD τ) bd) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 k PUnit.unit)
          (fun _ => Trip_k0_t6 (F := F) c arg8 arg14 arg15 X_arg8 X_arg14 (arg15.view.writes (Elt F) f_arg15 L_arg15)) } := by
  have hk : k.val < 16 := Nat.lt_of_lt_of_le k.isLt k0_t6_abs.2.1
  refine ⟨?_, fun E f_arg15 => ?run⟩
  case run =>
    unfold k0_t6_body
    iintro ⟨HR_arg8, HR_arg14, HW_arg15⟩
    sl_exec
    sl_step
    sl_close

/-- The trip's piece lists (plain projections of `trip_…`, for the recursion below to cite without
   its proof). -/
abbrev tripL_k0_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t6_loop.trips) : List (View.Piece (Elt F) S4608x512 .bf16) :=
  (trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k).1

/-- Trip `k`'s contribution to the state the recursion `pb_k0_t6` below carries (`prev`): its pieces
   in front, per written memref; past the last trip, `prev` itself. -/
@[irreducible] def pb_k0_t6Step (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t6_loop.trips then
    (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 ⟨k, h⟩) ++ prev
  else prev

/-- The pieces of the trips before `k` (last first), per written memref. -/
def pb_k0_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) : ℕ → List (View.Piece (Elt F) S4608x512 .bf16)
  | 0 => []
  | k + 1 => pb_k0_t6Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k (pb_k0_t6 v25 v646 v652 v656 v660 v683 v689 v693 v697 v720 v722 c1_i32_254 X_arg8 X_arg14 k)

theorem pb_k0_t6_succ (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t6_loop.trips) :
    pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 (k.val + 1)
      = (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k) ++ (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k.val) := by
  rw [pb_k0_t6.eq_2]; unfold pb_k0_t6Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k)⌝))

set_option warn.classDefReducibility false in
/-- THE LOOP BY ITS INVARIANT (`@[sl_loop]`: `sl_exec` finds it meeting `k0_t6_loop`,
   fixing `X_· G_·` against the context; after the loop each written memref holds `writes G (pb …
   trips)`). -/
@[sl_loop] def loopInv_k0_t6 (E : Set ℕ) (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (G_arg15 : BufTy.Contents (Elt F) arg15.view.ty) :
    LoopInvTy_k0_t6 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 where
  inv := inv_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t6_succ]
      iexists _; isplitl [HW_arg15]; · iexact HW_arg15
      ipureintro; rw [h_arg15, ← View.writes_append]

/-! ### `k0_t7_loop`: the invariant (classifier: affine) -/

/-- One trip's resources: what the region reads (arg8, arg14) at its contents, what it writes
   (arg15) at any. -/
abbrev Trip_k0_t7 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t7_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t7_loop.trips) :
    { L_arg15 : List (View.Piece (Elt F) S4608x512 .bf16) // ∀ (E : Set ℕ) (f_arg15 : BufTy.Contents (Elt F) arg15.view.ty),
      Trip_k0_t7 (F := F) c arg8 arg14 arg15 X_arg8 X_arg14 f_arg15
      ⊢ wp frame (wpE (defs₀ (F := F)) 𝒱 (c : Thread nD τ) bd) E (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 k PUnit.unit)
          (fun _ => Trip_k0_t7 (F := F) c arg8 arg14 arg15 X_arg8 X_arg14 (arg15.view.writes (Elt F) f_arg15 L_arg15)) } := by
  have hk : k.val < 2 := Nat.lt_of_lt_of_le k.isLt k0_t7_abs.2.1
  refine ⟨?_, fun E f_arg15 => ?run⟩
  case run =>
    unfold k0_t7_body
    iintro ⟨HR_arg8, HR_arg14, HW_arg15⟩
    sl_exec
    sl_step
    sl_close

/-- The trip's piece lists (plain projections of `trip_…`, for the recursion below to cite without
   its proof). -/
abbrev tripL_k0_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t7_loop.trips) : List (View.Piece (Elt F) S4608x512 .bf16) :=
  (trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k).1

/-- Trip `k`'s contribution to the state the recursion `pb_k0_t7` below carries (`prev`): its pieces
   in front, per written memref; past the last trip, `prev` itself. -/
@[irreducible] def pb_k0_t7Step (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t7_loop.trips then
    (tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 ⟨k, h⟩) ++ prev
  else prev

/-- The pieces of the trips before `k` (last first), per written memref. -/
def pb_k0_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) : ℕ → List (View.Piece (Elt F) S4608x512 .bf16)
  | 0 => []
  | k + 1 => pb_k0_t7Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k (pb_k0_t7 v25 v646 v652 v656 v660 v683 v689 v693 v697 v720 v722 c1_i32_254 X_arg8 X_arg14 k)

theorem pb_k0_t7_succ (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t7_loop.trips) :
    pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 (k.val + 1)
      = (tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k) ++ (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k.val) := by
  rw [pb_k0_t7.eq_2]; unfold pb_k0_t7Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k)⌝))

set_option warn.classDefReducibility false in
/-- THE LOOP BY ITS INVARIANT (`@[sl_loop]`: `sl_exec` finds it meeting `k0_t7_loop`,
   fixing `X_· G_·` against the context; after the loop each written memref holds `writes G (pb …
   trips)`). -/
@[sl_loop] def loopInv_k0_t7 (E : Set ℕ) (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (G_arg15 : BufTy.Contents (Elt F) arg15.view.ty) :
    LoopInvTy_k0_t7 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 where
  inv := inv_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t7_succ]
      iexists _; isplitl [HW_arg15]; · iexact HW_arg15
      ipureintro; rw [h_arg15, ← View.writes_append]

end Cert.Kernel.Body

end
-- ==== Proof.Kernel.Kit.lean ====
/- What the body's run and the launch of `Kernel` share, at the frame kit's algebra with the transfer counters: @main up
   to the region, the frame claim's post, the staging, scratch and HBM operands as the body is called with them, its DMA
   cells, and the body obligation's invariant conjunct by conjunct. -/
module

public import proofs.«01_k».proof.Proof.Gen.Kernel.Frame
public import proofs.«01_k».proof.Proof.Kernel.Loops
public import Idealize.ShloMosaic.Lib.Pipeline.FrameBody
public import Idealize.ShloMosaic.Lib.Pipeline.FrameValue

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 800000 in
/-- @main up to the region, at the certificate's variants `𝒱₀`: the host operations then the region
    (`Pipeline.hmain_prefix`: `StableHlo.wp_seq` over the unscoped buffers, off `main_chain`). -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The operands left in HBM the body WRITES by its own transfers, as references (results accumulated in place; the
    run's post says nothing of them: Lib/Pipeline/Frame.lean `FramePostR`). -/
def R0 : Finset (Ref sig .tc) := {main_v5_0}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_Kernel`, Defs.lean, at any `F`). -/
theorem frame_ofR (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-! ## The kernel body on any staging memrefs: a subtype the run finds -/

/-- One staging buffer of output window 0, through which its contents are stated (`View.read_writes_of_cover`: the
    choice does not matter). -/
abbrev VO0_0 : View sig .tc .vmem S3x160 .f32 := (Memref.whole cc0_stg0_0 : Memref sig .tc .vmem S3x160 .f32).view
/-- Each window's current staging memref at point `t`, spelled as the pipeline passes it (`bodyAt0`), and its wholeness. -/
abbrev ms0_0 (t : Fin cfg0.N) : Memref sig .tc .vmem S3x160 .f32 := win0_0.stage (cfg0.slots t 0)
abbrev hs0_0 (t : Fin cfg0.N) : (ms0_0 t).IsWhole := hstage0_0 0
/-- The scratch operands: whole scoped buffers of the kernel's own, passed beside the windows. -/
abbrev scM0_0 : Memref sig .tc .vmem S3x576x640 .fp8e4m3 := Memref.whole cc0_scratch0
abbrev scM0_1 : Memref sig .tc .vmem S3x640 .f32 := Memref.whole cc0_scratch1
abbrev scM0_2 : Memref sig .tc .vmem S3x8x160 .i32 := Memref.whole cc0_scratch2
abbrev scM0_3 : Memref sig .tc .vmem S8x448x576 .fp8e4m3 := Memref.whole cc0_scratch3
abbrev scM0_4 : Memref sig .tc .vmem S1x448 .f32 := Memref.whole cc0_scratch4
abbrev scM0_5 : Memref sig .tc .vmem S1x448 .f32 := Memref.whole cc0_scratch5
abbrev scM0_6 : Memref sig .tc .vmem S4x8x128 .f32 := Memref.whole cc0_scratch6
abbrev scM0_7 : Memref sig .tc .vmem S4608x512 .bf16 := Memref.whole cc0_scratch7
abbrev scM0_8 : Memref sig .tc .vmem S448x4608 .fp8e4m3 := Memref.whole cc0_scratch8
abbrev scM0_9 : Memref sig .tc .vmem S3x160x448 .fp8e4m3 := Memref.whole cc0_scratch9
/-- The operands left in HBM that the body copies into scratch itself, whole. -/
abbrev hbM0_0 : Memref sig .tc .hbm S3x576x640 .fp8e4m3 := Memref.whole main_v0
abbrev hbM0_1 : Memref sig .tc .hbm S3x640 .f32 := Memref.whole main_arg1
abbrev hbM0_2 : Memref sig .tc .hbm S3x8x160 .i32 := Memref.whole main_v1
abbrev hbM0_3 : Memref sig .tc .hbm S8x448x576 .fp8e4m3 := Memref.whole main_v2
abbrev hbM0_4 : Memref sig .tc .hbm S1x448 .f32 := Memref.whole main_v3
abbrev hbM0_5 : Memref sig .tc .hbm S1x448 .f32 := Memref.whole main_v4
abbrev hbM0_6 : Memref sig .tc .hbm S3x160x448 .fp8e4m3 := Memref.whole main_v5_0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 7 → SemLoc sig := fun j => (![SemLoc.dma 1, SemLoc.dma 2, SemLoc.dma 3, SemLoc.dma 4, SemLoc.dma 5, SemLoc.dma 6, SemLoc.dma 7] : Fin 7 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4, 5, 6] (by decide) (by decide)]; rfl
/-- The HBM operands the body copies from and leaves unchanged, as references: unscoped, no window's array (`Pipeline.restRefs`). -/
def H0 : Finset (Ref sig .tc) := {main_v0, main_arg1, main_v1, main_v2, main_v3, main_v4}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_arg1) ∗ hbPt0 c hbM0_2 (V m c main_v1) ∗ hbPt0 c hbM0_3 (V m c main_v2) ∗ hbPt0 c hbM0_4 (V m c main_v3) ∗ hbPt0 c hbM0_5 (V m c main_v4)) := by
  rw [BI.bigSep_eq_bigSepL_of_eq [main_v0, main_arg1, main_v1, main_v2, main_v3, main_v4] (by decide) (by decide)]; rfl
/-- The written operands' points-tos at some contents each (`Pipeline.owned`), listed. -/
theorem ownedPts0_eq (c : Dev nD) :
    (Pipeline.owned R0 c : sProp 𝕄) = iprop((∃ f, hbPt0 c hbM0_6 f)) := by
  unfold Pipeline.owned; rw [BI.bigSep_eq_bigSepL_of_eq [main_v5_0] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ iprop(hbPt0 c hbM0_0 (V m c main_v0) ∗ hbPt0 c hbM0_1 (V m c main_arg1) ∗ hbPt0 c hbM0_2 (V m c main_v1) ∗ hbPt0 c hbM0_3 (V m c main_v2) ∗ hbPt0 c hbM0_4 (V m c main_v3) ∗ hbPt0 c hbM0_5 (V m c main_v4)) ∗ iprop((∃ f, hbPt0 c hbM0_6 f))) := by
  rw [Pipeline.ΦDR_eq, scopedRest0_eq, ownSems00_eq, hbmPts0_eq, ownedPts0_eq]; simp only [scM0_0, scM0_1, scM0_2, scM0_3, scM0_4, scM0_5, scM0_6, scM0_7, scM0_8, scM0_9, owns_whole]; try rfl

end Cert.Kernel.Body

end
-- ==== Proof.Kernel.Run.lean ====
/- The kernel body's RUN: from its scratch buffers, its output staging block and the result left in HBM at GIVEN contents
   and the HBM operands it copies from at theirs, the body runs to its end with its output staging block holding the pieces
   the run finds and the HBM result holding the contents the run finds — the witnesses, which the value proof reads. -/
module

public import proofs.«01_k».proof.Proof.Kernel.Kit

@[expose] public section

-- membership in a rectangle of production extents (`View.cover_of_tiled`): the elaborator's structural look
-- recurses once per coordinate of the long axes
set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple by `sl_exec` over the skeleton: `.1` the pieces its stores leave in the staging block, `.2.1` what the
    HBM result holds after the write-back. -/
noncomputable def kernelRun (c : Dev nD) (arg7 : Memref sig .tc .vmem S3x160 .f32) (harg7 : arg7.IsWhole) (arg8 : Memref sig .tc .vmem S3x576x640 .fp8e4m3) (harg8 : arg8.IsWhole) (arg9 : Memref sig .tc .vmem S3x640 .f32) (harg9 : arg9.IsWhole) (arg10 : Memref sig .tc .vmem S3x8x160 .i32) (harg10 : arg10.IsWhole) (arg11 : Memref sig .tc .vmem S8x448x576 .fp8e4m3) (harg11 : arg11.IsWhole) (arg12 : Memref sig .tc .vmem S1x448 .f32) (harg12 : arg12.IsWhole) (arg13 : Memref sig .tc .vmem S1x448 .f32) (harg13 : arg13.IsWhole) (arg14 : Memref sig .tc .vmem S4x8x128 .f32) (harg14 : arg14.IsWhole) (arg15 : Memref sig .tc .vmem S4608x512 .bf16) (harg15 : arg15.IsWhole) (arg16 : Memref sig .tc .vmem S448x4608 .fp8e4m3) (harg16 : arg16.IsWhole) (arg17 : Memref sig .tc .vmem S3x160x448 .fp8e4m3) (harg17 : arg17.IsWhole)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fw6 : HbBuf0 (F := F) c hbM0_6) :
    Σ' (L0 : List (View.Piece (Elt F) S3x160 .f32)), { R6 : HbBuf0 (F := F) c hbM0_6 //
      ∀ (W : Waits sig Unit) (K : PUnit → sProp 𝕄),
        iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fw6 ∗ owes (c : Thread nD τ) 0 W
            ∗ (iprop((arg7.view.loc (c : Thread nD τ) ↦[arg7.view.set]{fullShare} arg7.view.writes (Elt F) f7 L0) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 R6 ∗ (∃ W', owes (c : Thread nD τ) 0 W')) -∗ K ⟨⟩))
          ⊢ wp frame (wpE (defs₀ (F := F)) Variants.none c none) Set.univ (cc0_sparse_conv (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) arg7 harg7 arg8 harg8 arg9 harg9 arg10 harg10 arg11 harg11 arg12 harg12 arg13 harg13 arg14 harg14 arg15 harg15 arg16 harg16 arg17 harg17 cc0_scratch10) K } := by
  refine ⟨?_, ?_, fun W K => ?run⟩
  case run =>
    simp only [cc0_sparse_conv_eq_skeleton]; unfold cc0_sparse_conv_skel
    simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    iintro ⟨H7, H8, H9, H10, H11, H12, H13, H14, H15, H16, H17, Hq0, Hq1, Hq2, Hq3, Hq4, Hq5, Hq6, Hh0, Hh1, Hh2, Hh3, Hh4, Hh5, Hh6, HW, Hk⟩
    sl_exec
    sl_step
    iapply Hk
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    iexists _; iexact HW

end Cert.Kernel.Body

end
-- ==== Proof.Kernel.Frame.lean ====
/- The FRAME of `Kernel`: the body's run at every grid point gives the body obligation, with what the outputs hold forgotten;
   the launch is the library's, for a kernel that writes an operand left in HBM by its own transfer. -/
module

public import proofs.«01_k».proof.Proof.Kernel.Run

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The proof data of the one pipeline: its array as the region finds it, the invariant the same at every point. What the
    output's staging buffer holds after a point is not stated (`after` is arbitrary: the launch forgets it). -/
def dats (_ : Fin 1) (c : Dev nD) : Dat τ (Elt F) Unit ℕ (Pipeline.UD sig nD τ) ℕ cfg0 c where
  A w := V m c (Pipeline.arrRef spec0 w)
  after w t := match w with
    | ⟨0, _⟩ => VO0_0.read (Elt F) VO0_0.junk
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]

set_option maxHeartbeats 1600000 in
/-- The body at any point, from the invariant and its staging buffer at anything, back to both. -/
theorem sound_body (c : Dev nD) (t : Fin cfg0.N) :
    iprop((dats m 0 c).Φ t.castSucc ∗ (dats m 0 c).owesAt () t.castSucc ∗ (∃ X, owns (c : Thread nD τ) (ms0_0 t) fullShare X))
    ⊢ wp frame (wpE (defs₀ (F := F)) Variants.none c none) Set.univ (bodyAt0 t)
      (fun _ => iprop((dats m 0 c).Φ t.succ ∗ (dats m 0 c).owesAt () t.succ ∗ (∃ X, owns (c : Thread nD τ) (ms0_0 t) fullShare X))) := by
  unfold bodyAt0
  rw [show (dats m 0 c).Φ t.succ = Pipeline.ΦDR osem0 spec0 H0 R0 (V m) c from rfl,
    show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  unfold owns
  iintro ⟨⟨⟨⟨%d8, %f8, -, HS0⟩, ⟨%d9, %f9, -, HS1⟩, ⟨%d10, %f10, -, HS2⟩, ⟨%d11, %f11, -, HS3⟩, ⟨%d12, %f12, -, HS4⟩, ⟨%d13, %f13, -, HS5⟩, ⟨%d14, %f14, -, HS6⟩, ⟨%d15, %f15, -, HS7⟩, ⟨%d16, %f16, -, HS8⟩, ⟨%d17, %f17, -, HS9⟩⟩, Hg, ⟨Hq0, Hq1, Hq2, Hq3, Hq4, Hq5, Hq6⟩, ⟨Hh0, Hh1, Hh2, Hh3, Hh4, Hh5⟩, ⟨%fw6, Hh6⟩⟩, ⟨%W, -, HW⟩, ⟨%d7, %f7, -, H0⟩⟩
  iapply ((kernelRun c (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) f7 f8 f9 f10 f11 f12 f13 f14 f15 f16 f17 (V m c main_v0) (V m c main_arg1) (V m c main_v1) (V m c main_v2) (V m c main_v3) (V m c main_v4) fw6).2.2 W _)
  isplitl [H0]; · iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [HW]; · iexact HW
  iintro ⟨H0, ⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩, ⟨%g9, HS9⟩, Hq0, Hq1, Hq2, Hq3, Hq4, Hq5, Hq6, Hh0, Hh1, Hh2, Hh3, Hh4, Hh5, Hh6, ⟨%W', HW'⟩⟩
  isplitl [HS0 HS1 HS2 HS3 HS4 HS5 HS6 HS7 HS8 HS9 Hg Hq0 Hq1 Hq2 Hq3 Hq4 Hq5 Hq6 Hh0 Hh1 Hh2 Hh3 Hh4 Hh5 Hh6]
  · isplitl [HS0 HS1 HS2 HS3 HS4 HS5 HS6 HS7 HS8 HS9]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      iexists _, _; isplitr; swap; · iexact HS9
      ipureintro; rfl
    isplitl [Hg]; · iexact Hg
    isplitl [Hq0 Hq1 Hq2 Hq3 Hq4 Hq5 Hq6]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hq6
    isplitl [Hh0 Hh1 Hh2 Hh3 Hh4 Hh5]
    · isplitl [Hh0]; · iexact Hh0
      isplitl [Hh1]; · iexact Hh1
      isplitl [Hh2]; · iexact Hh2
      isplitl [Hh3]; · iexact Hh3
      isplitl [Hh4]; · iexact Hh4
      iexact Hh5
    iexists _; iexact Hh6
  isplitl [HW']
  · iexists W'; isplitr; · ipureintro; exact fun _ _ => Or.inl trivial
    iexact HW'
  iexists _, _; isplitr; swap; · iexact H0
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the output forgotten. -/
theorem body_obligation (c : Dev nD) :
    BodyObligationLoose (dats (F := F) m 0 c) (defs₀ (F := F)) Variants.none () Set.univ (fun _ => true) := fun t => by
  rw [bigSep_W0]; try rw [bigSep_W0]
  rw [defs₀_row]
  exact triple_restated (sound_body m c t) rfl .rfl fun _ => .rfl

set_option backward.isDefEq.respectTransparency.types false in
/-- THE LAUNCH: every unscoped buffer the kernel does not write ends as the region found it, every counter at zero. -/
theorem run_main : θ_run defs (onTc (τ := τ) (main (F := F))) (s₀ m ρ)
    (fun r => (Pipeline.RDat.FramePostR cfg0 (fun c => (dats m 0 c).toRForget fun _ => true) R0 (V m)) r ∧ r.2.sem = fun _ => 0) :=
  Pipeline.θ_run_frame_dmaR_forget (Q' := _) cfgs (dats m) (0 : Fin 1) launch0 osem0 defs₀ Variants.none (fun _ => true) ownSemFacts0 H0 R0 H0_sub R0_sub m ρ main
    (hbody := body_obligation m) (hshare := fun c => (dats m 0 c).share_full fun _ => rfl)
    (howed := fun _ _ => rfl) (V := V m) (hmain := hmainD m Variants.none) (hA := A_eq m)
    (hin := fun _ => .rfl) (hout := fun _ => .rfl)

/-- THE FRAME: the arguments end unchanged and every semaphore counter at zero, from any memory. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.Kernel.Body

end
-- ==== Proof.KernelIdeal.Loops.lean ====
/- The counted loops of the kernel's gather, each by an invariant at the algebra WITH the transfer counters (the
   generated instances are at the frame kit's, without): what one trip writes is the run's own find, and after the loop
   the written buffer holds the pieces of all trips over what it held before. The shape is that of
   Gen/KernelIdeal/Loops.lean; the outermost loop `k0_t1` (three deep) is stated here by the same pattern over its inner two. -/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The frame kit's algebra paired with the transfer counters. -/
local notation "𝕄G" => MT nD τ sig Unit (Elt F) ℕ (UR sig nD τ × Counters) ℕ

variable (𝒱 : Variants) (c : Dev nD) (bd : Option 𝒱.V) (arg0 : Memref sig .tc .hbm S3x576x640 .fp8e4m3) (harg0 : arg0.IsWhole) (arg1 : Memref sig .tc .hbm S3x640 .f32) (harg1 : arg1.IsWhole) (arg2 : Memref sig .tc .hbm S3x8x160 .i32) (harg2 : arg2.IsWhole) (arg3 : Memref sig .tc .hbm S8x448x576 .fp8e4m3) (harg3 : arg3.IsWhole) (arg4 : Memref sig .tc .hbm S1x448 .f32) (harg4 : arg4.IsWhole) (arg5 : Memref sig .tc .hbm S1x448 .f32) (harg5 : arg5.IsWhole) (arg6 : Memref sig .tc .hbm S3x160x448 .fp8e4m3) (harg6 : arg6.IsWhole) (arg7 : Memref sig .tc .vmem S3x160 .f32) (harg7 : arg7.IsWhole) (arg8 : Memref sig .tc .vmem S3x576x640 .fp8e4m3) (harg8 : arg8.IsWhole) (arg9 : Memref sig .tc .vmem S3x640 .f32) (harg9 : arg9.IsWhole) (arg10 : Memref sig .tc .vmem S3x8x160 .i32) (harg10 : arg10.IsWhole) (arg11 : Memref sig .tc .vmem S8x448x576 .fp8e4m3) (harg11 : arg11.IsWhole) (arg12 : Memref sig .tc .vmem S1x448 .f32) (harg12 : arg12.IsWhole) (arg13 : Memref sig .tc .vmem S1x448 .f32) (harg13 : arg13.IsWhole) (arg14 : Memref sig .tc .vmem S4x8x128 .f32) (harg14 : arg14.IsWhole) (arg15 : Memref sig .tc .vmem S4608x512 .bf16) (harg15 : arg15.IsWhole) (arg16 : Memref sig .tc .vmem S448x4608 .fp8e4m3) (harg16 : arg16.IsWhole) (arg17 : Memref sig .tc .vmem S3x160x448 .fp8e4m3) (harg17 : arg17.IsWhole) (arg18 : DmaSems sig S7)

/-! ### `k0_t3_loop`: the invariant (classifier: listed) -/

/-- One trip's resources: what the region reads (arg8, arg14) at its contents, what it writes
   (arg15) at any. -/
abbrev Trip_k0_t3 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t3_loop` at a symbolic `k`, run by `sl_exec` (its rectangles where the program's
   in-range evidence puts them, their places unread): the pieces it writes into arg15 are the run's
   own finds — the witnesses `sl_close` assigns handing the buffers to the continuation.
   `@[irreducible]`: cited, never unfolded. -/
@[irreducible] def trip_k0_t3 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (k : Fin k0_t3_loop.trips) :
    { L_arg15 : List (View.Piece (Elt F) S4608x512 .bf16) // ∀ (E : Set ℕ) (f_arg15 : BufTy.Contents (Elt F) arg15.view.ty),
      Trip_k0_t3 (F := F) c arg8 arg14 arg15 X_arg8 X_arg14 f_arg15
      ⊢ wp frame (wpE (defs₀ (F := F)) 𝒱 (c : Thread nD τ) bd) E (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 k PUnit.unit)
          (fun _ => Trip_k0_t3 (F := F) c arg8 arg14 arg15 X_arg8 X_arg14 (arg15.view.writes (Elt F) f_arg15 L_arg15)) } := by
  have hk : k.val < 18 := Nat.lt_of_lt_of_le k.isLt k0_t3_abs.2.1
  refine ⟨?_, fun E f_arg15 => ?run⟩
  case run =>
    unfold k0_t3_body
    iintro ⟨HR_arg8, HR_arg14, HW_arg15⟩
    sl_exec
    sl_step
    sl_close

/-- The trip's piece lists (plain projections of `trip_…`, for the recursion below to cite without
   its proof). -/
abbrev tripL_k0_t3 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (k : Fin k0_t3_loop.trips) : List (View.Piece (Elt F) S4608x512 .bf16) :=
  (trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k).1

/-- Trip `k`'s contribution to the state the recursion `pb_k0_t3` below carries (`prev`): its pieces
   in front, per written memref; past the last trip, `prev` itself. -/
@[irreducible] def pb_k0_t3Step (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t3_loop.trips then
    (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 ⟨k, h⟩) ++ prev
  else prev

/-- The pieces of the trips before `k` (last first), per written memref. -/
def pb_k0_t3 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) : ℕ → List (View.Piece (Elt F) S4608x512 .bf16)
  | 0 => []
  | k + 1 => pb_k0_t3Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k (pb_k0_t3 v25 v180 v182 v337 v494 v498 v500 v502 cst_181 k0_t1 v1154 k0_t2 v1157 v1160 X_arg8 X_arg14 k)

theorem pb_k0_t3_succ (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (k : Fin k0_t3_loop.trips) :
    pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 (k.val + 1)
      = (tripL_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k) ++ (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k.val) := by
  rw [pb_k0_t3.eq_2]; unfold pb_k0_t3Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t3 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k)⌝))

set_option warn.classDefReducibility false in
/-- THE LOOP BY ITS INVARIANT (`@[sl_loop]`: `sl_exec` finds it meeting `k0_t3_loop`,
   fixing `X_· G_·` against the context; after the loop each written memref holds `writes G (pb …
   trips)`). -/
@[sl_loop] def loopInv_k0_t3 (E : Set ℕ) (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (k0_t2 : Fin k0_t2_loop.trips) (v1157 : BitVec 32) (v1160 : Vec F S1x1x128 .i32) (X_arg8 : BufTy.Contents (Elt F) arg8.view.ty) (X_arg14 : BufTy.Contents (Elt F) arg14.view.ty) (G_arg15 : BufTy.Contents (Elt F) arg15.view.ty) :
    LoopInvTy_k0_t3 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 where
  inv := inv_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k0_t2 v1157 v1160 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t3_succ]
      iexists _; isplitl [HW_arg15]; · iexact HW_arg15
      ipureintro; rw [h_arg15, ← View.writes_append]

/-! ### `k0_t2_loop`: the invariant (classifier: listed) -/

/-- One trip's resources: what the region reads (arg8, arg10, arg14) at its contents, what it writes
   (arg15) at any. -/
abbrev Trip_k0_t2 (c : Dev nD) (arg8 : Memref sig .tc .vmem S3x576x640 .fp8e4m3) (arg10 : Memref sig .tc .vmem S3x8x160 .i32) (arg14 : Memref sig .tc .vmem S4x8x128 .f32) (arg15 : Memref sig .tc .vmem S4608x512 .bf16) (X_arg8 : BufTy.Contents (Elt F) arg8.view.ty) (X_arg10 : BufTy.Contents (Elt F) arg10.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15))

/-- ONE TRIP of `k0_t2_loop` at a symbolic `k`, run by `sl_exec` (its rectangles where the program's
   in-range evidence puts them, their places unread): the pieces it writes into arg15 are the run's
   own finds — the witnesses `sl_close` assigns handing the buffers to the continuation.
   `@[irreducible]`: cited, never unfolded. -/
@[irreducible] def trip_k0_t2 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (k : Fin k0_t2_loop.trips) :
    { L_arg15 : List (View.Piece (Elt F) S4608x512 .bf16) // ∀ (E : Set ℕ) (f_arg15 : BufTy.Contents (Elt F) arg15.view.ty),
      Trip_k0_t2 (F := F) c arg8 arg10 arg14 arg15 X_arg8 X_arg10 X_arg14 f_arg15
      ⊢ wp frame (wpE (defs₀ (F := F)) 𝒱 (c : Thread nD τ) bd) E (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 k PUnit.unit)
          (fun _ => Trip_k0_t2 (F := F) c arg8 arg10 arg14 arg15 X_arg8 X_arg10 X_arg14 (arg15.view.writes (Elt F) f_arg15 L_arg15)) } := by
  have hk : k.val < 3 := Nat.lt_of_lt_of_le k.isLt k0_t2_abs.2.1
  refine ⟨?_, fun E f_arg15 => ?run⟩
  case run =>
    unfold k0_t2_body
    iintro ⟨HR_arg8, HR_arg10, HR_arg14, HW_arg15⟩
    sl_exec
    sl_step
    sl_close

/-- The trip's piece lists (plain projections of `trip_…`, for the recursion below to cite without
   its proof). -/
abbrev tripL_k0_t2 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (k : Fin k0_t2_loop.trips) : List (View.Piece (Elt F) S4608x512 .bf16) :=
  (trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k).1

/-- Trip `k`'s contribution to the state the recursion `pb_k0_t2` below carries (`prev`): its pieces
   in front, per written memref; past the last trip, `prev` itself. -/
@[irreducible] def pb_k0_t2Step (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (k : ℕ) (prev : List (View.Piece (Elt F) S4608x512 .bf16)) : List (View.Piece (Elt F) S4608x512 .bf16) :=
  if h : k < k0_t2_loop.trips then
    (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 ⟨k, h⟩) ++ prev
  else prev

/-- The pieces of the trips before `k` (last first), per written memref. -/
def pb_k0_t2 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) : ℕ → List (View.Piece (Elt F) S4608x512 .bf16)
  | 0 => []
  | k + 1 => pb_k0_t2Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k (pb_k0_t2 v25 v180 v182 v337 v494 v498 v500 v502 cst_181 k0_t1 v1154 X_arg8 X_arg10 X_arg14 k)

theorem pb_k0_t2_succ (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (k : Fin k0_t2_loop.trips) :
    pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 (k.val + 1)
      = (tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k) ++ (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k.val) := by
  rw [pb_k0_t2.eq_2]; unfold pb_k0_t2Step; exact dif_pos k.isLt

/-- THE INVARIANT before trip `k`: arg8, arg10, arg14 read at `X_·`; arg15 holding the pieces of the
   trips before `k` written over the contents at loop entry `G_·` (stated `∃ f, … ∗ ⌜f = …⌝`, so
   that a hypothesis of any contents matches and the equation is what is proved). -/
abbrev inv_k0_t2 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg10.view.loc (c : Thread nD τ) ↦[arg10.view.set]{fullShare} X_arg10) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k)⌝))

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (E : Set ℕ) (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (k0_t1 : Fin k0_t1_loop.trips) (v1154 : BitVec 32) (X_arg8 : BufTy.Contents (Elt F) arg8.view.ty) (X_arg10 : BufTy.Contents (Elt F) arg10.view.ty) (X_arg14 : BufTy.Contents (Elt F) arg14.view.ty) (G_arg15 : BufTy.Contents (Elt F) arg15.view.ty) :
    LoopInvTy_k0_t2 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 where
  inv := inv_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 G_arg15
  step k acc := by
    iintro ⟨HR_arg8, HR_arg10, HR_arg14, ⟨%f_arg15, HW_arg15, %h_arg15⟩⟩
    iapply (wp_wand_r Idealize.ShloMosaic.frame (wpE (defs₀ (F := F)) 𝒱 (c : Thread nD τ) bd) E)
    isplitl [HR_arg8 HR_arg10 HR_arg14 HW_arg15]
    · iapply ((trip_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k0_t1 v1154 X_arg8 X_arg10 X_arg14 k).2 E f_arg15)
      isplitl [HR_arg8]; · iexact HR_arg8
      isplitl [HR_arg10]; · iexact HR_arg10
      isplitl [HR_arg14]; · iexact HR_arg14
      iexact HW_arg15
    · iintro %_ ⟨HR_arg8, HR_arg10, HR_arg14, HW_arg15⟩
      isplitl [HR_arg8]; · iexact HR_arg8
      isplitl [HR_arg10]; · iexact HR_arg10
      isplitl [HR_arg14]; · iexact HR_arg14
      rw [pb_k0_t2_succ]
      iexists _; isplitl [HW_arg15]; · iexact HW_arg15
      ipureintro; rw [h_arg15, ← View.writes_append]

/-! ### `k0_t1_loop`: the invariant (a loop over two nested loops) -/

/-- One trip's resources: what the region reads (arg8, arg10, arg14) at its contents, what it writes
   (arg15) at any. -/
abbrev Trip_k0_t1 (c : Dev nD) (arg8 : Memref sig .tc .vmem S3x576x640 .fp8e4m3) (arg10 : Memref sig .tc .vmem S3x8x160 .i32) (arg14 : Memref sig .tc .vmem S4x8x128 .f32) (arg15 : Memref sig .tc .vmem S4608x512 .bf16) (X_arg8 : BufTy.Contents (Elt F) arg8.view.ty) (X_arg10 : BufTy.Contents (Elt F) arg10.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg10.view.loc (c : Thread nD τ) ↦[arg10.view.set]{fullShare} X_arg10) ∗ (arg14.view.loc (c : Thread nD τ) ↦[arg14.view.set]{fullShare} X_arg14) ∗ (arg15.view.loc (c : Thread nD τ) ↦[arg15.view.set]{fullShare} f_arg15))

/-- ONE TRIP of `k0_t1_loop` at a symbolic `k`, run by `sl_exec` (its rectangles where the program's
   in-range evidence puts them, their places unread): the pieces it writes into arg15 are the run's
   own finds — the witnesses `sl_close` assigns handing the buffers to the continuation.
   `@[irreducible]`: cited, never unfolded. -/
@[irreducible] def trip_k0_t1 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (k : Fin k0_t1_loop.trips) :
    { L_arg15 : List (View.Piece (Elt F) S4608x512 .bf16) // ∀ (E : Set ℕ) (f_arg15 : BufTy.Contents (Elt F) arg15.view.ty),
      Trip_k0_t1 (F := F) c arg8 arg10 arg14 arg15 X_arg8 X_arg10 X_arg14 f_arg15
      ⊢ wp frame (wpE (defs₀ (F := F)) 𝒱 (c : Thread nD τ) bd) E (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k PUnit.unit)
          (fun _ => Trip_k0_t1 (F := F) c arg8 arg10 arg14 arg15 X_arg8 X_arg10 X_arg14 (arg15.view.writes (Elt F) f_arg15 L_arg15)) } := by
  have hk : k.val < 8 := Nat.lt_of_lt_of_le k.isLt k0_t1_abs.2.1
  refine ⟨?_, fun E f_arg15 => ?run⟩
  case run =>
    unfold k0_t1_body
    iintro ⟨HR_arg8, HR_arg10, HR_arg14, HW_arg15⟩
    sl_exec
    sl_step
    sl_close

/-- The trip's piece lists (plain projections of `trip_…`, for the recursion below to cite without
   its proof). -/
abbrev tripL_k0_t1 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (k : Fin k0_t1_loop.trips) : List (View.Piece (Elt F) S4608x512 .bf16) :=
  (trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k).1

/-- Trip `k`'s contribution to the state the recursion `pb_k0_t1` below carries (`prev`): its pieces
   in front, per written memref; past the last trip, `prev` itself. -/
@[irreducible] def pb_k0_t1Step (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (k : ℕ) (prev : List (View.Piece (Elt F) S4608x512 .bf16)) : List (View.Piece (Elt F) S4608x512 .bf16) :=
  if h : k < k0_t1_loop.trips then
    (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 ⟨k, h⟩) ++ prev
  else prev

/-- The pieces of the trips before `k` (last first), per written memref. -/
def pb_k0_t1 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) : ℕ → List (View.Piece (Elt F) S4608x512 .bf16)
  | 0 => []
  | k + 1 => pb_k0_t1Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k (pb_k0_t1 v25 v180 v182 v337 v494 v498 v500 v502 cst_181 X_arg8 X_arg10 X_arg14 k)

theorem pb_k0_t1_succ (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (k : Fin k0_t1_loop.trips) :
    pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 (k.val + 1)
      = (tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k) ++ (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k.val) := by
  rw [pb_k0_t1.eq_2]; unfold pb_k0_t1Step; exact dif_pos k.isLt

/-- THE INVARIANT before trip `k`: arg8, arg10, arg14 read at `X_·`; arg15 holding the pieces of the
   trips before `k` written over the contents at loop entry `G_·` (stated `∃ f, … ∗ ⌜f = …⌝`, so
   that a hypothesis of any contents matches and the equation is what is proved). -/
abbrev inv_k0_t1 (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg10.view.loc (c : Thread nD τ) ↦[arg10.view.set]{fullShare} X_arg10) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k)⌝))

set_option warn.classDefReducibility false in
/-- THE LOOP BY ITS INVARIANT — (`@[sl_loop]`: `sl_exec` finds it meeting `k0_t1_loop`,
   fixing `X_· G_·` against the context; after the loop each written memref holds `writes G (pb …
   trips)`). -/
@[sl_loop] def loopInv_k0_t1 (E : Set ℕ) (v25 : IVec S32x128 32) (v180 : FVec F S8x128 .f32) (v182 : IVec S8x128 32) (v337 : FVec F S8x128 .f32) (v494 : FVec F S8x128 .f32) (v498 : IVec S8x128 1) (v500 : IVec S8x128 1) (v502 : IVec S8x128 1) (cst_181 : F .f32) (X_arg8 : BufTy.Contents (Elt F) arg8.view.ty) (X_arg10 : BufTy.Contents (Elt F) arg10.view.ty) (X_arg14 : BufTy.Contents (Elt F) arg14.view.ty) (G_arg15 : BufTy.Contents (Elt F) arg15.view.ty) :
    LoopInvTy_k0_t1 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 where
  inv := inv_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 G_arg15
  step k acc := by
    iintro ⟨HR_arg8, HR_arg10, HR_arg14, ⟨%f_arg15, HW_arg15, %h_arg15⟩⟩
    iapply (wp_wand_r Idealize.ShloMosaic.frame (wpE (defs₀ (F := F)) 𝒱 (c : Thread nD τ) bd) E)
    isplitl [HR_arg8 HR_arg10 HR_arg14 HW_arg15]
    · iapply ((trip_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k).2 E f_arg15)
      isplitl [HR_arg8]; · iexact HR_arg8
      isplitl [HR_arg10]; · iexact HR_arg10
      isplitl [HR_arg14]; · iexact HR_arg14
      iexact HW_arg15
    · iintro %_ ⟨HR_arg8, HR_arg10, HR_arg14, HW_arg15⟩
      isplitl [HR_arg8]; · iexact HR_arg8
      isplitl [HR_arg10]; · iexact HR_arg10
      isplitl [HR_arg14]; · iexact HR_arg14
      rw [pb_k0_t1_succ]
      iexists _; isplitl [HW_arg15]; · iexact HW_arg15
      ipureintro; rw [h_arg15, ← View.writes_append]

/-! ### `k0_t4_loop`: the invariant (classifier: affine) -/

/-- One trip's resources: what the region reads (arg8, arg14) at its contents, what it writes
   (arg15) at any. -/
abbrev Trip_k0_t4 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t4_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t4_loop.trips) :
    { L_arg15 : List (View.Piece (Elt F) S4608x512 .bf16) // ∀ (E : Set ℕ) (f_arg15 : BufTy.Contents (Elt F) arg15.view.ty),
      Trip_k0_t4 (F := F) c arg8 arg14 arg15 X_arg8 X_arg14 f_arg15
      ⊢ wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 k PUnit.unit)
          (fun _ => Trip_k0_t4 (F := F) c arg8 arg14 arg15 X_arg8 X_arg14 (arg15.view.writes (Elt F) f_arg15 L_arg15)) } := by
  have hk : k.val < 16 := Nat.lt_of_lt_of_le k.isLt k0_t4_abs.2.1
  refine ⟨?_, fun E f_arg15 => ?run⟩
  case run =>
    unfold k0_t4_body
    iintro ⟨HR_arg8, HR_arg14, HW_arg15⟩
    sl_exec
    sl_step
    sl_close

/-- The trip's piece lists (plain projections of `trip_…`, for the recursion below to cite without
   its proof). -/
abbrev tripL_k0_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t4_loop.trips) : List (View.Piece (Elt F) S4608x512 .bf16) :=
  (trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k).1

/-- Trip `k`'s contribution to the state the recursion `pb_k0_t4` below carries (`prev`): its pieces
   in front, per written memref; past the last trip, `prev` itself. -/
@[irreducible] def pb_k0_t4Step (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t4_loop.trips then
    (tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 ⟨k, h⟩) ++ prev
  else prev

/-- The pieces of the trips before `k` (last first), per written memref. -/
def pb_k0_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) : ℕ → List (View.Piece (Elt F) S4608x512 .bf16)
  | 0 => []
  | k + 1 => pb_k0_t4Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k (pb_k0_t4 v25 v182 v496 v533 v539 v543 v547 v570 v576 v580 v584 v587 v590 v591 X_arg8 X_arg14 k)

theorem pb_k0_t4_succ (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t4_loop.trips) :
    pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (k.val + 1)
      = (tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k) ++ (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k.val) := by
  rw [pb_k0_t4.eq_2]; unfold pb_k0_t4Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k)⌝))

set_option warn.classDefReducibility false in
/-- THE LOOP BY ITS INVARIANT (`@[sl_loop]`: `sl_exec` finds it meeting `k0_t4_loop`,
   fixing `X_· G_·` against the context; after the loop each written memref holds `writes G (pb …
   trips)`). -/
@[sl_loop] def loopInv_k0_t4 (E : Set ℕ) (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (G_arg15 : BufTy.Contents (Elt F) arg15.view.ty) :
    LoopInvTy_k0_t4 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 where
  inv := inv_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t4_succ]
      iexists _; isplitl [HW_arg15]; · iexact HW_arg15
      ipureintro; rw [h_arg15, ← View.writes_append]

/-! ### `k0_t5_loop`: the invariant (classifier: affine) -/

/-- One trip's resources: what the region reads (arg8, arg14) at its contents, what it writes
   (arg15) at any. -/
abbrev Trip_k0_t5 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t5_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t5_loop.trips) :
    { L_arg15 : List (View.Piece (Elt F) S4608x512 .bf16) // ∀ (E : Set ℕ) (f_arg15 : BufTy.Contents (Elt F) arg15.view.ty),
      Trip_k0_t5 (F := F) c arg8 arg14 arg15 X_arg8 X_arg14 f_arg15
      ⊢ wp frame (wpE (defs₀ (F := F)) 𝒱 (c : Thread nD τ) bd) E (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 k PUnit.unit)
          (fun _ => Trip_k0_t5 (F := F) c arg8 arg14 arg15 X_arg8 X_arg14 (arg15.view.writes (Elt F) f_arg15 L_arg15)) } := by
  have hk : k.val < 2 := Nat.lt_of_lt_of_le k.isLt k0_t5_abs.2.1
  refine ⟨?_, fun E f_arg15 => ?run⟩
  case run =>
    unfold k0_t5_body
    iintro ⟨HR_arg8, HR_arg14, HW_arg15⟩
    sl_exec
    sl_step
    sl_close

/-- The trip's piece lists (plain projections of `trip_…`, for the recursion below to cite without
   its proof). -/
abbrev tripL_k0_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t5_loop.trips) : List (View.Piece (Elt F) S4608x512 .bf16) :=
  (trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k).1

/-- Trip `k`'s contribution to the state the recursion `pb_k0_t5` below carries (`prev`): its pieces
   in front, per written memref; past the last trip, `prev` itself. -/
@[irreducible] def pb_k0_t5Step (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t5_loop.trips then
    (tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 ⟨k, h⟩) ++ prev
  else prev

/-- The pieces of the trips before `k` (last first), per written memref. -/
def pb_k0_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) : ℕ → List (View.Piece (Elt F) S4608x512 .bf16)
  | 0 => []
  | k + 1 => pb_k0_t5Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k (pb_k0_t5 v25 v182 v496 v533 v539 v543 v547 v570 v576 v580 v584 v587 v590 v591 X_arg8 X_arg14 k)

theorem pb_k0_t5_succ (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (k : Fin k0_t5_loop.trips) :
    pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (k.val + 1)
      = (tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k) ++ (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k.val) := by
  rw [pb_k0_t5.eq_2]; unfold pb_k0_t5Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k)⌝))

set_option warn.classDefReducibility false in
/-- THE LOOP BY ITS INVARIANT (`@[sl_loop]`: `sl_exec` finds it meeting `k0_t5_loop`,
   fixing `X_· G_·` against the context; after the loop each written memref holds `writes G (pb …
   trips)`). -/
@[sl_loop] def loopInv_k0_t5 (E : Set ℕ) (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (X_arg8 : BufTy.Contents (Elt F) arg8.view.ty) (X_arg14 : BufTy.Contents (Elt F) arg14.view.ty) (G_arg15 : BufTy.Contents (Elt F) arg15.view.ty) :
    LoopInvTy_k0_t5 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 where
  inv := inv_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t5_succ]
      iexists _; isplitl [HW_arg15]; · iexact HW_arg15
      ipureintro; rw [h_arg15, ← View.writes_append]

/-! ### `k0_t6_loop`: the invariant (classifier: affine) -/

/-- One trip's resources: what the region reads (arg8, arg14) at its contents, what it writes
   (arg15) at any. -/
abbrev Trip_k0_t6 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t6_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t6_loop.trips) :
    { L_arg15 : List (View.Piece (Elt F) S4608x512 .bf16) // ∀ (E : Set ℕ) (f_arg15 : BufTy.Contents (Elt F) arg15.view.ty),
      Trip_k0_t6 (F := F) c arg8 arg14 arg15 X_arg8 X_arg14 f_arg15
      ⊢ wp frame (wpE (defs₀ (F := F)) 𝒱 (c : Thread nD τ) bd) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 k PUnit.unit)
          (fun _ => Trip_k0_t6 (F := F) c arg8 arg14 arg15 X_arg8 X_arg14 (arg15.view.writes (Elt F) f_arg15 L_arg15)) } := by
  have hk : k.val < 16 := Nat.lt_of_lt_of_le k.isLt k0_t6_abs.2.1
  refine ⟨?_, fun E f_arg15 => ?run⟩
  case run =>
    unfold k0_t6_body
    iintro ⟨HR_arg8, HR_arg14, HW_arg15⟩
    sl_exec
    sl_step
    sl_close

/-- The trip's piece lists (plain projections of `trip_…`, for the recursion below to cite without
   its proof). -/
abbrev tripL_k0_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t6_loop.trips) : List (View.Piece (Elt F) S4608x512 .bf16) :=
  (trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k).1

/-- Trip `k`'s contribution to the state the recursion `pb_k0_t6` below carries (`prev`): its pieces
   in front, per written memref; past the last trip, `prev` itself. -/
@[irreducible] def pb_k0_t6Step (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t6_loop.trips then
    (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 ⟨k, h⟩) ++ prev
  else prev

/-- The pieces of the trips before `k` (last first), per written memref. -/
def pb_k0_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) : ℕ → List (View.Piece (Elt F) S4608x512 .bf16)
  | 0 => []
  | k + 1 => pb_k0_t6Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k (pb_k0_t6 v25 v646 v652 v656 v660 v683 v689 v693 v697 v720 v722 c1_i32_254 X_arg8 X_arg14 k)

theorem pb_k0_t6_succ (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t6_loop.trips) :
    pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 (k.val + 1)
      = (tripL_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k) ++ (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k.val) := by
  rw [pb_k0_t6.eq_2]; unfold pb_k0_t6Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k)⌝))

set_option warn.classDefReducibility false in
/-- THE LOOP BY ITS INVARIANT (`@[sl_loop]`: `sl_exec` finds it meeting `k0_t6_loop`,
   fixing `X_· G_·` against the context; after the loop each written memref holds `writes G (pb …
   trips)`). -/
@[sl_loop] def loopInv_k0_t6 (E : Set ℕ) (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (G_arg15 : BufTy.Contents (Elt F) arg15.view.ty) :
    LoopInvTy_k0_t6 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 where
  inv := inv_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t6_succ]
      iexists _; isplitl [HW_arg15]; · iexact HW_arg15
      ipureintro; rw [h_arg15, ← View.writes_append]

/-! ### `k0_t7_loop`: the invariant (classifier: affine) -/

/-- One trip's resources: what the region reads (arg8, arg14) at its contents, what it writes
   (arg15) at any. -/
abbrev Trip_k0_t7 (c : Dev nD) (arg8 : Memref sig .tc .vmem S3x576x640 .fp8e4m3) (arg14 : Memref sig .tc .vmem S4x8x128 .f32) (arg15 : Memref sig .tc .vmem S4608x512 .bf16) (X_arg8 : BufTy.Contents (Elt F) arg8.view.ty) (X_arg14 : BufTy.Contents (Elt F) arg14.view.ty) (f_arg15 : BufTy.Contents (Elt F) arg15.view.ty) : sProp 𝕄G :=
  iprop((arg8.view.loc (c : Thread nD τ) ↦[arg8.view.set]{fullShare} X_arg8) ∗ (arg14.view.loc (c : Thread nD τ) ↦[arg14.view.set]{fullShare} X_arg14) ∗ (arg15.view.loc (c : Thread nD τ) ↦[arg15.view.set]{fullShare} f_arg15))

/-- ONE TRIP of `k0_t7_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t7_loop.trips) :
    { L_arg15 : List (View.Piece (Elt F) S4608x512 .bf16) // ∀ (E : Set ℕ) (f_arg15 : BufTy.Contents (Elt F) arg15.view.ty),
      Trip_k0_t7 (F := F) c arg8 arg14 arg15 X_arg8 X_arg14 f_arg15
      ⊢ wp frame (wpE (defs₀ (F := F)) 𝒱 (c : Thread nD τ) bd) E (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 k PUnit.unit)
          (fun _ => Trip_k0_t7 (F := F) c arg8 arg14 arg15 X_arg8 X_arg14 (arg15.view.writes (Elt F) f_arg15 L_arg15)) } := by
  have hk : k.val < 2 := Nat.lt_of_lt_of_le k.isLt k0_t7_abs.2.1
  refine ⟨?_, fun E f_arg15 => ?run⟩
  case run =>
    unfold k0_t7_body
    iintro ⟨HR_arg8, HR_arg14, HW_arg15⟩
    sl_exec
    sl_step
    sl_close

/-- The trip's piece lists (plain projections of `trip_…`, for the recursion below to cite without
   its proof). -/
abbrev tripL_k0_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t7_loop.trips) : List (View.Piece (Elt F) S4608x512 .bf16) :=
  (trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k).1

/-- Trip `k`'s contribution to the state the recursion `pb_k0_t7` below carries (`prev`): its pieces
   in front, per written memref; past the last trip, `prev` itself. -/
@[irreducible] def pb_k0_t7Step (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : ℕ) (prev : List (View.Piece (Elt F) S4608x512 .bf16)) : List (View.Piece (Elt F) S4608x512 .bf16) :=
  if h : k < k0_t7_loop.trips then
    (tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 ⟨k, h⟩) ++ prev
  else prev

/-- The pieces of the trips before `k` (last first), per written memref. -/
def pb_k0_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) : ℕ → List (View.Piece (Elt F) S4608x512 .bf16)
  | 0 => []
  | k + 1 => pb_k0_t7Step 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k (pb_k0_t7 v25 v646 v652 v656 v660 v683 v689 v693 v697 v720 v722 c1_i32_254 X_arg8 X_arg14 k)

theorem pb_k0_t7_succ (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (k : Fin k0_t7_loop.trips) :
    pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 (k.val + 1)
      = (tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k) ++ (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k.val) := by
  rw [pb_k0_t7.eq_2]; unfold pb_k0_t7Step; exact dif_pos k.isLt

/-- THE INVARIANT before trip `k`: arg8, arg14 read at `X_·`; arg15 holding the pieces of the trips
   before `k` written over the contents at loop entry `G_·` (stated `∃ f, … ∗ ⌜f = …⌝`, so that a
   hypothesis of any contents matches and the equation is what is proved). -/
abbrev inv_k0_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (G_arg15 : BufTy.Contents (Elt F) arg15.view.ty) (k : ℕ) (_u : PUnit) : sProp 𝕄G :=
  iprop((arg8.view.loc (c : Thread nD τ) ↦[arg8.view.set]{fullShare} X_arg8) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k)⌝))

set_option warn.classDefReducibility false in
/-- THE LOOP BY ITS INVARIANT (`@[sl_loop]`: `sl_exec` finds it meeting `k0_t7_loop`,
   fixing `X_· G_·` against the context; after the loop each written memref holds `writes G (pb …
   trips)`). -/
@[sl_loop] def loopInv_k0_t7 (E : Set ℕ) (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1_i32_254 : BitVec 32) (X_arg8 : BufTy.Contents (Elt F) arg8.view.ty) (X_arg14 : BufTy.Contents (Elt F) arg14.view.ty) (G_arg15 : BufTy.Contents (Elt F) arg15.view.ty) :
    LoopInvTy_k0_t7 (F := F) Unit ℕ (UR sig nD τ × Counters) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 where
  inv := inv_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 G_arg15
  step k acc := by
    iintro ⟨HR_arg8, HR_arg14, ⟨%f_arg15, HW_arg15, %h_arg15⟩⟩
    iapply (wp_wand_r Idealize.ShloMosaic.frame (wpE (defs₀ (F := F)) 𝒱 (c : Thread nD τ) bd) E)
    isplitl [HR_arg8 HR_arg14 HW_arg15]
    · iapply ((trip_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1_i32_254 X_arg8 X_arg14 k).2 E f_arg15)
      isplitl [HR_arg8]; · iexact HR_arg8
      isplitl [HR_arg14]; · iexact HR_arg14
      iexact HW_arg15
    · iintro %_ ⟨HR_arg8, HR_arg14, HW_arg15⟩
      isplitl [HR_arg8]; · iexact HR_arg8
      isplitl [HR_arg14]; · iexact HR_arg14
      rw [pb_k0_t7_succ]
      iexists _; isplitl [HW_arg15]; · iexact HW_arg15
      ipureintro; rw [h_arg15, ← View.writes_append]

end Cert.KernelIdeal.Body

end
-- ==== Proof.KernelIdeal.Kit.lean ====
/- What the body's run and the launch of `KernelIdeal` share, at the frame kit's algebra with the transfer counters: @main up
   to the region, the frame claim's post, the staging, scratch and HBM operands as the body is called with them, its DMA
   cells, and the body obligation's invariant conjunct by conjunct. -/
module

public import proofs.«01_k».proof.Proof.Gen.KernelIdeal.Frame
public import proofs.«01_k».proof.Proof.KernelIdeal.Loops
public import Idealize.ShloMosaic.Lib.Pipeline.FrameBody
public import Idealize.ShloMosaic.Lib.Pipeline.FrameValue

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 800000 in
/-- @main up to the region, at the certificate's variants `𝒱₀`: the host operations then the region
    (`Pipeline.hmain_prefix`: `StableHlo.wp_seq` over the unscoped buffers, off `main_chain`). -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The operands left in HBM the body WRITES by its own transfers, as references (results accumulated in place; the
    run's post says nothing of them: Lib/Pipeline/Frame.lean `FramePostR`). -/
def R0 : Finset (Ref sig .tc) := {main_v5_0}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_KernelIdeal`, Defs.lean, at any `F`). -/
theorem frame_ofR (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-! ## The kernel body on any staging memrefs: a subtype the run finds -/

/-- One staging buffer of output window 0, through which its contents are stated (`View.read_writes_of_cover`: the
    choice does not matter). -/
abbrev VO0_0 : View sig .tc .vmem S3x160 .f32 := (Memref.whole cc0_stg0_0 : Memref sig .tc .vmem S3x160 .f32).view
/-- Each window's current staging memref at point `t`, spelled as the pipeline passes it (`bodyAt0`), and its wholeness. -/
abbrev ms0_0 (t : Fin cfg0.N) : Memref sig .tc .vmem S3x160 .f32 := win0_0.stage (cfg0.slots t 0)
abbrev hs0_0 (t : Fin cfg0.N) : (ms0_0 t).IsWhole := hstage0_0 0
/-- The scratch operands: whole scoped buffers of the kernel's own, passed beside the windows. -/
abbrev scM0_0 : Memref sig .tc .vmem S3x576x640 .fp8e4m3 := Memref.whole cc0_scratch0
abbrev scM0_1 : Memref sig .tc .vmem S3x640 .f32 := Memref.whole cc0_scratch1
abbrev scM0_2 : Memref sig .tc .vmem S3x8x160 .i32 := Memref.whole cc0_scratch2
abbrev scM0_3 : Memref sig .tc .vmem S8x448x576 .fp8e4m3 := Memref.whole cc0_scratch3
abbrev scM0_4 : Memref sig .tc .vmem S1x448 .f32 := Memref.whole cc0_scratch4
abbrev scM0_5 : Memref sig .tc .vmem S1x448 .f32 := Memref.whole cc0_scratch5
abbrev scM0_6 : Memref sig .tc .vmem S4x8x128 .f32 := Memref.whole cc0_scratch6
abbrev scM0_7 : Memref sig .tc .vmem S4608x512 .bf16 := Memref.whole cc0_scratch7
abbrev scM0_8 : Memref sig .tc .vmem S448x4608 .fp8e4m3 := Memref.whole cc0_scratch8
abbrev scM0_9 : Memref sig .tc .vmem S3x160x448 .fp8e4m3 := Memref.whole cc0_scratch9
/-- The operands left in HBM that the body copies into scratch itself, whole. -/
abbrev hbM0_0 : Memref sig .tc .hbm S3x576x640 .fp8e4m3 := Memref.whole main_v0
abbrev hbM0_1 : Memref sig .tc .hbm S3x640 .f32 := Memref.whole main_arg1
abbrev hbM0_2 : Memref sig .tc .hbm S3x8x160 .i32 := Memref.whole main_v1
abbrev hbM0_3 : Memref sig .tc .hbm S8x448x576 .fp8e4m3 := Memref.whole main_v2
abbrev hbM0_4 : Memref sig .tc .hbm S1x448 .f32 := Memref.whole main_v3
abbrev hbM0_5 : Memref sig .tc .hbm S1x448 .f32 := Memref.whole main_v4
abbrev hbM0_6 : Memref sig .tc .hbm S3x160x448 .fp8e4m3 := Memref.whole main_v5_0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 7 → SemLoc sig := fun j => (![SemLoc.dma 1, SemLoc.dma 2, SemLoc.dma 3, SemLoc.dma 4, SemLoc.dma 5, SemLoc.dma 6, SemLoc.dma 7] : Fin 7 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3, 4, 5, 6] (by decide) (by decide)]; rfl
/-- The HBM operands the body copies from and leaves unchanged, as references: unscoped, no window's array (`Pipeline.restRefs`). -/
def H0 : Finset (Ref sig .tc) := {main_v0, main_arg1, main_v1, main_v2, main_v3, main_v4}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_arg1) ∗ hbPt0 c hbM0_2 (V m c main_v1) ∗ hbPt0 c hbM0_3 (V m c main_v2) ∗ hbPt0 c hbM0_4 (V m c main_v3) ∗ hbPt0 c hbM0_5 (V m c main_v4)) := by
  rw [BI.bigSep_eq_bigSepL_of_eq [main_v0, main_arg1, main_v1, main_v2, main_v3, main_v4] (by decide) (by decide)]; rfl
/-- The written operands' points-tos at some contents each (`Pipeline.owned`), listed. -/
theorem ownedPts0_eq (c : Dev nD) :
    (Pipeline.owned R0 c : sProp 𝕄) = iprop((∃ f, hbPt0 c hbM0_6 f)) := by
  unfold Pipeline.owned; rw [BI.bigSep_eq_bigSepL_of_eq [main_v5_0] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ iprop(hbPt0 c hbM0_0 (V m c main_v0) ∗ hbPt0 c hbM0_1 (V m c main_arg1) ∗ hbPt0 c hbM0_2 (V m c main_v1) ∗ hbPt0 c hbM0_3 (V m c main_v2) ∗ hbPt0 c hbM0_4 (V m c main_v3) ∗ hbPt0 c hbM0_5 (V m c main_v4)) ∗ iprop((∃ f, hbPt0 c hbM0_6 f))) := by
  rw [Pipeline.ΦDR_eq, scopedRest0_eq, ownSems00_eq, hbmPts0_eq, ownedPts0_eq]; simp only [scM0_0, scM0_1, scM0_2, scM0_3, scM0_4, scM0_5, scM0_6, scM0_7, scM0_8, scM0_9, owns_whole]; try rfl

end Cert.KernelIdeal.Body

end
-- ==== Proof.KernelIdeal.Run.lean ====
/- The kernel body's RUN: from its scratch buffers, its output staging block and the result left in HBM at GIVEN contents
   and the HBM operands it copies from at theirs, the body runs to its end with its output staging block holding the pieces
   the run finds and the HBM result holding the contents the run finds — the witnesses, which the value proof reads. -/
module

public import proofs.«01_k».proof.Proof.KernelIdeal.Kit

@[expose] public section

-- membership in a rectangle of production extents (`View.cover_of_tiled`): the elaborator's structural look
-- recurses once per coordinate of the long axes
set_option maxRecDepth 16384

noncomputable section

namespace Cert.KernelIdeal.Body

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body's triple by `sl_exec` over the skeleton: `.1` the pieces its stores leave in the staging block, `.2.1` what the
    HBM result holds after the write-back. -/
noncomputable def kernelRun (c : Dev nD) (arg7 : Memref sig .tc .vmem S3x160 .f32) (harg7 : arg7.IsWhole) (arg8 : Memref sig .tc .vmem S3x576x640 .fp8e4m3) (harg8 : arg8.IsWhole) (arg9 : Memref sig .tc .vmem S3x640 .f32) (harg9 : arg9.IsWhole) (arg10 : Memref sig .tc .vmem S3x8x160 .i32) (harg10 : arg10.IsWhole) (arg11 : Memref sig .tc .vmem S8x448x576 .fp8e4m3) (harg11 : arg11.IsWhole) (arg12 : Memref sig .tc .vmem S1x448 .f32) (harg12 : arg12.IsWhole) (arg13 : Memref sig .tc .vmem S1x448 .f32) (harg13 : arg13.IsWhole) (arg14 : Memref sig .tc .vmem S4x8x128 .f32) (harg14 : arg14.IsWhole) (arg15 : Memref sig .tc .vmem S4608x512 .bf16) (harg15 : arg15.IsWhole) (arg16 : Memref sig .tc .vmem S448x4608 .fp8e4m3) (harg16 : arg16.IsWhole) (arg17 : Memref sig .tc .vmem S3x160x448 .fp8e4m3) (harg17 : arg17.IsWhole)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)
    (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fw6 : HbBuf0 (F := F) c hbM0_6) :
    Σ' (L0 : List (View.Piece (Elt F) S3x160 .f32)), { R6 : HbBuf0 (F := F) c hbM0_6 //
      ∀ (W : Waits sig Unit) (K : PUnit → sProp 𝕄),
        iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fw6 ∗ owes (c : Thread nD τ) 0 W
            ∗ (iprop((arg7.view.loc (c : Thread nD τ) ↦[arg7.view.set]{fullShare} arg7.view.writes (Elt F) f7 L0) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 R6 ∗ (∃ W', owes (c : Thread nD τ) 0 W')) -∗ K ⟨⟩))
          ⊢ wp frame (wpE (defs₀ (F := F)) Variants.none c none) Set.univ (cc0_sparse_conv (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) arg7 harg7 arg8 harg8 arg9 harg9 arg10 harg10 arg11 harg11 arg12 harg12 arg13 harg13 arg14 harg14 arg15 harg15 arg16 harg16 arg17 harg17 cc0_scratch10) K } := by
  refine ⟨?_, ?_, fun W K => ?run⟩
  case run =>
    simp only [cc0_sparse_conv_eq_skeleton]; unfold cc0_sparse_conv_skel
    simp only [k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    iintro ⟨H7, H8, H9, H10, H11, H12, H13, H14, H15, H16, H17, Hq0, Hq1, Hq2, Hq3, Hq4, Hq5, Hq6, Hh0, Hh1, Hh2, Hh3, Hh4, Hh5, Hh6, HW, Hk⟩
    sl_exec
    sl_step
    iapply Hk
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    iexists _; iexact HW

end Cert.KernelIdeal.Body

end
-- ==== Proof.KernelIdeal.Frame.lean ====
/- The FRAME of `KernelIdeal`: the body's run at every grid point gives the body obligation, with what the outputs hold forgotten;
   the launch is the library's, for a kernel that writes an operand left in HBM by its own transfer. -/
module

public import proofs.«01_k».proof.Proof.KernelIdeal.Run

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The proof data of the one pipeline: its array as the region finds it, the invariant the same at every point. What the
    output's staging buffer holds after a point is not stated (`after` is arbitrary: the launch forgets it). -/
def dats (_ : Fin 1) (c : Dev nD) : Dat τ (Elt F) Unit ℕ (Pipeline.UD sig nD τ) ℕ cfg0 c where
  A w := V m c (Pipeline.arrRef spec0 w)
  after w t := match w with
    | ⟨0, _⟩ => VO0_0.read (Elt F) VO0_0.junk
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]

set_option maxHeartbeats 1600000 in
/-- The body at any point, from the invariant and its staging buffer at anything, back to both. -/
theorem sound_body (c : Dev nD) (t : Fin cfg0.N) :
    iprop((dats m 0 c).Φ t.castSucc ∗ (dats m 0 c).owesAt () t.castSucc ∗ (∃ X, owns (c : Thread nD τ) (ms0_0 t) fullShare X))
    ⊢ wp frame (wpE (defs₀ (F := F)) Variants.none c none) Set.univ (bodyAt0 t)
      (fun _ => iprop((dats m 0 c).Φ t.succ ∗ (dats m 0 c).owesAt () t.succ ∗ (∃ X, owns (c : Thread nD τ) (ms0_0 t) fullShare X))) := by
  unfold bodyAt0
  rw [show (dats m 0 c).Φ t.succ = Pipeline.ΦDR osem0 spec0 H0 R0 (V m) c from rfl,
    show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  unfold owns
  iintro ⟨⟨⟨⟨%d8, %f8, -, HS0⟩, ⟨%d9, %f9, -, HS1⟩, ⟨%d10, %f10, -, HS2⟩, ⟨%d11, %f11, -, HS3⟩, ⟨%d12, %f12, -, HS4⟩, ⟨%d13, %f13, -, HS5⟩, ⟨%d14, %f14, -, HS6⟩, ⟨%d15, %f15, -, HS7⟩, ⟨%d16, %f16, -, HS8⟩, ⟨%d17, %f17, -, HS9⟩⟩, Hg, ⟨Hq0, Hq1, Hq2, Hq3, Hq4, Hq5, Hq6⟩, ⟨Hh0, Hh1, Hh2, Hh3, Hh4, Hh5⟩, ⟨%fw6, Hh6⟩⟩, ⟨%W, -, HW⟩, ⟨%d7, %f7, -, H0⟩⟩
  iapply ((kernelRun c (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) f7 f8 f9 f10 f11 f12 f13 f14 f15 f16 f17 (V m c main_v0) (V m c main_arg1) (V m c main_v1) (V m c main_v2) (V m c main_v3) (V m c main_v4) fw6).2.2 W _)
  isplitl [H0]; · iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [HW]; · iexact HW
  iintro ⟨H0, ⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩, ⟨%g9, HS9⟩, Hq0, Hq1, Hq2, Hq3, Hq4, Hq5, Hq6, Hh0, Hh1, Hh2, Hh3, Hh4, Hh5, Hh6, ⟨%W', HW'⟩⟩
  isplitl [HS0 HS1 HS2 HS3 HS4 HS5 HS6 HS7 HS8 HS9 Hg Hq0 Hq1 Hq2 Hq3 Hq4 Hq5 Hq6 Hh0 Hh1 Hh2 Hh3 Hh4 Hh5 Hh6]
  · isplitl [HS0 HS1 HS2 HS3 HS4 HS5 HS6 HS7 HS8 HS9]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      iexists _, _; isplitr; swap; · iexact HS9
      ipureintro; rfl
    isplitl [Hg]; · iexact Hg
    isplitl [Hq0 Hq1 Hq2 Hq3 Hq4 Hq5 Hq6]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hq6
    isplitl [Hh0 Hh1 Hh2 Hh3 Hh4 Hh5]
    · isplitl [Hh0]; · iexact Hh0
      isplitl [Hh1]; · iexact Hh1
      isplitl [Hh2]; · iexact Hh2
      isplitl [Hh3]; · iexact Hh3
      isplitl [Hh4]; · iexact Hh4
      iexact Hh5
    iexists _; iexact Hh6
  isplitl [HW']
  · iexists W'; isplitr; · ipureintro; exact fun _ _ => Or.inl trivial
    iexact HW'
  iexists _, _; isplitr; swap; · iexact H0
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, the output forgotten. -/
theorem body_obligation (c : Dev nD) :
    BodyObligationLoose (dats (F := F) m 0 c) (defs₀ (F := F)) Variants.none () Set.univ (fun _ => true) := fun t => by
  rw [bigSep_W0]; try rw [bigSep_W0]
  rw [defs₀_row]
  exact triple_restated (sound_body m c t) rfl .rfl fun _ => .rfl

set_option backward.isDefEq.respectTransparency.types false in
/-- THE LAUNCH: every unscoped buffer the kernel does not write ends as the region found it, every counter at zero. -/
theorem run_main : θ_run defs (onTc (τ := τ) (main (F := F))) (s₀ m ρ)
    (fun r => (Pipeline.RDat.FramePostR cfg0 (fun c => (dats m 0 c).toRForget fun _ => true) R0 (V m)) r ∧ r.2.sem = fun _ => 0) :=
  Pipeline.θ_run_frame_dmaR_forget (Q' := _) cfgs (dats m) (0 : Fin 1) launch0 osem0 defs₀ Variants.none (fun _ => true) ownSemFacts0 H0 R0 H0_sub R0_sub m ρ main
    (hbody := body_obligation m) (hshare := fun c => (dats m 0 c).share_full fun _ => rfl)
    (howed := fun _ _ => rfl) (V := V m) (hmain := hmainD m Variants.none) (hA := A_eq m)
    (hin := fun _ => .rfl) (hout := fun _ => .rfl)

/-- THE FRAME: the arguments end unchanged and every semaphore counter at zero, from any memory. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c)⟩, h.2⟩) (run_main m ρ)

end Cert.KernelIdeal.Body

end
-- ==== Proof.KernelIdeal.Spec.lean ====
/- What the kernel computes, entry by entry, over the extended reals: the gathered and scaled activations, the scratch
   matrix of them, and the facts about 32-bit index words that read the kernel's selects. -/
module
public import proofs.«01_k».proof.Proof.KernelIdeal.Loops
public import Idealize.ShloMosaic.Lib.Pointwise

@[expose] public section
set_option maxRecDepth 16384
noncomputable section
open Idealize.ShloMosaic
namespace Cert.KernelIdeal.Body
open Cert.KernelIdeal Cert.KernelIdeal.Gen

/-- An index word as a source row: negative words read row 0, and no word reads beyond row 639. -/
def src (w : BitVec 32) : Fin 640 := ⟨min (IntOp.maxsi w 0#32).toNat 639, by omega⟩

/-- A neighbour's scale: the source row's where the index is not negative, 0 where it is. -/
def scl (w : BitVec 32) (s : Fin 640 → EReal) : EReal := Scalar.select (IntOp.cmpi .sge w 0#32) (s (src w)) 0

/-- One gathered activation: code times masked scale. -/
def act (X : S3x576x640.Idx → EReal) (XS : S3x640.Idx → EReal) (NB : S3x8x160.Idx → BitVec 32)
    (b : Fin 3) (t : Fin 160) (k : Fin 8) (c : Fin 576) : EReal :=
  X (ix3 b c (src (NB (ix3 b k t)))) * scl (NB (ix3 b k t)) fun s => XS (ix2 b s)

/-- The neighbour slot of a scratch row. -/
def kOf (r : Fin 4608) : Fin 8 := ⟨if r.val < 4096 then r.val / 512 else (r.val - 4096) / 64, by have := r.isLt; split <;> omega⟩
/-- The channel of a scratch row. -/
def cOf (r : Fin 4608) : Fin 576 := ⟨if r.val < 4096 then r.val % 512 else 512 + (r.val - 4096) % 64, by split <;> omega⟩
/-- The batch of a scratch column. -/
def bOf (l : Fin 512) : Fin 3 := ⟨if l.val < 384 then l.val / 128 else min ((l.val - 384) / 32) 2, by split <;> omega⟩
/-- The token of a scratch column. -/
def tOf (l : Fin 512) : Fin 160 := ⟨if l.val < 384 then l.val % 128 else 128 + (l.val - 384) % 32, by split <;> omega⟩

/-- The scratch matrix of gathered activations; its last 32 columns are 0. -/
def rhsQ (X : S3x576x640.Idx → EReal) (XS : S3x640.Idx → EReal) (NB : S3x8x160.Idx → BitVec 32) (i : S4608x512.Idx) : EReal :=
  if (i 1).val < 480 then act X XS NB (bOf (i 1)) (tOf (i 1)) (kOf (i 0)) (cOf (i 0)) else 0

/-- The scale tile: rows 0 to 2 for the first 128 tokens of the batches, row 3 for the last 32 tokens of all three. -/
def scQ (XS : S3x640.Idx → EReal) (NB : S3x8x160.Idx → BitVec 32) (i : S4x8x128.Idx) : EReal :=
  if h : (i 0).val < 3 then scl (NB (ix3 ⟨(i 0).val, h⟩ (i 1) ⟨(i 2).val, by have := (i 2).isLt; show _ < 160; have : (i 2).val < 128 := this; omega⟩)) fun s => XS (ix2 ⟨(i 0).val, h⟩ s)
  else if h : (i 2).val < 96 then scl (NB (ix3 ⟨(i 2).val / 32, by omega⟩ (i 1) ⟨128 + (i 2).val % 32, by omega⟩)) fun s => XS (ix2 ⟨(i 2).val / 32, by omega⟩ s)
  else 0

theorem sel_ofBool {α : Type} (p : Prop) [Decidable p] (a b : α) : Scalar.select (BitVec.ofBool (decide p)) a b = if p then a else b := by
  by_cases h : p <;> simp [h, Scalar.select]

theorem bit1_eq : ∀ n : Fin 640, IntOp.cmpi .ne (IntOp.andi (IntOp.shrsi .vector (BitVec.ofNat 32 n.val) 7#32) 1#32) 0#32 = BitVec.ofBool (decide (n.val / 128 = 1 ∨ n.val / 128 = 3)) := by decide +kernel
theorem bit2_eq : ∀ n : Fin 640, IntOp.cmpi .ne (IntOp.andi (IntOp.shrsi .vector (BitVec.ofNat 32 n.val) 7#32) 2#32) 0#32 = BitVec.ofBool (decide (n.val / 128 = 2 ∨ n.val / 128 = 3)) := by decide +kernel
theorem bit4_eq : ∀ n : Fin 640, IntOp.cmpi .ne (IntOp.andi (IntOp.shrsi .vector (BitVec.ofNat 32 n.val) 7#32) 4#32) 0#32 = BitVec.ofBool (decide (n.val / 128 = 4)) := by decide +kernel
theorem lo_eq : ∀ n : Fin 640, (Scalar.select (IntOp.cmpi .slt (IntOp.andi (BitVec.ofNat 32 n.val) 127#32) 0#32)
    (IntOp.addi (IntOp.andi (BitVec.ofNat 32 n.val) 127#32) 128#32) (IntOp.andi (BitVec.ofNat 32 n.val) 127#32)).toNat % 128 = n.val % 128 := by decide +kernel

/-- The lane a word reads within a tile of 128. -/
abbrev loW (m : BitVec 32) : ℕ := (Scalar.select (IntOp.cmpi .slt (IntOp.andi m 127#32) 0#32)
    (IntOp.addi (IntOp.andi m 127#32) 128#32) (IntOp.andi m 127#32)).toNat % 128

/-- The five-tile gather: the bits above the low seven of a word below 640 choose the tile, the low seven the lane. -/
theorem pick_eq {α : Type} (m : BitVec 32) (hm : m.toNat < 640) (G : Fin 640 → α) (A0 A1 A2 A3 A4 : α)
    (h0 : ∀ h : loW m < 640, A0 = G ⟨loW m, h⟩) (h1 : ∀ h : 128 + loW m < 640, A1 = G ⟨128 + loW m, h⟩)
    (h2 : ∀ h : 256 + loW m < 640, A2 = G ⟨256 + loW m, h⟩) (h3 : ∀ h : 384 + loW m < 640, A3 = G ⟨384 + loW m, h⟩)
    (h4 : ∀ h : 512 + loW m < 640, A4 = G ⟨512 + loW m, h⟩) :
    Scalar.select (IntOp.cmpi .ne (IntOp.andi (IntOp.shrsi .vector m 7#32) 4#32) 0#32) A4
      (Scalar.select (IntOp.cmpi .ne (IntOp.andi (IntOp.shrsi .vector m 7#32) 2#32) 0#32)
        (Scalar.select (IntOp.cmpi .ne (IntOp.andi (IntOp.shrsi .vector m 7#32) 1#32) 0#32) A3 A2)
        (Scalar.select (IntOp.cmpi .ne (IntOp.andi (IntOp.shrsi .vector m 7#32) 1#32) 0#32) A1 A0)) = G ⟨m.toNat, hm⟩ := by
  obtain ⟨n, rfl⟩ : ∃ n : Fin 640, m = BitVec.ofNat 32 n.val := ⟨⟨m.toNat, hm⟩, by simp⟩
  have hn : (BitVec.ofNat 32 n.val).toNat = n.val := by simp; omega
  have hlo : loW (BitVec.ofNat 32 n.val) = n.val % 128 := lo_eq n
  simp only [bit1_eq, bit2_eq, bit4_eq, sel_ofBool]
  have hlt := n.isLt
  have key : n.val / 128 = 0 ∨ n.val / 128 = 1 ∨ n.val / 128 = 2 ∨ n.val / 128 = 3 ∨ n.val / 128 = 4 := by omega
  rcases key with h | h | h | h | h <;> simp only [h] <;> norm_num
  · rw [h0 (by omega)]; congr 1; apply Fin.ext; simp only [hlo, hn]; omega
  · rw [h1 (by omega)]; congr 1; apply Fin.ext; simp only [hlo, hn]; omega
  · rw [h2 (by omega)]; congr 1; apply Fin.ext; simp only [hlo, hn]; omega
  · rw [h3 (by omega)]; congr 1; apply Fin.ext; simp only [hlo, hn]; omega
  · rw [h4 (by omega)]; congr 1; apply Fin.ext; simp only [hlo, hn]; omega

/-- The same gather, read as the source row of the clamped word. -/
theorem pick_src {α : Type} (w : BitVec 32) (hw : (IntOp.maxsi w 0#32).toNat < 640) (G : Fin 640 → α) (A0 A1 A2 A3 A4 : α)
    (h0 : ∀ h, A0 = G ⟨loW (IntOp.maxsi w 0#32), h⟩) (h1 : ∀ h, A1 = G ⟨128 + loW (IntOp.maxsi w 0#32), h⟩)
    (h2 : ∀ h, A2 = G ⟨256 + loW (IntOp.maxsi w 0#32), h⟩) (h3 : ∀ h, A3 = G ⟨384 + loW (IntOp.maxsi w 0#32), h⟩)
    (h4 : ∀ h, A4 = G ⟨512 + loW (IntOp.maxsi w 0#32), h⟩) :
    Scalar.select (IntOp.cmpi .ne (IntOp.andi (IntOp.shrsi .vector (IntOp.maxsi w 0#32) 7#32) 4#32) 0#32) A4
      (Scalar.select (IntOp.cmpi .ne (IntOp.andi (IntOp.shrsi .vector (IntOp.maxsi w 0#32) 7#32) 2#32) 0#32)
        (Scalar.select (IntOp.cmpi .ne (IntOp.andi (IntOp.shrsi .vector (IntOp.maxsi w 0#32) 7#32) 1#32) 0#32) A3 A2)
        (Scalar.select (IntOp.cmpi .ne (IntOp.andi (IntOp.shrsi .vector (IntOp.maxsi w 0#32) 7#32) 1#32) 0#32) A1 A0)) = G (src w) := by
  rw [pick_eq _ hw G A0 A1 A2 A3 A4 h0 h1 h2 h3 h4]
  congr 1; apply Fin.ext; show (IntOp.maxsi w 0#32).toNat = min (IntOp.maxsi w 0#32).toNat 639; omega

/-- A load through a unit rectangle of a view that reads `G`, at an index of rank 3. -/
theorem ld3 {sig : RefSig} {κ : Kind} {sp : Space} {e : EltTy} {d0 d1 d2 s0 s1 s2 : ℕ} {v : View sig κ sp ⟨3, ![d0, d1, d2]⟩ e} {f : BufTy.Contents (Elt Ideal) v.ty}
    {G : (⟨3, ![d0, d1, d2]⟩ : Shape).Idx → Elt Ideal e} (hG : v.read (Elt Ideal) f = G) {off : Fin 3 → ℕ} {o0 o1 o2 : ℕ} (ho : off = ![o0, o1, o2])
    (inb : ∀ a, off a + ![s0, s1, s2] a ≤ (⟨3, ![d0, d1, d2]⟩ : Shape).size a) {x0 : Fin s0} {x1 : Fin s1} {x2 : Fin s2} (y0 : Fin d0) (y1 : Fin d1) (y2 : Fin d2)
    (h0 : y0.val = o0 + x0.val) (h1 : y1.val = o1 + x1.val) (h2 : y2.val = o2 + x2.val) :
    View.readAt (Elt Ideal) v (Rect.unit (s := ⟨3, ![d0, d1, d2]⟩) off ![s0, s1, s2] inb).toLoadRect f (ix3 x0 x1 x2) = G (ix3 y0 y1 y2) := by
  subst ho
  rw [View.readAt_eq_ld, hG]
  show G _ = G _
  congr 1
  funext a
  apply Fin.ext
  fin_cases a
  · show _ + 1 * _ = _; simp only [Nat.one_mul]; exact h0.symm
  · show _ + 1 * _ = _; simp only [Nat.one_mul]; exact h1.symm
  · show _ + 1 * _ = _; simp only [Nat.one_mul]; exact h2.symm

/-- A load through a unit rectangle of a view that reads `G`, at an index of rank 2. -/
theorem ld2 {sig : RefSig} {κ : Kind} {sp : Space} {e : EltTy} {d0 d1 s0 s1 : ℕ} {v : View sig κ sp ⟨2, ![d0, d1]⟩ e} {f : BufTy.Contents (Elt Ideal) v.ty}
    {G : (⟨2, ![d0, d1]⟩ : Shape).Idx → Elt Ideal e} (hG : v.read (Elt Ideal) f = G) {off : Fin 2 → ℕ} {o0 o1 : ℕ} (ho : off = ![o0, o1])
    (inb : ∀ a, off a + ![s0, s1] a ≤ (⟨2, ![d0, d1]⟩ : Shape).size a) {x0 : Fin s0} {x1 : Fin s1} (y0 : Fin d0) (y1 : Fin d1)
    (h0 : y0.val = o0 + x0.val) (h1 : y1.val = o1 + x1.val) :
    View.readAt (Elt Ideal) v (Rect.unit (s := ⟨2, ![d0, d1]⟩) off ![s0, s1] inb).toLoadRect f (ix2 x0 x1) = G (ix2 y0 y1) := by
  subst ho
  rw [View.readAt_eq_ld, hG]
  show G _ = G _
  congr 1
  funext a
  apply Fin.ext
  fin_cases a
  · show _ + 1 * _ = _; simp only [Nat.one_mul]; exact h0.symm
  · show _ + 1 * _ = _; simp only [Nat.one_mul]; exact h1.symm

/-- Where a unit rectangle puts an index of rank 2. -/
theorem emb2 {d0 d1 s0 s1 : ℕ} {off : Fin 2 → ℕ} {o0 o1 : ℕ} (ho : off = ![o0, o1])
    (inb : ∀ a, off a + ![s0, s1] a ≤ (⟨2, ![d0, d1]⟩ : Shape).size a) {x0 : Fin s0} {x1 : Fin s1} (y0 : Fin d0) (y1 : Fin d1)
    (h0 : y0.val = o0 + x0.val) (h1 : y1.val = o1 + x1.val) :
    (Rect.unit (s := ⟨2, ![d0, d1]⟩) off ![s0, s1] inb).emb (ix2 x0 x1) = ix2 y0 y1 := by
  subst ho
  funext a
  apply Fin.ext
  fin_cases a
  · show _ + 1 * _ = _; simp only [Nat.one_mul]; exact h0.symm
  · show _ + 1 * _ = _; simp only [Nat.one_mul]; exact h1.symm

/-- Where a unit rectangle puts an index of rank 3. -/
theorem emb3 {d0 d1 d2 s0 s1 s2 : ℕ} {off : Fin 3 → ℕ} {o0 o1 o2 : ℕ} (ho : off = ![o0, o1, o2])
    (inb : ∀ a, off a + ![s0, s1, s2] a ≤ (⟨3, ![d0, d1, d2]⟩ : Shape).size a) {x0 : Fin s0} {x1 : Fin s1} {x2 : Fin s2} (y0 : Fin d0) (y1 : Fin d1) (y2 : Fin d2)
    (h0 : y0.val = o0 + x0.val) (h1 : y1.val = o1 + x1.val) (h2 : y2.val = o2 + x2.val) :
    (Rect.unit (s := ⟨3, ![d0, d1, d2]⟩) off ![s0, s1, s2] inb).emb (ix3 x0 x1 x2) = ix3 y0 y1 y2 := by
  subst ho
  funext a
  apply Fin.ext
  fin_cases a
  · show _ + 1 * _ = _; simp only [Nat.one_mul]; exact h0.symm
  · show _ + 1 * _ = _; simp only [Nat.one_mul]; exact h1.symm
  · show _ + 1 * _ = _; simp only [Nat.one_mul]; exact h2.symm

/-- Every piece of a list holds `G` at the place it is stored to. -/
def Good {s : Shape} {e : EltTy} (G : s.Idx → Elt Ideal e) (L : List (View.Piece (Elt Ideal) s e)) : Prop := ∀ p ∈ L, ∀ x, p.2 x = G (p.1.emb x)

theorem kOf_val (r : Fin 4608) : (kOf r).val = if r.val < 4096 then r.val / 512 else (r.val - 4096) / 64 := rfl
theorem cOf_val (r : Fin 4608) : (cOf r).val = if r.val < 4096 then r.val % 512 else 512 + (r.val - 4096) % 64 := rfl
theorem bOf_val (l : Fin 512) : (bOf l).val = if l.val < 384 then l.val / 128 else min ((l.val - 384) / 32) 2 := rfl
theorem tOf_val (l : Fin 512) : (tOf l).val = if l.val < 384 then l.val % 128 else 128 + (l.val - 384) % 32 := rfl

/-- An entry of the scratch matrix by slot, channel, batch and token. -/
theorem rhsQ_at (X : S3x576x640.Idx → EReal) (XS : S3x640.Idx → EReal) (NB : S3x8x160.Idx → BitVec 32) (b : Fin 3) (t : Fin 160) (k : Fin 8) (c : Fin 576)
    (r : Fin 4608) (l : Fin 512) (hr : r.val = if c.val < 512 then 512 * k.val + c.val else 4096 + 64 * k.val + (c.val - 512))
    (hl : l.val = if t.val < 128 then 128 * b.val + t.val else 384 + 32 * b.val + (t.val - 128)) :
    rhsQ X XS NB (ix2 r l) = act X XS NB b t k c := by
  have hk := k.isLt
  have hb := b.isLt
  have hc := c.isLt
  have ht := t.isLt
  have e1 : kOf r = k := Fin.ext (by rw [kOf_val]; split_ifs at * <;> omega)
  have e2 : cOf r = c := Fin.ext (by rw [cOf_val]; split_ifs at * <;> omega)
  have e3 : bOf l = b := Fin.ext (by rw [bOf_val]; split_ifs at * <;> omega)
  have e4 : tOf l = t := Fin.ext (by rw [tOf_val]; split_ifs at * <;> omega)
  show (if l.val < 480 then act X XS NB (bOf l) (tOf l) (kOf r) (cOf r) else 0) = _
  rw [if_pos (by split at hl <;> omega), e1, e2, e3, e4]

/-- An entry of the scratch matrix in its last 32 columns. -/
theorem rhsQ_zero (X : S3x576x640.Idx → EReal) (XS : S3x640.Idx → EReal) (NB : S3x8x160.Idx → BitVec 32) (r : Fin 4608) (l : Fin 512) (hl : 480 ≤ l.val) :
    rhsQ X XS NB (ix2 r l) = 0 := if_neg (by show ¬ l.val < 480; omega)

theorem scl_congr (XS : S3x640.Idx → EReal) (NB : S3x8x160.Idx → BitVec 32) (k : Fin 8) {b b' : Fin 3} {t t' : Fin 160} (hb : b.val = b'.val) (ht : t.val = t'.val) :
    (scl (NB (ix3 b k t)) fun s => XS (ix2 b s)) = scl (NB (ix3 b' k t')) fun s => XS (ix2 b' s) := by
  obtain rfl := Fin.ext hb
  obtain rfl := Fin.ext ht
  rfl

/-- An entry of the scale tile of a batch's first 128 tokens. -/
theorem scQ_main (XS : S3x640.Idx → EReal) (NB : S3x8x160.Idx → BitVec 32) (b : Fin 3) (k : Fin 8) (l : Fin 128) (b' : Fin 4) (hb : b'.val = b.val) (t : Fin 160) (ht : t.val = l.val) :
    scQ XS NB (ix3 b' k l) = scl (NB (ix3 b k t)) fun s => XS (ix2 b s) := by
  have hb3 : b'.val < 3 := by have := b.isLt; omega
  unfold scQ
  rw [dif_pos (show ((ix3 b' k l : S4x8x128.Idx) 0).val < 3 from hb3)]
  exact scl_congr XS NB k hb ht.symm

/-- An entry of the scale tile of the last 32 tokens. -/
theorem scQ_tail (XS : S3x640.Idx → EReal) (NB : S3x8x160.Idx → BitVec 32) (b : Fin 3) (k : Fin 8) (l : Fin 128) (b' : Fin 4) (hb : b'.val = 3) (t : Fin 160)
    (ht : 128 ≤ t.val) (hl : l.val = 32 * b.val + (t.val - 128)) :
    scQ XS NB (ix3 b' k l) = scl (NB (ix3 b k t)) fun s => XS (ix2 b s) := by
  have hb3 := b.isLt
  have ht' := t.isLt
  unfold scQ
  rw [dif_neg (show ¬ ((ix3 b' k l : S4x8x128.Idx) 0).val < 3 from by show ¬ b'.val < 3; omega),
    dif_pos (show ((ix3 b' k l : S4x8x128.Idx) 2).val < 96 from by show l.val < 96; omega)]
  exact scl_congr XS NB k (by show l.val / 32 = b.val; omega) (by show 128 + l.val % 32 = t.val; omega)

/-- The scale tile's last 32 lanes of the last row are 0. -/
theorem scQ_zero (XS : S3x640.Idx → EReal) (NB : S3x8x160.Idx → BitVec 32) (k : Fin 8) (l : Fin 128) (b' : Fin 4) (hb : b'.val = 3) (hl : 96 ≤ l.val) :
    scQ XS NB (ix3 b' k l) = 0 := by
  unfold scQ
  rw [dif_neg (show ¬ ((ix3 b' k l : S4x8x128.Idx) 0).val < 3 from by show ¬ b'.val < 3; omega),
    dif_neg (show ¬ ((ix3 b' k l : S4x8x128.Idx) 2).val < 96 from by show ¬ l.val < 96; omega)]

/-- The members of a list built trip by trip. -/
theorem mem_trips {α : Type} {N : ℕ} (f : ℕ → List α) (tl : Fin N → List α) (h0 : f 0 = []) (hs : ∀ k : Fin N, f (k.val + 1) = tl k ++ f k.val)
    (p : α) : p ∈ f N ↔ ∃ k, p ∈ tl k := by
  have key : ∀ n ≤ N, (p ∈ f n ↔ ∃ k : Fin N, k.val < n ∧ p ∈ tl k) := by
    intro n
    induction n with
    | zero => intro _; simp [h0]
    | succ n ih =>
      intro hn
      rw [hs ⟨n, hn⟩, List.mem_append, ih (by omega)]
      constructor
      · rintro (h | ⟨k, hk, h⟩)
        · exact ⟨⟨n, hn⟩, Nat.lt_succ_self n, h⟩
        · exact ⟨k, Nat.lt_succ_of_lt hk, h⟩
      · rintro ⟨k, hk, h⟩
        rcases Nat.lt_succ_iff_lt_or_eq.mp hk with h' | h'
        · exact .inr ⟨k, h', h⟩
        · left; have : k = ⟨n, hn⟩ := Fin.ext h'; rwa [← this]
  rw [key N le_rfl]
  exact ⟨fun ⟨k, _, h⟩ => ⟨k, h⟩, fun ⟨k, h⟩ => ⟨k, k.isLt, h⟩⟩

end Cert.KernelIdeal.Body
-- ==== Proof.KernelIdeal.Rhs.lean ====
/- The scratch matrix of gathered activations after the kernel's main gather loop: every piece the loop stores holds the
   matrix `rhsQ` at its place, and the pieces cover the columns of the first 128 tokens. -/
module
public import proofs.«01_k».proof.Proof.KernelIdeal.Spec

@[expose] public section
set_option maxRecDepth 16384
noncomputable section
open Idealize.ShloMosaic
namespace Cert.KernelIdeal.Body
open Cert.KernelIdeal Cert.KernelIdeal.Gen

theorem main_pay (w : Vec Ideal S1x1x128 .i32) (x0 x1 x2 x3 x4 : Vec Ideal S1x32x128 .fp8e4m3) (s : Vec Ideal S1x1x128 .f32)
    (a : Fin 32) (l : Fin 128) (hw : (IntOp.maxsi (w (ix3 0 0 l)) 0#32).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay202 w (k0_pay7 (k0_pay198 w) x4) (k0_pay8 (k0_pay198 w) (k0_pay200 w) (k0_pay201 w) (k0_pay3 x0) (k0_pay4 x1) (k0_pay5 x2) (k0_pay6 x3)) s (ix2 a l)
      = G (src (w (ix3 0 0 l))) * s (ix3 0 0 l) := by
  pointwise [k0_pay202, k0_pay7, k0_pay198, k0_pay8, k0_pay200, k0_pay201, k0_pay3, k0_pay4, k0_pay5, k0_pay6, k0_pay199, k0_pay197]
  refine congrArg₂ (· * ·) (pick_src (w (ix3 0 0 l)) hw G _ _ _ _ _ (fun _ => ?_) (fun _ => ?_) (fun _ => ?_) (fun _ => ?_) (fun _ => ?_)) rfl
  · exact h0 _
  · exact h1 _
  · exact h2 _
  · exact h3 _
  · exact h4 _

variable (𝒱 : Variants) (c : Dev nD) (bd : Option 𝒱.V) (arg0 : Memref sig .tc .hbm S3x576x640 .fp8e4m3) (harg0 : arg0.IsWhole) (arg1 : Memref sig .tc .hbm S3x640 .f32) (harg1 : arg1.IsWhole) (arg2 : Memref sig .tc .hbm S3x8x160 .i32) (harg2 : arg2.IsWhole) (arg3 : Memref sig .tc .hbm S8x448x576 .fp8e4m3) (harg3 : arg3.IsWhole) (arg4 : Memref sig .tc .hbm S1x448 .f32) (harg4 : arg4.IsWhole) (arg5 : Memref sig .tc .hbm S1x448 .f32) (harg5 : arg5.IsWhole) (arg6 : Memref sig .tc .hbm S3x160x448 .fp8e4m3) (harg6 : arg6.IsWhole) (arg7 : Memref sig .tc .vmem S3x160 .f32) (harg7 : arg7.IsWhole) (arg8 : Memref sig .tc .vmem S3x576x640 .fp8e4m3) (harg8 : arg8.IsWhole) (arg9 : Memref sig .tc .vmem S3x640 .f32) (harg9 : arg9.IsWhole) (arg10 : Memref sig .tc .vmem S3x8x160 .i32) (harg10 : arg10.IsWhole) (arg11 : Memref sig .tc .vmem S8x448x576 .fp8e4m3) (harg11 : arg11.IsWhole) (arg12 : Memref sig .tc .vmem S1x448 .f32) (harg12 : arg12.IsWhole) (arg13 : Memref sig .tc .vmem S1x448 .f32) (harg13 : arg13.IsWhole) (arg14 : Memref sig .tc .vmem S4x8x128 .f32) (harg14 : arg14.IsWhole) (arg15 : Memref sig .tc .vmem S4608x512 .bf16) (harg15 : arg15.IsWhole) (arg16 : Memref sig .tc .vmem S448x4608 .fp8e4m3) (harg16 : arg16.IsWhole) (arg17 : Memref sig .tc .vmem S3x160x448 .fp8e4m3) (harg17 : arg17.IsWhole) (arg18 : DmaSems sig S7)
variable (v25 : IVec S32x128 32) (v180 : FVec Ideal S8x128 .f32) (v182 : IVec S8x128 32) (v337 : FVec Ideal S8x128 .f32) (v494 : FVec Ideal S8x128 .f32) (v498 : IVec S8x128 1) (v500 : IVec S8x128 1) (v502 : IVec S8x128 1) (cst_181 : Ideal .f32)
  (X_arg8 : BufTy.Contents (Elt Ideal) arg8.view.ty) (X_arg10 : BufTy.Contents (Elt Ideal) arg10.view.ty) (X_arg14 : BufTy.Contents (Elt Ideal) arg14.view.ty)

/-- A piece of the main loop is the store of one trip `k`, `b`, `g`. -/
theorem mem_t1 (p : View.Piece (Elt Ideal) S4608x512 .bf16) :
    p ∈ pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 (Scf.trips k0_t1_loop.lb k0_t1_loop.ub k0_t1_loop.st)
      ↔ ∃ (k : Fin k0_t1_loop.trips) (b : Fin k0_t2_loop.trips) (g : Fin k0_t3_loop.trips),
          p ∈ tripL_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k (trip_k0_t1.sl.v1154 k) b (trip_k0_t2.sl.v1157 b)
            (View.readAt (Elt Ideal) arg10.view (Rect.unit (s := S3x8x160) (k0_off1 k b) S1x1x128.size (k0_off1_inb k b)).toLoadRect X_arg10) X_arg8 X_arg14 g := by
  rw [mem_trips _ _ rfl (fun k => pb_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 k)]
  refine exists_congr fun k => ?_
  unfold tripL_k0_t1 trip_k0_t1
  rw [mem_trips _ _ rfl (fun b => pb_k0_t2_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k _ X_arg8 X_arg10 X_arg14 b)]
  refine exists_congr fun b => ?_
  unfold tripL_k0_t2 trip_k0_t2
  rw [mem_trips _ _ rfl (fun g => pb_k0_t3_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k _ b _ _ X_arg8 X_arg14 g)]

variable (X : S3x576x640.Idx → EReal) (XS : S3x640.Idx → EReal) (NB : S3x8x160.Idx → BitVec 32)
  (hX : arg8.view.read (Elt Ideal) X_arg8 = X) (hNB : arg10.view.read (Elt Ideal) X_arg10 = NB) (hSC : arg14.view.read (Elt Ideal) X_arg14 = scQ XS NB)
  (hlt : ∀ i, (IntOp.maxsi (NB i) 0#32).toNat < 640)
include hX hNB hSC hlt

/-- The main loop's pieces hold the scratch matrix. -/
theorem good_t1 : Good (rhsQ X XS NB) (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 (Scf.trips k0_t1_loop.lb k0_t1_loop.ub k0_t1_loop.st)) := by
  intro p hp
  obtain ⟨k, b, g, hp⟩ := (mem_t1 ..).1 hp
  unfold tripL_k0_t3 trip_k0_t3 at hp
  obtain rfl := List.mem_singleton.1 hp
  have hk : k.val < 8 := k.isLt
  have hb : b.val < 3 := b.isLt
  have hg : g.val < 18 := g.isLt
  intro x
  dsimp only at x ⊢
  clear hp
  idx_vars x
  have hx0 := x0.isLt
  have hx1 := x1.isLt
  have hn : (View.readAt (Elt Ideal) arg10.view (Rect.unit (s := S3x8x160) (k0_off1 k b) S1x1x128.size (k0_off1_inb k b)).toLoadRect X_arg10) (ix3 0 0 x1)
      = NB (ix3 ⟨b.val, hb⟩ ⟨k.val, hk⟩ ⟨x1.val, by omega⟩) :=
    ld3 hNB (k0_off1_eq k b) _ _ _ _ (by simp) (by simp) (by simp)
  refine (main_pay _ _ _ _ _ _ _ x0 x1 (by rw [hn]; exact hlt _) (fun s => X (ix3 ⟨b.val, hb⟩ ⟨32 * g.val + x0.val, by omega⟩ s)) ?_ ?_ ?_ ?_ ?_).trans ?_
  · intro i; exact ld3 hX (k0_off2_eq b g) _ _ _ _ (by simp) (by simp) (by simp)
  · intro i; exact ld3 hX (k0_off3_eq b g) _ _ _ _ (by simp) (by simp) (by simp)
  · intro i; exact ld3 hX (k0_off4_eq b g) _ _ _ _ (by simp) (by simp) (by simp)
  · intro i; exact ld3 hX (k0_off5_eq b g) _ _ _ _ (by simp) (by simp) (by simp)
  · intro i; exact ld3 hX (k0_off6_eq b g) _ _ _ _ (by simp) (by simp) (by simp)
  · rw [hn, ld3 hSC (k0_off7_eq k b) _ ⟨b.val, by omega⟩ ⟨k.val, hk⟩ ⟨x1.val, hx1⟩ (by simp) (by simp) (by simp),
      scQ_main XS NB ⟨b.val, hb⟩ ⟨k.val, hk⟩ ⟨x1.val, hx1⟩ _ rfl ⟨x1.val, by omega⟩ rfl,
      emb2 (k0_off8_eq k b g) _ ⟨(if g.val < 16 then 512 * k.val + 32 * g.val else 64 * k.val + 32 * g.val + 3584) + x0.val, by split <;> omega⟩
        ⟨128 * b.val + x1.val, by omega⟩ rfl rfl,
      rhsQ_at X XS NB ⟨b.val, hb⟩ ⟨x1.val, by omega⟩ ⟨k.val, hk⟩ ⟨32 * g.val + x0.val, by omega⟩]
    · rfl
    · dsimp only
      split <;> split <;> omega
    · show _ = if x1.val < 128 then _ else _
      rw [if_pos hx1]

omit hX hNB hSC hlt in
/-- The main loop's pieces cover the first 384 columns. -/
theorem cover_t1 (r : Fin 4608) (l : Fin 512) (hl : l.val < 384) :
    ∃ p ∈ pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 X_arg8 X_arg10 X_arg14 (Scf.trips k0_t1_loop.lb k0_t1_loop.ub k0_t1_loop.st),
      (ix2 r l : S4608x512.Idx) ∈ p.1.set := by
  have hc := (cOf r).isLt
  have hr := r.isLt
  let k : Fin k0_t1_loop.trips := ⟨(kOf r).val, (kOf r).isLt⟩
  let b : Fin k0_t2_loop.trips := ⟨l.val / 128, by show _ < 3; omega⟩
  let g : Fin k0_t3_loop.trips := ⟨(cOf r).val / 32, by show _ < 18; omega⟩
  obtain ⟨pl, hpl⟩ : ∃ pl, tripL_k0_t3 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v180 v182 v337 v494 v498 v500 v502 cst_181 k (trip_k0_t1.sl.v1154 k) b (trip_k0_t2.sl.v1157 b) (View.readAt (Elt Ideal) arg10.view (Rect.unit (s := S3x8x160) (k0_off1 k b) S1x1x128.size (k0_off1_inb k b)).toLoadRect X_arg10) X_arg8 X_arg14 g = [⟨Rect.unit (s := S4608x512) (k0_off8 k b g) S32x128.size (k0_off8_inb k b g), pl⟩] := by
    unfold tripL_k0_t3 trip_k0_t3
    exact ⟨_, rfl⟩
  refine ⟨_, (mem_t1 ..).2 ⟨k, b, g, by rw [hpl]; exact List.mem_singleton.2 rfl⟩, ?_⟩
  · rw [Rect.mem_set_unit, k0_off8_eq]
    have e : (cOf r).val = if r.val < 4096 then r.val % 512 else 512 + (r.val - 4096) % 64 := rfl
    have e' : (kOf r).val = if r.val < 4096 then r.val / 512 else (r.val - 4096) / 64 := rfl
    intro a
    fin_cases a
    · show (if (cOf r).val / 32 < 16 then 512 * (kOf r).val + 32 * ((cOf r).val / 32) else 64 * (kOf r).val + 32 * ((cOf r).val / 32) + 3584) ≤ r.val
        ∧ r.val < (if (cOf r).val / 32 < 16 then 512 * (kOf r).val + 32 * ((cOf r).val / 32) else 64 * (kOf r).val + 32 * ((cOf r).val / 32) + 3584) + 32
      split at e <;> split at e' <;> split <;> omega
    · show 128 * (l.val / 128) ≤ l.val ∧ l.val < 128 * (l.val / 128) + 128
      omega
-- ==== Proof.KernelIdeal.Tail.lean ====
/- The payloads of the kernel's last-32-token loops, entry by entry: the five-tile gathers of the three batches at a packed
   index vector, and the lane selects and rotations that bring each batch's tokens to its own 32 lanes. -/
module
public import proofs.«01_k».proof.Proof.KernelIdeal.Spec

@[expose] public section
set_option maxRecDepth 16384
noncomputable section
open Idealize.ShloMosaic
namespace Cert.KernelIdeal.Body
open Cert.KernelIdeal Cert.KernelIdeal.Gen

/-- An index vector split into its lane and its three tile bits. -/
structure IsIdx (lo : IVec S32x128 32) (b0 b1 b2 : IVec S32x128 1) (m : Fin 128 → BitVec 32) : Prop where
  lo : ∀ a l, lo (ix2 a l) = IntOp.andi (m l) 127#32
  b0 : ∀ a l, b0 (ix2 a l) = IntOp.cmpi .ne (IntOp.andi (IntOp.shrsi .vector (m l) 7#32) 1#32) 0#32
  b1 : ∀ a l, b1 (ix2 a l) = IntOp.cmpi .ne (IntOp.andi (IntOp.shrsi .vector (m l) 7#32) 2#32) 0#32
  b2 : ∀ a l, b2 (ix2 a l) = IntOp.cmpi .ne (IntOp.andi (IntOp.shrsi .vector (m l) 7#32) 4#32) 0#32

/-- Three alternatives by the lane's block of 32. -/
def sel3 (l : Fin 128) (u v w : EReal) : EReal := if l.val / 32 = 0 then u else if l.val / 32 = 1 then v else w

theorem rng0 (n : ℕ) (hn : n < 128) : IntOp.andi (IntOp.cmpi .sge (BitVec.ofNat 32 n) 0#32) (IntOp.cmpi .slt (BitVec.ofNat 32 n) 32#32) = BitVec.ofBool (decide (n / 32 = 0)) :=
  (show ∀ n : Fin 128, IntOp.andi (IntOp.cmpi .sge (BitVec.ofNat 32 n.val) 0#32) (IntOp.cmpi .slt (BitVec.ofNat 32 n.val) 32#32) = BitVec.ofBool (decide (n.val / 32 = 0)) by decide +kernel) ⟨n, hn⟩
theorem rng1 (n : ℕ) (hn : n < 128) : IntOp.andi (IntOp.cmpi .sge (BitVec.ofNat 32 n) 32#32) (IntOp.cmpi .slt (BitVec.ofNat 32 n) 64#32) = BitVec.ofBool (decide (n / 32 = 1)) :=
  (show ∀ n : Fin 128, IntOp.andi (IntOp.cmpi .sge (BitVec.ofNat 32 n.val) 32#32) (IntOp.cmpi .slt (BitVec.ofNat 32 n.val) 64#32) = BitVec.ofBool (decide (n.val / 32 = 1)) by decide +kernel) ⟨n, hn⟩
theorem rng2 (n : ℕ) (hn : n < 128) : IntOp.andi (IntOp.cmpi .sge (BitVec.ofNat 32 n) 64#32) (IntOp.cmpi .slt (BitVec.ofNat 32 n) 96#32) = BitVec.ofBool (decide (n / 32 = 2)) :=
  (show ∀ n : Fin 128, IntOp.andi (IntOp.cmpi .sge (BitVec.ofNat 32 n.val) 64#32) (IntOp.cmpi .slt (BitVec.ofNat 32 n.val) 96#32) = BitVec.ofBool (decide (n.val / 32 = 2)) by decide +kernel) ⟨n, hn⟩
theorem rng3 (n : ℕ) (hn : n < 128) : IntOp.andi (IntOp.cmpi .sge (BitVec.ofNat 32 n) 96#32) (IntOp.cmpi .slt (BitVec.ofNat 32 n) 128#32) = BitVec.ofBool (decide (n / 32 = 3)) :=
  (show ∀ n : Fin 128, IntOp.andi (IntOp.cmpi .sge (BitVec.ofNat 32 n.val) 96#32) (IntOp.cmpi .slt (BitVec.ofNat 32 n.val) 128#32) = BitVec.ofBool (decide (n.val / 32 = 3)) by decide +kernel) ⟨n, hn⟩

/-- The lane selects of the packed tail, read at a lane. -/
theorem sel_lane (n : ℕ) (hn : n < 128) (i j : ℕ) (l : Fin 128) (h0 : n / 32 = i ↔ l.val / 32 = 0) (h1 : n / 32 = j ↔ l.val / 32 = 1) (u v w s : EReal) :
    Scalar.select (BitVec.ofBool (decide (n / 32 = j))) v (Scalar.select (BitVec.ofBool (decide (n / 32 = i))) u w) * s = sel3 l u v w * s := by
  rw [sel_ofBool, sel_ofBool]
  congr 1
  unfold sel3
  by_cases e0 : l.val / 32 = 0
  · rw [if_pos e0, if_neg (by rw [h1]; omega), if_pos (h0.2 e0)]
  · by_cases e1 : l.val / 32 = 1
    · rw [if_neg e0, if_pos e1, if_pos (h1.2 e1)]
    · rw [if_neg e0, if_neg e1, if_neg (by rw [h1]; omega), if_neg (by rw [h0]; omega)]

theorem gath_t4a (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay14 lo b0 b1 b2 (k0_pay9 x1) (k0_pay10 x2) (k0_pay11 x3) (k0_pay12 x4) (k0_pay13 lo x0) (ix2 a l) = G ⟨(m l).toNat, hm⟩ := by
  pointwise [k0_pay14, k0_pay9, k0_pay10, k0_pay11, k0_pay12, k0_pay13]
  simp only [h.lo, h.b0, h.b1, h.b2]
  exact pick_eq (m l) hm G _ _ _ _ _ (fun _ => h0 _) (fun _ => h1 _) (fun _ => h2 _) (fun _ => h3 _) (fun _ => h4 _)

theorem gath_t4b (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay21 lo b0 b1 b2 (k0_pay16 x3) (k0_pay17 x4) (k0_pay18 lo (k0_pay15 x0)) (k0_pay19 lo x1) (k0_pay20 lo x2) 0#32 (ix2 a l) = G ⟨(m l).toNat, hm⟩ := by
  pointwise [k0_pay21, k0_pay16, k0_pay17, k0_pay18, k0_pay15, k0_pay19, k0_pay20]
  simp only [h.lo, h.b0, h.b1, h.b2]
  exact pick_eq (m l) hm G _ _ _ _ _ (fun _ => h0 _) (fun _ => h1 _) (fun _ => h2 _) (fun _ => h3 _) (fun _ => h4 _)

theorem gath_t4c (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay29 b1 b2 (k0_pay26 lo x4) (k0_pay27 lo b0 (k0_pay24 x2) (k0_pay25 x3)) (k0_pay28 lo b0 (k0_pay22 x0) (k0_pay23 x1)) (ix2 a l) = G ⟨(m l).toNat, hm⟩ := by
  pointwise [k0_pay29, k0_pay26, k0_pay27, k0_pay24, k0_pay25, k0_pay28, k0_pay22, k0_pay23]
  simp only [h.lo, h.b0, h.b1, h.b2]
  exact pick_eq (m l) hm G _ _ _ _ _ (fun _ => h0 _) (fun _ => h1 _) (fun _ => h2 _) (fun _ => h3 _) (fun _ => h4 _)

theorem tail_t40 (v25 : IVec S32x128 32) (h25 : ∀ a l, v25 (ix2 a l) = BitVec.ofNat 32 l.val) (g0 g1 : FVec Ideal S32x128 .f32) (b1 b2 : IVec S32x128 1) (x y z : FVec Ideal S32x128 .f32) (s : Vec Ideal S1x1x128 .f32) (a : Fin 32) (l l' : Fin 128)
    (hl' : l'.val = (l.val + 0) % 128) :
    k0_pay30 v25 b1 b2 g0 g1 x y z s (ix2 a l) = sel3 l (g0 (ix2 a l')) (g1 (ix2 a l')) ((k0_pay29 b1 b2 x y z) (ix2 a l')) * s (ix3 0 0 l) := by
  have hl := l.isLt
  obtain ⟨n', hn'⟩ := l'
  obtain rfl : n' = l.val := by change n' = _ at hl'; omega
  pointwise [k0_pay30]
  simp only [h25]
  rw [rng1 _ (by omega), rng0 _ (by omega)]
  exact sel_lane _ (by omega) 0 1 l (by omega) (by omega) _ _ _ _

theorem tail_t41 (v25 : IVec S32x128 32) (h25 : ∀ a l, v25 (ix2 a l) = BitVec.ofNat 32 l.val) (g0 g1 : FVec Ideal S32x128 .f32) (b1 b2 : IVec S32x128 1) (x y z : FVec Ideal S32x128 .f32) (s : Vec Ideal S1x1x128 .f32) (a : Fin 32) (l l' : Fin 128)
    (hl' : l'.val = (l.val + 32) % 128) :
    k0_pay32 (k0_pay31 v25 b1 b2 g0 g1 x y z) s (ix2 a l) = sel3 l (g0 (ix2 a l')) (g1 (ix2 a l')) ((k0_pay29 b1 b2 x y z) (ix2 a l')) * s (ix3 0 0 l) := by
  have hl := l.isLt
  obtain ⟨n', hn'⟩ := l'
  obtain rfl : n' = (l.val + 128 - 96) % 128 := by change n' = _ at hl'; omega
  pointwise [k0_pay32, k0_pay31]
  simp only [h25]
  rw [rng2 _ (by omega), rng1 _ (by omega)]
  exact sel_lane _ (by omega) 1 2 l (by omega) (by omega) _ _ _ _

theorem tail_t42 (v25 : IVec S32x128 32) (h25 : ∀ a l, v25 (ix2 a l) = BitVec.ofNat 32 l.val) (g0 g1 : FVec Ideal S32x128 .f32) (g2 : FVec Ideal S32x128 .f32) (s : Vec Ideal S1x1x128 .f32) (a : Fin 32) (l l' : Fin 128)
    (hl' : l'.val = (l.val + 64) % 128) :
    k0_pay224 (k0_pay33 v25 g0 g1 g2 s) (ix2 a l) = sel3 l (g0 (ix2 a l')) (g1 (ix2 a l')) (g2 (ix2 a l')) * s (ix3 0 0 l) := by
  have hl := l.isLt
  obtain ⟨n', hn'⟩ := l'
  obtain rfl : n' = (l.val + 128 - 64) % 128 := by change n' = _ at hl'; omega
  pointwise [k0_pay224, k0_pay33]
  simp only [h25]
  rw [rng3 _ (by omega), rng2 _ (by omega)]
  exact sel_lane _ (by omega) 2 3 l (by omega) (by omega) _ _ _ _

theorem tail_t43 (v25 : IVec S32x128 32) (h25 : ∀ a l, v25 (ix2 a l) = BitVec.ofNat 32 l.val) (g0 g1 : FVec Ideal S32x128 .f32) (g2 : FVec Ideal S32x128 .f32) (s : Vec Ideal S1x1x128 .f32) (a : Fin 32) (l l' : Fin 128)
    (hl' : l'.val = (l.val + 96) % 128) :
    k0_pay225 v25 g0 g1 g2 s (ix2 a l) = sel3 l (g0 (ix2 a l')) (g1 (ix2 a l')) (g2 (ix2 a l')) * s (ix3 0 0 l) := by
  have hl := l.isLt
  obtain ⟨n', hn'⟩ := l'
  obtain rfl : n' = (l.val + 128 - 32) % 128 := by change n' = _ at hl'; omega
  pointwise [k0_pay225]
  simp only [h25]
  rw [rng0 _ (by omega), rng3 _ (by omega)]
  exact sel_lane _ (by omega) 3 0 l (by omega) (by omega) _ _ _ _

theorem gath_t5a (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay39 lo b0 b1 b2 (k0_pay34 x1) (k0_pay35 x2) (k0_pay36 x3) (k0_pay37 x4) (k0_pay38 lo x0) (ix2 a l) = G ⟨(m l).toNat, hm⟩ := by
  pointwise [k0_pay39, k0_pay34, k0_pay35, k0_pay36, k0_pay37, k0_pay38]
  simp only [h.lo, h.b0, h.b1, h.b2]
  exact pick_eq (m l) hm G _ _ _ _ _ (fun _ => h0 _) (fun _ => h1 _) (fun _ => h2 _) (fun _ => h3 _) (fun _ => h4 _)

theorem gath_t5b (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay46 lo b0 b1 b2 (k0_pay41 x3) (k0_pay42 x4) (k0_pay43 lo (k0_pay40 x0)) (k0_pay44 lo x1) (k0_pay45 lo x2) 0#32 (ix2 a l) = G ⟨(m l).toNat, hm⟩ := by
  pointwise [k0_pay46, k0_pay41, k0_pay42, k0_pay43, k0_pay40, k0_pay44, k0_pay45]
  simp only [h.lo, h.b0, h.b1, h.b2]
  exact pick_eq (m l) hm G _ _ _ _ _ (fun _ => h0 _) (fun _ => h1 _) (fun _ => h2 _) (fun _ => h3 _) (fun _ => h4 _)

theorem gath_t5c (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay54 b1 b2 (k0_pay51 lo x4) (k0_pay52 lo b0 (k0_pay49 x2) (k0_pay50 x3)) (k0_pay53 lo b0 (k0_pay47 x0) (k0_pay48 x1)) (ix2 a l) = G ⟨(m l).toNat, hm⟩ := by
  pointwise [k0_pay54, k0_pay51, k0_pay52, k0_pay49, k0_pay50, k0_pay53, k0_pay47, k0_pay48]
  simp only [h.lo, h.b0, h.b1, h.b2]
  exact pick_eq (m l) hm G _ _ _ _ _ (fun _ => h0 _) (fun _ => h1 _) (fun _ => h2 _) (fun _ => h3 _) (fun _ => h4 _)

theorem tail_t50 (v25 : IVec S32x128 32) (h25 : ∀ a l, v25 (ix2 a l) = BitVec.ofNat 32 l.val) (g0 g1 : FVec Ideal S32x128 .f32) (b1 b2 : IVec S32x128 1) (x y z : FVec Ideal S32x128 .f32) (s : Vec Ideal S1x1x128 .f32) (a : Fin 32) (l l' : Fin 128)
    (hl' : l'.val = (l.val + 0) % 128) :
    k0_pay55 v25 b1 b2 g0 g1 x y z s (ix2 a l) = sel3 l (g0 (ix2 a l')) (g1 (ix2 a l')) ((k0_pay54 b1 b2 x y z) (ix2 a l')) * s (ix3 0 0 l) := by
  have hl := l.isLt
  obtain ⟨n', hn'⟩ := l'
  obtain rfl : n' = l.val := by change n' = _ at hl'; omega
  pointwise [k0_pay55]
  simp only [h25]
  rw [rng1 _ (by omega), rng0 _ (by omega)]
  exact sel_lane _ (by omega) 0 1 l (by omega) (by omega) _ _ _ _

theorem tail_t51 (v25 : IVec S32x128 32) (h25 : ∀ a l, v25 (ix2 a l) = BitVec.ofNat 32 l.val) (g0 g1 : FVec Ideal S32x128 .f32) (b1 b2 : IVec S32x128 1) (x y z : FVec Ideal S32x128 .f32) (s : Vec Ideal S1x1x128 .f32) (a : Fin 32) (l l' : Fin 128)
    (hl' : l'.val = (l.val + 32) % 128) :
    k0_pay57 (k0_pay56 v25 b1 b2 g0 g1 x y z) 96#32 s (ix2 a l) = sel3 l (g0 (ix2 a l')) (g1 (ix2 a l')) ((k0_pay54 b1 b2 x y z) (ix2 a l')) * s (ix3 0 0 l) := by
  have hl := l.isLt
  obtain ⟨n', hn'⟩ := l'
  obtain rfl : n' = (l.val + 128 - 96) % 128 := by change n' = _ at hl'; omega
  pointwise [k0_pay57, k0_pay56]
  simp only [h25]
  rw [rng2 _ (by omega), rng1 _ (by omega)]
  exact sel_lane _ (by omega) 1 2 l (by omega) (by omega) _ _ _ _

theorem tail_t52 (v25 : IVec S32x128 32) (h25 : ∀ a l, v25 (ix2 a l) = BitVec.ofNat 32 l.val) (g0 g1 : FVec Ideal S32x128 .f32) (g2 : FVec Ideal S32x128 .f32) (s : Vec Ideal S1x1x128 .f32) (a : Fin 32) (l l' : Fin 128)
    (hl' : l'.val = (l.val + 64) % 128) :
    k0_pay226 (k0_pay58 v25 g0 g1 g2 s) (ix2 a l) = sel3 l (g0 (ix2 a l')) (g1 (ix2 a l')) (g2 (ix2 a l')) * s (ix3 0 0 l) := by
  have hl := l.isLt
  obtain ⟨n', hn'⟩ := l'
  obtain rfl : n' = (l.val + 128 - 64) % 128 := by change n' = _ at hl'; omega
  pointwise [k0_pay226, k0_pay58]
  simp only [h25]
  rw [rng3 _ (by omega), rng2 _ (by omega)]
  exact sel_lane _ (by omega) 2 3 l (by omega) (by omega) _ _ _ _

theorem tail_t53 (v25 : IVec S32x128 32) (h25 : ∀ a l, v25 (ix2 a l) = BitVec.ofNat 32 l.val) (g0 g1 : FVec Ideal S32x128 .f32) (g2 : FVec Ideal S32x128 .f32) (s : Vec Ideal S1x1x128 .f32) (a : Fin 32) (l l' : Fin 128)
    (hl' : l'.val = (l.val + 96) % 128) :
    k0_pay227 v25 g0 g1 g2 s (ix2 a l) = sel3 l (g0 (ix2 a l')) (g1 (ix2 a l')) (g2 (ix2 a l')) * s (ix3 0 0 l) := by
  have hl := l.isLt
  obtain ⟨n', hn'⟩ := l'
  obtain rfl : n' = (l.val + 128 - 32) % 128 := by change n' = _ at hl'; omega
  pointwise [k0_pay227]
  simp only [h25]
  rw [rng0 _ (by omega), rng3 _ (by omega)]
  exact sel_lane _ (by omega) 3 0 l (by omega) (by omega) _ _ _ _

theorem gath_t6a (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay64 lo b0 b1 b2 (k0_pay59 x1) (k0_pay60 x2) (k0_pay61 x3) (k0_pay62 x4) (k0_pay63 lo x0) (ix2 a l) = G ⟨(m l).toNat, hm⟩ := by
  pointwise [k0_pay64, k0_pay59, k0_pay60, k0_pay61, k0_pay62, k0_pay63]
  simp only [h.lo, h.b0, h.b1, h.b2]
  exact pick_eq (m l) hm G _ _ _ _ _ (fun _ => h0 _) (fun _ => h1 _) (fun _ => h2 _) (fun _ => h3 _) (fun _ => h4 _)

theorem gath_t6b (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay71 lo b0 b1 b2 (k0_pay66 x3) (k0_pay67 x4) (k0_pay68 lo (k0_pay65 x0)) (k0_pay69 lo x1) (k0_pay70 lo x2) 0#32 (ix2 a l) = G ⟨(m l).toNat, hm⟩ := by
  pointwise [k0_pay71, k0_pay66, k0_pay67, k0_pay68, k0_pay65, k0_pay69, k0_pay70]
  simp only [h.lo, h.b0, h.b1, h.b2]
  exact pick_eq (m l) hm G _ _ _ _ _ (fun _ => h0 _) (fun _ => h1 _) (fun _ => h2 _) (fun _ => h3 _) (fun _ => h4 _)

theorem gath_t6c (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay79 b1 b2 (k0_pay76 lo x4) (k0_pay77 lo b0 (k0_pay74 x2) (k0_pay75 x3)) (k0_pay78 lo b0 (k0_pay72 x0) (k0_pay73 x1)) (ix2 a l) = G ⟨(m l).toNat, hm⟩ := by
  pointwise [k0_pay79, k0_pay76, k0_pay77, k0_pay74, k0_pay75, k0_pay78, k0_pay72, k0_pay73]
  simp only [h.lo, h.b0, h.b1, h.b2]
  exact pick_eq (m l) hm G _ _ _ _ _ (fun _ => h0 _) (fun _ => h1 _) (fun _ => h2 _) (fun _ => h3 _) (fun _ => h4 _)

theorem tail_t60 (v25 : IVec S32x128 32) (h25 : ∀ a l, v25 (ix2 a l) = BitVec.ofNat 32 l.val) (g0 g1 : FVec Ideal S32x128 .f32) (b1 b2 : IVec S32x128 1) (x y z : FVec Ideal S32x128 .f32) (s : Vec Ideal S1x1x128 .f32) (a : Fin 32) (l l' : Fin 128)
    (hl' : l'.val = (l.val + 0) % 128) :
    k0_pay80 v25 b1 b2 g0 g1 x y z s (ix2 a l) = sel3 l (g0 (ix2 a l')) (g1 (ix2 a l')) ((k0_pay79 b1 b2 x y z) (ix2 a l')) * s (ix3 0 0 l) := by
  have hl := l.isLt
  obtain ⟨n', hn'⟩ := l'
  obtain rfl : n' = l.val := by change n' = _ at hl'; omega
  pointwise [k0_pay80]
  simp only [h25]
  rw [rng1 _ (by omega), rng0 _ (by omega)]
  exact sel_lane _ (by omega) 0 1 l (by omega) (by omega) _ _ _ _

theorem tail_t61 (v25 : IVec S32x128 32) (h25 : ∀ a l, v25 (ix2 a l) = BitVec.ofNat 32 l.val) (g0 g1 : FVec Ideal S32x128 .f32) (b1 b2 : IVec S32x128 1) (x y z : FVec Ideal S32x128 .f32) (s : Vec Ideal S1x1x128 .f32) (a : Fin 32) (l l' : Fin 128)
    (hl' : l'.val = (l.val + 32) % 128) :
    k0_pay82 (k0_pay81 v25 b1 b2 g0 g1 x y z) s (ix2 a l) = sel3 l (g0 (ix2 a l')) (g1 (ix2 a l')) ((k0_pay79 b1 b2 x y z) (ix2 a l')) * s (ix3 0 0 l) := by
  have hl := l.isLt
  obtain ⟨n', hn'⟩ := l'
  obtain rfl : n' = (l.val + 128 - 96) % 128 := by change n' = _ at hl'; omega
  pointwise [k0_pay82, k0_pay81]
  simp only [h25]
  rw [rng2 _ (by omega), rng1 _ (by omega)]
  exact sel_lane _ (by omega) 1 2 l (by omega) (by omega) _ _ _ _

theorem tail_t62 (v25 : IVec S32x128 32) (h25 : ∀ a l, v25 (ix2 a l) = BitVec.ofNat 32 l.val) (g0 g1 : FVec Ideal S32x128 .f32) (g2 : FVec Ideal S32x128 .f32) (s : Vec Ideal S1x1x128 .f32) (a : Fin 32) (l l' : Fin 128)
    (hl' : l'.val = (l.val + 64) % 128) :
    k0_pay255 (k0_pay83 v25 g0 g1 g2 s) (ix2 a l) = sel3 l (g0 (ix2 a l')) (g1 (ix2 a l')) (g2 (ix2 a l')) * s (ix3 0 0 l) := by
  have hl := l.isLt
  obtain ⟨n', hn'⟩ := l'
  obtain rfl : n' = (l.val + 128 - 64) % 128 := by change n' = _ at hl'; omega
  pointwise [k0_pay255, k0_pay83]
  simp only [h25]
  rw [rng3 _ (by omega), rng2 _ (by omega)]
  exact sel_lane _ (by omega) 2 3 l (by omega) (by omega) _ _ _ _

theorem tail_t63 (v25 : IVec S32x128 32) (h25 : ∀ a l, v25 (ix2 a l) = BitVec.ofNat 32 l.val) (g0 g1 : FVec Ideal S32x128 .f32) (g2 : FVec Ideal S32x128 .f32) (s : Vec Ideal S1x1x128 .f32) (a : Fin 32) (l l' : Fin 128)
    (hl' : l'.val = (l.val + 96) % 128) :
    k0_pay256 v25 g0 g1 g2 s (ix2 a l) = sel3 l (g0 (ix2 a l')) (g1 (ix2 a l')) (g2 (ix2 a l')) * s (ix3 0 0 l) := by
  have hl := l.isLt
  obtain ⟨n', hn'⟩ := l'
  obtain rfl : n' = (l.val + 128 - 32) % 128 := by change n' = _ at hl'; omega
  pointwise [k0_pay256]
  simp only [h25]
  rw [rng0 _ (by omega), rng3 _ (by omega)]
  exact sel_lane _ (by omega) 3 0 l (by omega) (by omega) _ _ _ _

theorem gath_t7a (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay89 lo b0 b1 b2 (k0_pay84 x1) (k0_pay85 x2) (k0_pay86 x3) (k0_pay87 x4) (k0_pay88 lo x0) (ix2 a l) = G ⟨(m l).toNat, hm⟩ := by
  pointwise [k0_pay89, k0_pay84, k0_pay85, k0_pay86, k0_pay87, k0_pay88]
  simp only [h.lo, h.b0, h.b1, h.b2]
  exact pick_eq (m l) hm G _ _ _ _ _ (fun _ => h0 _) (fun _ => h1 _) (fun _ => h2 _) (fun _ => h3 _) (fun _ => h4 _)

theorem gath_t7b (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay96 lo b0 b1 b2 (k0_pay91 x3) (k0_pay92 x4) (k0_pay93 lo (k0_pay90 x0)) (k0_pay94 lo x1) (k0_pay95 lo x2) 0#32 (ix2 a l) = G ⟨(m l).toNat, hm⟩ := by
  pointwise [k0_pay96, k0_pay91, k0_pay92, k0_pay93, k0_pay90, k0_pay94, k0_pay95]
  simp only [h.lo, h.b0, h.b1, h.b2]
  exact pick_eq (m l) hm G _ _ _ _ _ (fun _ => h0 _) (fun _ => h1 _) (fun _ => h2 _) (fun _ => h3 _) (fun _ => h4 _)

theorem gath_t7c (lo : IVec S32x128 32) (b0 b1 b2 : IVec S32x128 1) (m : Fin 128 → BitVec 32) (h : IsIdx lo b0 b1 b2 m) (x0 x1 x2 x3 x4 : Vec Ideal S1x32x128 .fp8e4m3)
    (a : Fin 32) (l : Fin 128) (hm : (m l).toNat < 640) (G : Fin 640 → EReal)
    (h0 : ∀ i : Fin 128, x0 (ix3 0 a i) = G ⟨i.val, by omega⟩) (h1 : ∀ i : Fin 128, x1 (ix3 0 a i) = G ⟨128 + i.val, by omega⟩)
    (h2 : ∀ i : Fin 128, x2 (ix3 0 a i) = G ⟨256 + i.val, by omega⟩) (h3 : ∀ i : Fin 128, x3 (ix3 0 a i) = G ⟨384 + i.val, by omega⟩)
    (h4 : ∀ i : Fin 128, x4 (ix3 0 a i) = G ⟨512 + i.val, by omega⟩) :
    k0_pay104 b1 b2 (k0_pay101 lo x4) (k0_pay102 lo b0 (k0_pay99 x2) (k0_pay100 x3)) (k0_pay103 lo b0 (k0_pay97 x0) (k0_pay98 x1)) (ix2 a l) = G ⟨(m l).toNat, hm⟩ := by
  pointwise [k0_pay104, k0_pay101, k0_pay102, k0_pay99, k0_pay100, k0_pay103, k0_pay97, k0_pay98]
  simp only [h.lo, h.b0, h.b1, h.b2]
  exact pick_eq (m l) hm G _ _ _ _ _ (fun _ => h0 _) (fun _ => h1 _) (fun _ => h2 _) (fun _ => h3 _) (fun _ => h4 _)

theorem tail_t70 (v25 : IVec S32x128 32) (h25 : ∀ a l, v25 (ix2 a l) = BitVec.ofNat 32 l.val) (g0 g1 : FVec Ideal S32x128 .f32) (b1 b2 : IVec S32x128 1) (x y z : FVec Ideal S32x128 .f32) (s : Vec Ideal S1x1x128 .f32) (a : Fin 32) (l l' : Fin 128)
    (hl' : l'.val = (l.val + 0) % 128) :
    k0_pay105 v25 b1 b2 g0 g1 x y z s (ix2 a l) = sel3 l (g0 (ix2 a l')) (g1 (ix2 a l')) ((k0_pay104 b1 b2 x y z) (ix2 a l')) * s (ix3 0 0 l) := by
  have hl := l.isLt
  obtain ⟨n', hn'⟩ := l'
  obtain rfl : n' = l.val := by change n' = _ at hl'; omega
  pointwise [k0_pay105]
  simp only [h25]
  rw [rng1 _ (by omega), rng0 _ (by omega)]
  exact sel_lane _ (by omega) 0 1 l (by omega) (by omega) _ _ _ _

theorem tail_t71 (v25 : IVec S32x128 32) (h25 : ∀ a l, v25 (ix2 a l) = BitVec.ofNat 32 l.val) (g0 g1 : FVec Ideal S32x128 .f32) (b1 b2 : IVec S32x128 1) (x y z : FVec Ideal S32x128 .f32) (s : Vec Ideal S1x1x128 .f32) (a : Fin 32) (l l' : Fin 128)
    (hl' : l'.val = (l.val + 32) % 128) :
    k0_pay107 (k0_pay106 v25 b1 b2 g0 g1 x y z) 96#32 s (ix2 a l) = sel3 l (g0 (ix2 a l')) (g1 (ix2 a l')) ((k0_pay104 b1 b2 x y z) (ix2 a l')) * s (ix3 0 0 l) := by
  have hl := l.isLt
  obtain ⟨n', hn'⟩ := l'
  obtain rfl : n' = (l.val + 128 - 96) % 128 := by change n' = _ at hl'; omega
  pointwise [k0_pay107, k0_pay106]
  simp only [h25]
  rw [rng2 _ (by omega), rng1 _ (by omega)]
  exact sel_lane _ (by omega) 1 2 l (by omega) (by omega) _ _ _ _

theorem tail_t72 (v25 : IVec S32x128 32) (h25 : ∀ a l, v25 (ix2 a l) = BitVec.ofNat 32 l.val) (g0 g1 : FVec Ideal S32x128 .f32) (g2 : FVec Ideal S32x128 .f32) (s : Vec Ideal S1x1x128 .f32) (a : Fin 32) (l l' : Fin 128)
    (hl' : l'.val = (l.val + 64) % 128) :
    k0_pay257 (k0_pay108 v25 g0 g1 g2 s) (ix2 a l) = sel3 l (g0 (ix2 a l')) (g1 (ix2 a l')) (g2 (ix2 a l')) * s (ix3 0 0 l) := by
  have hl := l.isLt
  obtain ⟨n', hn'⟩ := l'
  obtain rfl : n' = (l.val + 128 - 64) % 128 := by change n' = _ at hl'; omega
  pointwise [k0_pay257, k0_pay108]
  simp only [h25]
  rw [rng3 _ (by omega), rng2 _ (by omega)]
  exact sel_lane _ (by omega) 2 3 l (by omega) (by omega) _ _ _ _

theorem tail_t73 (v25 : IVec S32x128 32) (h25 : ∀ a l, v25 (ix2 a l) = BitVec.ofNat 32 l.val) (g0 g1 : FVec Ideal S32x128 .f32) (g2 : FVec Ideal S32x128 .f32) (s : Vec Ideal S1x1x128 .f32) (a : Fin 32) (l l' : Fin 128)
    (hl' : l'.val = (l.val + 96) % 128) :
    k0_pay258 v25 g0 g1 g2 s (ix2 a l) = sel3 l (g0 (ix2 a l')) (g1 (ix2 a l')) (g2 (ix2 a l')) * s (ix3 0 0 l) := by
  have hl := l.isLt
  obtain ⟨n', hn'⟩ := l'
  obtain rfl : n' = (l.val + 128 - 32) % 128 := by change n' = _ at hl'; omega
  pointwise [k0_pay258]
  simp only [h25]
  rw [rng0 _ (by omega), rng3 _ (by omega)]
  exact sel_lane _ (by omega) 3 0 l (by omega) (by omega) _ _ _ _
-- ==== Proof.KernelIdeal.Index.lean ====
/- The packed index vectors of the kernel's last-32-token loops: at a lane, the clamped index of the batch's slot that the
   lane's block of 32 holds. -/
module
public import proofs.«01_k».proof.Proof.KernelIdeal.Tail

@[expose] public section
set_option maxRecDepth 16384
noncomputable section
open Idealize.ShloMosaic
namespace Cert.KernelIdeal.Body
open Cert.KernelIdeal Cert.KernelIdeal.Gen

theorem slt1 (n : Fin 128) : IntOp.cmpi .slt (BitVec.ofNat 32 n.val) 32#32 = BitVec.ofBool (decide (n.val < 32)) :=
  (show ∀ n : Fin 128, IntOp.cmpi .slt (BitVec.ofNat 32 n.val) 32#32 = BitVec.ofBool (decide (n.val < 32)) by decide +kernel) n
theorem slt2 (n : Fin 128) : IntOp.cmpi .slt (BitVec.ofNat 32 n.val) 64#32 = BitVec.ofBool (decide (n.val < 64)) :=
  (show ∀ n : Fin 128, IntOp.cmpi .slt (BitVec.ofNat 32 n.val) 64#32 = BitVec.ofBool (decide (n.val < 64)) by decide +kernel) n
theorem slt3 (n : Fin 128) : IntOp.cmpi .slt (BitVec.ofNat 32 n.val) 96#32 = BitVec.ofBool (decide (n.val < 96)) :=
  (show ∀ n : Fin 128, IntOp.cmpi .slt (BitVec.ofNat 32 n.val) 96#32 = BitVec.ofBool (decide (n.val < 96)) by decide +kernel) n

/-- The slot of quarter `q` that batch `b` holds in a lane's block of 32. -/
def slotOf (q b : ℕ) (l : Fin 128) : Fin 8 := ⟨(4 * q + (l.val / 32 + 4 - b) % 4) % 8, by omega⟩

theorem sel_slot (T : IVec S8x128 32) (q b : ℕ) (l : Fin 128) (i0 i1 i2 i3 : Fin 8)
    (h0 : l.val / 32 = 0 → slotOf q b l = i0) (h1 : l.val / 32 = 1 → slotOf q b l = i1) (h2 : l.val / 32 = 2 → slotOf q b l = i2) (h3 : l.val / 32 = 3 → slotOf q b l = i3) :
    Scalar.select (IntOp.cmpi .slt (BitVec.ofNat 32 l.val) 32#32) (T (ix2 i0 l))
      (Scalar.select (IntOp.cmpi .slt (BitVec.ofNat 32 l.val) 64#32) (T (ix2 i1 l))
        (Scalar.select (IntOp.cmpi .slt (BitVec.ofNat 32 l.val) 96#32) (T (ix2 i2 l)) (T (ix2 i3 l)))) = T (ix2 (slotOf q b l) l) := by
  have hl := l.isLt
  rw [slt1, slt2, slt3, sel_ofBool, sel_ofBool, sel_ofBool]
  split
  · rw [h0 (by omega)]
  · split
    · rw [h1 (by omega)]
    · split
      · rw [h2 (by omega)]
      · rw [h3 (by omega)]

theorem idx_00 (v25 : IVec S32x128 32) (h25 : ∀ a l, v25 (ix2 a l) = BitVec.ofNat 32 l.val) (T : IVec S8x128 32) :
    IsIdx (k0_pay204 v25 T) (k0_pay206 v25 T) (k0_pay207 v25 T) (k0_pay208 (k0_pay205 v25 T) 4#32) (fun l => T (ix2 (slotOf 0 0 l) l)) := by
  constructor
  · intro a l
    pointwise [k0_pay204, k0_pay206, k0_pay207, k0_pay208, k0_pay205, k0_pay203]
    simp only [h25]
    rw [sel_slot T 0 0 l]
    all_goals (intro h; apply Fin.ext; show _ % 8 = _; rw [h]; rfl)
  · intro a l
    pointwise [k0_pay204, k0_pay206, k0_pay207, k0_pay208, k0_pay205, k0_pay203]
    simp only [h25]
    rw [sel_slot T 0 0 l]
    all_goals (intro h; apply Fin.ext; show _ % 8 = _; rw [h]; rfl)
  · intro a l
    pointwise [k0_pay204, k0_pay206, k0_pay207, k0_pay208, k0_pay205, k0_pay203]
    simp only [h25]
    rw [sel_slot T 0 0 l]
    all_goals (intro h; apply Fin.ext; show _ % 8 = _; rw [h]; rfl)
  · intro a l
    pointwise [k0_pay204, k0_pay206, k0_pay207, k0_pay208, k0_pay205, k0_pay203]
    simp only [h25]
    rw [sel_slot T 0 0 l]
    all_goals (intro h; apply Fin.ext; show _ % 8 = _; rw [h]; rfl)

theorem idx_01 (v25 : IVec S32x128 32) (h25 : ∀ a l, v25 (ix2 a l) = BitVec.ofNat 32 l.val) (T : IVec S8x128 32) :
    IsIdx (k0_pay210 v25 T) (k0_pay212 v25 T) (k0_pay213 v25 T) (k0_pay214 v25 T) (fun l => T (ix2 (slotOf 0 1 l) l)) := by
  constructor
  · intro a l
    pointwise [k0_pay210, k0_pay212, k0_pay213, k0_pay214, k0_pay209, k0_pay211]
    simp only [h25]
    rw [sel_slot T 0 1 l]
    all_goals (intro h; apply Fin.ext; show _ % 8 = _; rw [h]; rfl)
  · intro a l
    pointwise [k0_pay210, k0_pay212, k0_pay213, k0_pay214, k0_pay209, k0_pay211]
    simp only [h25]
    rw [sel_slot T 0 1 l]
    all_goals (intro h; apply Fin.ext; show _ % 8 = _; rw [h]; rfl)
  · intro a l
    pointwise [k0_pay210, k0_pay212, k0_pay213, k0_pay214, k0_pay209, k0_pay211]
    simp only [h25]
    rw [sel_slot T 0 1 l]
    all_goals (intro h; apply Fin.ext; show _ % 8 = _; rw [h]; rfl)
  · intro a l
    pointwise [k0_pay210, k0_pay212, k0_pay213, k0_pay214, k0_pay209, k0_pay211]
    simp only [h25]
    rw [sel_slot T 0 1 l]
    all_goals (intro h; apply Fin.ext; show _ % 8 = _; rw [h]; rfl)

theorem idx_02 (v25 : IVec S32x128 32) (h25 : ∀ a l, v25 (ix2 a l) = BitVec.ofNat 32 l.val) (T : IVec S8x128 32) :
    IsIdx (k0_pay219 v25 T (k0_pay215 T) (k0_pay216 T) (k0_pay217 T)) (k0_pay221 v25 T (k0_pay215 T) (k0_pay216 T) (k0_pay217 T)) (k0_pay222 v25 T (k0_pay215 T) (k0_pay216 T) (k0_pay217 T)) (k0_pay223 v25 T (k0_pay215 T) (k0_pay216 T) (k0_pay217 T)) (fun l => T (ix2 (slotOf 0 2 l) l)) := by
  constructor
  · intro a l
    pointwise [k0_pay219, k0_pay221, k0_pay222, k0_pay223, k0_pay215, k0_pay216, k0_pay217, k0_pay218, k0_pay220]
    simp only [h25]
    rw [sel_slot T 0 2 l]
    all_goals (intro h; apply Fin.ext; show _ % 8 = _; rw [h]; rfl)
  · intro a l
    pointwise [k0_pay219, k0_pay221, k0_pay222, k0_pay223, k0_pay215, k0_pay216, k0_pay217, k0_pay218, k0_pay220]
    simp only [h25]
    rw [sel_slot T 0 2 l]
    all_goals (intro h; apply Fin.ext; show _ % 8 = _; rw [h]; rfl)
  · intro a l
    pointwise [k0_pay219, k0_pay221, k0_pay222, k0_pay223, k0_pay215, k0_pay216, k0_pay217, k0_pay218, k0_pay220]
    simp only [h25]
    rw [sel_slot T 0 2 l]
    all_goals (intro h; apply Fin.ext; show _ % 8 = _; rw [h]; rfl)
  · intro a l
    pointwise [k0_pay219, k0_pay221, k0_pay222, k0_pay223, k0_pay215, k0_pay216, k0_pay217, k0_pay218, k0_pay220]
    simp only [h25]
    rw [sel_slot T 0 2 l]
    all_goals (intro h; apply Fin.ext; show _ % 8 = _; rw [h]; rfl)

theorem idx_10 (v25 : IVec S32x128 32) (h25 : ∀ a l, v25 (ix2 a l) = BitVec.ofNat 32 l.val) (T : IVec S8x128 32) :
    IsIdx (k0_pay232 v25 T (k0_pay228 T) (k0_pay229 T) (k0_pay230 T)) (k0_pay234 v25 T (k0_pay228 T) (k0_pay229 T) (k0_pay230 T)) (k0_pay235 v25 T (k0_pay228 T) (k0_pay229 T) (k0_pay230 T)) (k0_pay236 v25 T (k0_pay228 T) (k0_pay229 T) (k0_pay230 T)) (fun l => T (ix2 (slotOf 1 0 l) l)) := by
  constructor
  · intro a l
    pointwise [k0_pay232, k0_pay234, k0_pay235, k0_pay236, k0_pay228, k0_pay229, k0_pay230, k0_pay231, k0_pay233]
    simp only [h25]
    rw [sel_slot T 1 0 l]
    all_goals (intro h; apply Fin.ext; show _ % 8 = _; rw [h]; rfl)
  · intro a l
    pointwise [k0_pay232, k0_pay234, k0_pay235, k0_pay236, k0_pay228, k0_pay229, k0_pay230, k0_pay231, k0_pay233]
    simp only [h25]
    rw [sel_slot T 1 0 l]
    all_goals (intro h; apply Fin.ext; show _ % 8 = _; rw [h]; rfl)
  · intro a l
    pointwise [k0_pay232, k0_pay234, k0_pay235, k0_pay236, k0_pay228, k0_pay229, k0_pay230, k0_pay231, k0_pay233]
    simp only [h25]
    rw [sel_slot T 1 0 l]
    all_goals (intro h; apply Fin.ext; show _ % 8 = _; rw [h]; rfl)
  · intro a l
    pointwise [k0_pay232, k0_pay234, k0_pay235, k0_pay236, k0_pay228, k0_pay229, k0_pay230, k0_pay231, k0_pay233]
    simp only [h25]
    rw [sel_slot T 1 0 l]
    all_goals (intro h; apply Fin.ext; show _ % 8 = _; rw [h]; rfl)

theorem idx_11 (v25 : IVec S32x128 32) (h25 : ∀ a l, v25 (ix2 a l) = BitVec.ofNat 32 l.val) (T : IVec S8x128 32) :
    IsIdx (k0_pay244 v25 (k0_pay237 T) (k0_pay238 T) (k0_pay239 T) (k0_pay240 T) (k0_pay241 v25) (k0_pay242 v25) 96#32) (k0_pay246 v25 (k0_pay237 T) (k0_pay238 T) (k0_pay239 T) (k0_pay240 T) (k0_pay241 v25) (k0_pay242 v25) 96#32) (k0_pay247 v25 (k0_pay237 T) (k0_pay238 T) (k0_pay239 T) (k0_pay240 T) (k0_pay241 v25) (k0_pay242 v25) 96#32) (k0_pay248 v25 (k0_pay237 T) (k0_pay238 T) (k0_pay239 T) (k0_pay240 T) (k0_pay241 v25) (k0_pay242 v25) 96#32) (fun l => T (ix2 (slotOf 1 1 l) l)) := by
  constructor
  · intro a l
    pointwise [k0_pay244, k0_pay246, k0_pay247, k0_pay248, k0_pay237, k0_pay238, k0_pay239, k0_pay240, k0_pay241, k0_pay242, k0_pay243, k0_pay245]
    simp only [h25]
    rw [sel_slot T 1 1 l]
    all_goals (intro h; apply Fin.ext; show _ % 8 = _; rw [h]; rfl)
  · intro a l
    pointwise [k0_pay244, k0_pay246, k0_pay247, k0_pay248, k0_pay237, k0_pay238, k0_pay239, k0_pay240, k0_pay241, k0_pay242, k0_pay243, k0_pay245]
    simp only [h25]
    rw [sel_slot T 1 1 l]
    all_goals (intro h; apply Fin.ext; show _ % 8 = _; rw [h]; rfl)
  · intro a l
    pointwise [k0_pay244, k0_pay246, k0_pay247, k0_pay248, k0_pay237, k0_pay238, k0_pay239, k0_pay240, k0_pay241, k0_pay242, k0_pay243, k0_pay245]
    simp only [h25]
    rw [sel_slot T 1 1 l]
    all_goals (intro h; apply Fin.ext; show _ % 8 = _; rw [h]; rfl)
  · intro a l
    pointwise [k0_pay244, k0_pay246, k0_pay247, k0_pay248, k0_pay237, k0_pay238, k0_pay239, k0_pay240, k0_pay241, k0_pay242, k0_pay243, k0_pay245]
    simp only [h25]
    rw [sel_slot T 1 1 l]
    all_goals (intro h; apply Fin.ext; show _ % 8 = _; rw [h]; rfl)

theorem idx_12 (v25 : IVec S32x128 32) (h25 : ∀ a l, v25 (ix2 a l) = BitVec.ofNat 32 l.val) (T : IVec S8x128 32) :
    IsIdx (k0_pay250 v25 T) (k0_pay252 (k0_pay251 v25 T) 1#32) (k0_pay253 (k0_pay251 v25 T)) (k0_pay254 (k0_pay251 v25 T)) (fun l => T (ix2 (slotOf 1 2 l) l)) := by
  constructor
  · intro a l
    pointwise [k0_pay250, k0_pay251, k0_pay252, k0_pay253, k0_pay254, k0_pay249]
    simp only [h25]
    rw [sel_slot T 1 2 l]
    all_goals (intro h; apply Fin.ext; show _ % 8 = _; rw [h]; rfl)
  · intro a l
    pointwise [k0_pay250, k0_pay251, k0_pay252, k0_pay253, k0_pay254, k0_pay249]
    simp only [h25]
    rw [sel_slot T 1 2 l]
    all_goals (intro h; apply Fin.ext; show _ % 8 = _; rw [h]; rfl)
  · intro a l
    pointwise [k0_pay250, k0_pay251, k0_pay252, k0_pay253, k0_pay254, k0_pay249]
    simp only [h25]
    rw [sel_slot T 1 2 l]
    all_goals (intro h; apply Fin.ext; show _ % 8 = _; rw [h]; rfl)
  · intro a l
    pointwise [k0_pay250, k0_pay251, k0_pay252, k0_pay253, k0_pay254, k0_pay249]
    simp only [h25]
    rw [sel_slot T 1 2 l]
    all_goals (intro h; apply Fin.ext; show _ % 8 = _; rw [h]; rfl)
-- ==== Proof.KernelIdeal.Rhs2.lean ====
/- The scratch matrix of gathered activations after the kernel's last-32-token loops: every piece holds the matrix `rhsQ` at
   its place, and the pieces of the four loops cover the last 128 columns. -/
module
public import proofs.«01_k».proof.Proof.KernelIdeal.Index

@[expose] public section
set_option maxRecDepth 16384
noncomputable section
open Idealize.ShloMosaic
namespace Cert.KernelIdeal.Body
open Cert.KernelIdeal Cert.KernelIdeal.Gen

/-- A clamped word below 640, as a source row. -/
theorem srcm {w m : BitVec 32} (hm : m = IntOp.maxsi w 0#32) (h : m.toNat < 640) : (⟨m.toNat, h⟩ : Fin 640) = src w := by
  subst hm
  apply Fin.ext
  show (IntOp.maxsi w 0#32).toNat = min (IntOp.maxsi w 0#32).toNat 639
  omega

/-- The token of a lane within the last 32. -/
def tokOf (l : Fin 128) : Fin 160 := ⟨128 + l.val % 32, by omega⟩

/-- What a lane of the last 128 columns holds. -/
theorem tail_val (X : S3x576x640.Idx → EReal) (XS : S3x640.Idx → EReal) (NB : S3x8x160.Idx → BitVec 32) (q kk : ℕ) (hq : q < 2) (hk : kk < 4) (c : Fin 576) (r : Fin 4608) (l l' : Fin 128)
    (hl' : l'.val = (l.val + 32 * kk) % 128) (k : Fin 8) (hkv : k.val = 4 * q + kk)
    (hr : r.val = if c.val < 512 then 512 * k.val + c.val else 4096 + 64 * k.val + (c.val - 512)) (j : Fin 512) (hj : j.val = 384 + l.val) (b' : Fin 4) (hb' : b'.val = 3) :
    sel3 l (X (ix3 0 c (src (NB (ix3 0 (slotOf q 0 l') (tokOf l')))))) (X (ix3 1 c (src (NB (ix3 1 (slotOf q 1 l') (tokOf l'))))))
        (X (ix3 2 c (src (NB (ix3 2 (slotOf q 2 l') (tokOf l')))))) * scQ XS NB (ix3 b' k l) = rhsQ X XS NB (ix2 r j) := by
  have hl := l.isLt
  have et : tokOf l' = tokOf l := Fin.ext (by show 128 + l'.val % 32 = 128 + l.val % 32; omega)
  have es : ∀ b : ℕ, b < 3 → l.val / 32 = b → slotOf q b l' = k := fun b hb h => Fin.ext (by
    show (4 * q + (l'.val / 32 + 4 - b) % 4) % 8 = k.val
    have : l'.val / 32 = (b + kk) % 4 := by omega
    rw [this]; omega)
  have key : ∀ b : Fin 3, l.val / 32 = b.val → X (ix3 b c (src (NB (ix3 b (slotOf q b.val l') (tokOf l'))))) * scQ XS NB (ix3 b' k l) = rhsQ X XS NB (ix2 r j) := by
    intro b hb
    rw [es b.val b.isLt hb, et, scQ_tail XS NB b k l b' hb' (tokOf l) (by show 128 ≤ 128 + l.val % 32; omega) (by show _ = 32 * b.val + (128 + l.val % 32 - 128); omega),
      rhsQ_at X XS NB b (tokOf l) k c r j hr (by
        show _ = if 128 + l.val % 32 < 128 then _ else 384 + 32 * b.val + (128 + l.val % 32 - 128)
        rw [if_neg (by omega)]; omega)]
    rfl
  unfold sel3
  by_cases e0 : l.val / 32 = 0
  · rw [if_pos e0]; exact key 0 e0
  · by_cases e1 : l.val / 32 = 1
    · rw [if_neg e0, if_pos e1]; exact key 1 e1
    · rw [if_neg e0, if_neg e1]
      by_cases e2 : l.val / 32 = 2
      · exact key 2 e2
      · rw [scQ_zero XS NB k l b' hb' (by omega), rhsQ_zero X XS NB r j (by omega)]
        exact mul_zero _

variable (𝒱 : Variants) (c : Dev nD) (bd : Option 𝒱.V) (arg0 : Memref sig .tc .hbm S3x576x640 .fp8e4m3) (harg0 : arg0.IsWhole) (arg1 : Memref sig .tc .hbm S3x640 .f32) (harg1 : arg1.IsWhole) (arg2 : Memref sig .tc .hbm S3x8x160 .i32) (harg2 : arg2.IsWhole) (arg3 : Memref sig .tc .hbm S8x448x576 .fp8e4m3) (harg3 : arg3.IsWhole) (arg4 : Memref sig .tc .hbm S1x448 .f32) (harg4 : arg4.IsWhole) (arg5 : Memref sig .tc .hbm S1x448 .f32) (harg5 : arg5.IsWhole) (arg6 : Memref sig .tc .hbm S3x160x448 .fp8e4m3) (harg6 : arg6.IsWhole) (arg7 : Memref sig .tc .vmem S3x160 .f32) (harg7 : arg7.IsWhole) (arg8 : Memref sig .tc .vmem S3x576x640 .fp8e4m3) (harg8 : arg8.IsWhole) (arg9 : Memref sig .tc .vmem S3x640 .f32) (harg9 : arg9.IsWhole) (arg10 : Memref sig .tc .vmem S3x8x160 .i32) (harg10 : arg10.IsWhole) (arg11 : Memref sig .tc .vmem S8x448x576 .fp8e4m3) (harg11 : arg11.IsWhole) (arg12 : Memref sig .tc .vmem S1x448 .f32) (harg12 : arg12.IsWhole) (arg13 : Memref sig .tc .vmem S1x448 .f32) (harg13 : arg13.IsWhole) (arg14 : Memref sig .tc .vmem S4x8x128 .f32) (harg14 : arg14.IsWhole) (arg15 : Memref sig .tc .vmem S4608x512 .bf16) (harg15 : arg15.IsWhole) (arg16 : Memref sig .tc .vmem S448x4608 .fp8e4m3) (harg16 : arg16.IsWhole) (arg17 : Memref sig .tc .vmem S3x160x448 .fp8e4m3) (harg17 : arg17.IsWhole) (arg18 : DmaSems sig S7)
variable (X_arg8 : BufTy.Contents (Elt Ideal) arg8.view.ty) (X_arg14 : BufTy.Contents (Elt Ideal) arg14.view.ty)

theorem mem_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (p : View.Piece (Elt Ideal) S4608x512 .bf16) :
    p ∈ pb_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (Scf.trips k0_t4_loop.lb k0_t4_loop.ub k0_t4_loop.st)
      ↔ ∃ g : Fin k0_t4_loop.trips, p ∈ tripL_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 g :=
  mem_trips _ _ rfl (fun g => pb_k0_t4_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 g) p

/-- The pieces of tail loop 1 hold the scratch matrix. -/
theorem good_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (h25 : ∀ a l, v25 (ix2 a l) = BitVec.ofNat 32 l.val)
    (X : S3x576x640.Idx → EReal) (XS : S3x640.Idx → EReal) (NB : S3x8x160.Idx → BitVec 32)
    (hX : arg8.view.read (Elt Ideal) X_arg8 = X) (hSC : arg14.view.read (Elt Ideal) X_arg14 = scQ XS NB) (hlt : ∀ i, (IntOp.maxsi (NB i) 0#32).toNat < 640)
    (m0 m1 m2 : Fin 128 → BitVec 32) (I0 : IsIdx v533 v539 v543 v547 m0) (I1 : IsIdx v570 v576 v580 v584 m1) (I2 : IsIdx (k0_pay219 v25 v496 v587 v590 v591) (k0_pay221 v25 v496 v587 v590 v591) (k0_pay222 v25 v496 v587 v590 v591) (k0_pay223 v25 v496 v587 v590 v591) m2)
    (hm0 : ∀ l, m0 l = IntOp.maxsi (NB (ix3 0 (slotOf 0 0 l) (tokOf l))) 0#32) (hm1 : ∀ l, m1 l = IntOp.maxsi (NB (ix3 1 (slotOf 0 1 l) (tokOf l))) 0#32)
    (hm2 : ∀ l, m2 l = IntOp.maxsi (NB (ix3 2 (slotOf 0 2 l) (tokOf l))) 0#32) :
    Good (rhsQ X XS NB) (pb_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (Scf.trips k0_t4_loop.lb k0_t4_loop.ub k0_t4_loop.st)) := by
  intro p hp
  obtain ⟨g, hp⟩ := (mem_t4 ..).1 hp
  have hg : g.val < 16 := g.isLt
  have hg0 : ∀ (a : Fin 32) (l : Fin 128), (trip_k0_t4.sl.r_5 arg8 v533 v539 v543 v547 X_arg8 g) (ix2 a l) = X (ix3 0 ⟨32 * g.val + a.val, by omega⟩ (src (NB (ix3 0 (slotOf 0 0 l) (tokOf l))))) := by
    intro a l
    have ha := a.isLt
    refine (gath_t4a _ _ _ _ m0 I0 _ _ _ _ _ a l (by rw [hm0]; exact hlt _) (fun s => X (ix3 0 ⟨32 * g.val + a.val, by omega⟩ s)) ?_ ?_ ?_ ?_ ?_).trans ?_
    · intro i; exact ld3 hX (k0_off9_eq g) _ _ _ _ (by simp) (by simp; try omega) (by simp)
    · intro i; exact ld3 hX (k0_off10_eq g) _ _ _ _ (by simp) (by simp; try omega) (by simp)
    · intro i; exact ld3 hX (k0_off11_eq g) _ _ _ _ (by simp) (by simp; try omega) (by simp)
    · intro i; exact ld3 hX (k0_off12_eq g) _ _ _ _ (by simp) (by simp; try omega) (by simp)
    · intro i; exact ld3 hX (k0_off13_eq g) _ _ _ _ (by simp) (by simp; try omega) (by simp)
    · exact congrArg (fun s => X (ix3 0 ⟨32 * g.val + a.val, by omega⟩ s)) (srcm (hm0 l) _)
  have hg1 : ∀ (a : Fin 32) (l : Fin 128), (trip_k0_t4.sl.r_13 arg8 v570 v576 v580 v584 X_arg8 g) (ix2 a l) = X (ix3 1 ⟨32 * g.val + a.val, by omega⟩ (src (NB (ix3 1 (slotOf 0 1 l) (tokOf l))))) := by
    intro a l
    have ha := a.isLt
    refine (gath_t4b _ _ _ _ m1 I1 _ _ _ _ _ a l (by rw [hm1]; exact hlt _) (fun s => X (ix3 1 ⟨32 * g.val + a.val, by omega⟩ s)) ?_ ?_ ?_ ?_ ?_).trans ?_
    · intro i; exact ld3 hX (k0_off14_eq g) _ _ _ _ (by simp) (by simp; try omega) (by simp)
    · intro i; exact ld3 hX (k0_off15_eq g) _ _ _ _ (by simp) (by simp; try omega) (by simp)
    · intro i; exact ld3 hX (k0_off16_eq g) _ _ _ _ (by simp) (by simp; try omega) (by simp)
    · intro i; exact ld3 hX (k0_off17_eq g) _ _ _ _ (by simp) (by simp; try omega) (by simp)
    · intro i; exact ld3 hX (k0_off18_eq g) _ _ _ _ (by simp) (by simp; try omega) (by simp)
    · exact congrArg (fun s => X (ix3 1 ⟨32 * g.val + a.val, by omega⟩ s)) (srcm (hm1 l) _)
  have hg2 : ∀ (a : Fin 32) (l : Fin 128), (trip_k0_t4.sl.r_21 arg8 v25 v496 v587 v590 v591 X_arg8 g) (ix2 a l) = X (ix3 2 ⟨32 * g.val + a.val, by omega⟩ (src (NB (ix3 2 (slotOf 0 2 l) (tokOf l))))) := by
    intro a l
    have ha := a.isLt
    refine (gath_t4c _ _ _ _ m2 I2 _ _ _ _ _ a l (by rw [hm2]; exact hlt _) (fun s => X (ix3 2 ⟨32 * g.val + a.val, by omega⟩ s)) ?_ ?_ ?_ ?_ ?_).trans ?_
    · intro i; exact ld3 hX (k0_off19_eq g) _ _ _ _ (by simp) (by simp; try omega) (by simp)
    · intro i; exact ld3 hX (k0_off20_eq g) _ _ _ _ (by simp) (by simp; try omega) (by simp)
    · intro i; exact ld3 hX (k0_off21_eq g) _ _ _ _ (by simp) (by simp; try omega) (by simp)
    · intro i; exact ld3 hX (k0_off22_eq g) _ _ _ _ (by simp) (by simp; try omega) (by simp)
    · intro i; exact ld3 hX (k0_off23_eq g) _ _ _ _ (by simp) (by simp; try omega) (by simp)
    · exact congrArg (fun s => X (ix3 2 ⟨32 * g.val + a.val, by omega⟩ s)) (srcm (hm2 l) _)
  unfold tripL_k0_t4 trip_k0_t4 at hp
  simp only [List.mem_cons, List.not_mem_nil, or_false] at hp
  rcases hp with rfl | rfl | rfl | rfl
  · intro x
    dsimp only at x ⊢
    clear hp
    idx_vars x
    rename' x0 => a, x1 => l
    have ha := a.isLt
    have hl := l.isLt
    refine (tail_t43 v25 h25 _ _ _ _ a l ⟨(l.val + 96) % 128, by omega⟩ rfl).trans ?_
    rw [show ∀ a l, trip_k0_t4.sl.r_5 arg8 v533 v539 v543 v547 X_arg8 g (ix2 a l) = _ from hg0, show ∀ a l, trip_k0_t4.sl.r_13 arg8 v570 v576 v580 v584 X_arg8 g (ix2 a l) = _ from hg1]
    refine (congrArg₂ (· * ·) (congrArg (sel3 l _ _) (hg2 a _)) (ld3 hSC rfl _ 3 3 l (by simp) (by simp) (by simp))).trans ?_
    have he : k0_off24 g 1536#32 = ![512 * 3 + 32 * g.val, 384] := k0_off24_eq g 3
    refine Eq.trans ?_ (congrArg (rhsQ X XS NB) (emb2 he _ ⟨512 * 3 + 32 * g.val + a.val, by omega⟩ ⟨384 + l.val, by omega⟩ rfl rfl)).symm
    exact tail_val X XS NB 0 3 (by omega) (by omega) ⟨32 * g.val + a.val, by omega⟩ _ l _ rfl 3 rfl (by dsimp only; split <;> omega) _ rfl 3 rfl
  · intro x
    dsimp only at x ⊢
    clear hp
    idx_vars x
    rename' x0 => a, x1 => l
    have ha := a.isLt
    have hl := l.isLt
    refine (tail_t42 v25 h25 _ _ _ _ a l ⟨(l.val + 64) % 128, by omega⟩ rfl).trans ?_
    rw [show ∀ a l, trip_k0_t4.sl.r_5 arg8 v533 v539 v543 v547 X_arg8 g (ix2 a l) = _ from hg0, show ∀ a l, trip_k0_t4.sl.r_13 arg8 v570 v576 v580 v584 X_arg8 g (ix2 a l) = _ from hg1]
    refine (congrArg₂ (· * ·) (congrArg (sel3 l _ _) (hg2 a _)) (ld3 hSC rfl _ 3 2 l (by simp) (by simp) (by simp))).trans ?_
    have he : k0_off24 g 1024#32 = ![512 * 2 + 32 * g.val, 384] := k0_off24_eq g 2
    refine Eq.trans ?_ (congrArg (rhsQ X XS NB) (emb2 he _ ⟨512 * 2 + 32 * g.val + a.val, by omega⟩ ⟨384 + l.val, by omega⟩ rfl rfl)).symm
    exact tail_val X XS NB 0 2 (by omega) (by omega) ⟨32 * g.val + a.val, by omega⟩ _ l _ rfl 2 rfl (by dsimp only; split <;> omega) _ rfl 3 rfl
  · intro x
    dsimp only at x ⊢
    clear hp
    idx_vars x
    rename' x0 => a, x1 => l
    have ha := a.isLt
    have hl := l.isLt
    refine (tail_t41 v25 h25 _ _ _ _ _ _ _ _ a l ⟨(l.val + 32) % 128, by omega⟩ rfl).trans ?_
    rw [show ∀ a l, trip_k0_t4.sl.r_5 arg8 v533 v539 v543 v547 X_arg8 g (ix2 a l) = _ from hg0, show ∀ a l, trip_k0_t4.sl.r_13 arg8 v570 v576 v580 v584 X_arg8 g (ix2 a l) = _ from hg1]
    refine (congrArg₂ (· * ·) (congrArg (sel3 l _ _) (hg2 a _)) (ld3 hSC rfl _ 3 1 l (by simp) (by simp) (by simp))).trans ?_
    have he : k0_off24 g 512#32 = ![512 * 1 + 32 * g.val, 384] := k0_off24_eq g 1
    refine Eq.trans ?_ (congrArg (rhsQ X XS NB) (emb2 he _ ⟨512 * 1 + 32 * g.val + a.val, by omega⟩ ⟨384 + l.val, by omega⟩ rfl rfl)).symm
    exact tail_val X XS NB 0 1 (by omega) (by omega) ⟨32 * g.val + a.val, by omega⟩ _ l _ rfl 1 rfl (by dsimp only; split <;> omega) _ rfl 3 rfl
  · intro x
    dsimp only at x ⊢
    clear hp
    idx_vars x
    rename' x0 => a, x1 => l
    have ha := a.isLt
    have hl := l.isLt
    refine (tail_t40 v25 h25 _ _ _ _ _ _ _ _ a l ⟨(l.val + 0) % 128, by omega⟩ rfl).trans ?_
    rw [show ∀ a l, trip_k0_t4.sl.r_5 arg8 v533 v539 v543 v547 X_arg8 g (ix2 a l) = _ from hg0, show ∀ a l, trip_k0_t4.sl.r_13 arg8 v570 v576 v580 v584 X_arg8 g (ix2 a l) = _ from hg1]
    refine (congrArg₂ (· * ·) (congrArg (sel3 l _ _) (hg2 a _)) (ld3 hSC rfl _ 3 0 l (by simp) (by simp) (by simp))).trans ?_
    have he : k0_off24 g 0#32 = ![512 * 0 + 32 * g.val, 384] := k0_off24_eq g 0
    refine Eq.trans ?_ (congrArg (rhsQ X XS NB) (emb2 he _ ⟨512 * 0 + 32 * g.val + a.val, by omega⟩ ⟨384 + l.val, by omega⟩ rfl rfl)).symm
    exact tail_val X XS NB 0 0 (by omega) (by omega) ⟨32 * g.val + a.val, by omega⟩ _ l _ rfl 0 rfl (by dsimp only; split <;> omega) _ rfl 3 rfl

theorem mem_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (p : View.Piece (Elt Ideal) S4608x512 .bf16) :
    p ∈ pb_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (Scf.trips k0_t5_loop.lb k0_t5_loop.ub k0_t5_loop.st)
      ↔ ∃ g : Fin k0_t5_loop.trips, p ∈ tripL_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 g :=
  mem_trips _ _ rfl (fun g => pb_k0_t5_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 g) p

/-- The pieces of tail loop 2 hold the scratch matrix. -/
theorem good_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (h25 : ∀ a l, v25 (ix2 a l) = BitVec.ofNat 32 l.val)
    (X : S3x576x640.Idx → EReal) (XS : S3x640.Idx → EReal) (NB : S3x8x160.Idx → BitVec 32)
    (hX : arg8.view.read (Elt Ideal) X_arg8 = X) (hSC : arg14.view.read (Elt Ideal) X_arg14 = scQ XS NB) (hlt : ∀ i, (IntOp.maxsi (NB i) 0#32).toNat < 640)
    (m0 m1 m2 : Fin 128 → BitVec 32) (I0 : IsIdx v533 v539 v543 v547 m0) (I1 : IsIdx v570 v576 v580 v584 m1) (I2 : IsIdx (k0_pay219 v25 v496 v587 v590 v591) (k0_pay221 v25 v496 v587 v590 v591) (k0_pay222 v25 v496 v587 v590 v591) (k0_pay223 v25 v496 v587 v590 v591) m2)
    (hm0 : ∀ l, m0 l = IntOp.maxsi (NB (ix3 0 (slotOf 0 0 l) (tokOf l))) 0#32) (hm1 : ∀ l, m1 l = IntOp.maxsi (NB (ix3 1 (slotOf 0 1 l) (tokOf l))) 0#32)
    (hm2 : ∀ l, m2 l = IntOp.maxsi (NB (ix3 2 (slotOf 0 2 l) (tokOf l))) 0#32) :
    Good (rhsQ X XS NB) (pb_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (Scf.trips k0_t5_loop.lb k0_t5_loop.ub k0_t5_loop.st)) := by
  intro p hp
  obtain ⟨g, hp⟩ := (mem_t5 ..).1 hp
  have hg : g.val < 2 := g.isLt
  have hg0 : ∀ (a : Fin 32) (l : Fin 128), (trip_k0_t5.sl.r_5 arg8 v533 v539 v543 v547 X_arg8 g) (ix2 a l) = X (ix3 0 ⟨512 + 32 * g.val + a.val, by omega⟩ (src (NB (ix3 0 (slotOf 0 0 l) (tokOf l))))) := by
    intro a l
    have ha := a.isLt
    refine (gath_t5a _ _ _ _ m0 I0 _ _ _ _ _ a l (by rw [hm0]; exact hlt _) (fun s => X (ix3 0 ⟨512 + 32 * g.val + a.val, by omega⟩ s)) ?_ ?_ ?_ ?_ ?_).trans ?_
    · intro i; exact ld3 hX (k0_off25_eq g) _ _ _ _ (by simp) (by simp; try omega) (by simp)
    · intro i; exact ld3 hX (k0_off26_eq g) _ _ _ _ (by simp) (by simp; try omega) (by simp)
    · intro i; exact ld3 hX (k0_off27_eq g) _ _ _ _ (by simp) (by simp; try omega) (by simp)
    · intro i; exact ld3 hX (k0_off28_eq g) _ _ _ _ (by simp) (by simp; try omega) (by simp)
    · intro i; exact ld3 hX (k0_off29_eq g) _ _ _ _ (by simp) (by simp; try omega) (by simp)
    · exact congrArg (fun s => X (ix3 0 ⟨512 + 32 * g.val + a.val, by omega⟩ s)) (srcm (hm0 l) _)
  have hg1 : ∀ (a : Fin 32) (l : Fin 128), (trip_k0_t5.sl.r_13 arg8 v570 v576 v580 v584 X_arg8 g) (ix2 a l) = X (ix3 1 ⟨512 + 32 * g.val + a.val, by omega⟩ (src (NB (ix3 1 (slotOf 0 1 l) (tokOf l))))) := by
    intro a l
    have ha := a.isLt
    refine (gath_t5b _ _ _ _ m1 I1 _ _ _ _ _ a l (by rw [hm1]; exact hlt _) (fun s => X (ix3 1 ⟨512 + 32 * g.val + a.val, by omega⟩ s)) ?_ ?_ ?_ ?_ ?_).trans ?_
    · intro i; exact ld3 hX (k0_off30_eq g) _ _ _ _ (by simp) (by simp; try omega) (by simp)
    · intro i; exact ld3 hX (k0_off31_eq g) _ _ _ _ (by simp) (by simp; try omega) (by simp)
    · intro i; exact ld3 hX (k0_off32_eq g) _ _ _ _ (by simp) (by simp; try omega) (by simp)
    · intro i; exact ld3 hX (k0_off33_eq g) _ _ _ _ (by simp) (by simp; try omega) (by simp)
    · intro i; exact ld3 hX (k0_off34_eq g) _ _ _ _ (by simp) (by simp; try omega) (by simp)
    · exact congrArg (fun s => X (ix3 1 ⟨512 + 32 * g.val + a.val, by omega⟩ s)) (srcm (hm1 l) _)
  have hg2 : ∀ (a : Fin 32) (l : Fin 128), (trip_k0_t5.sl.r_21 arg8 v25 v496 v587 v590 v591 X_arg8 g) (ix2 a l) = X (ix3 2 ⟨512 + 32 * g.val + a.val, by omega⟩ (src (NB (ix3 2 (slotOf 0 2 l) (tokOf l))))) := by
    intro a l
    have ha := a.isLt
    refine (gath_t5c _ _ _ _ m2 I2 _ _ _ _ _ a l (by rw [hm2]; exact hlt _) (fun s => X (ix3 2 ⟨512 + 32 * g.val + a.val, by omega⟩ s)) ?_ ?_ ?_ ?_ ?_).trans ?_
    · intro i; exact ld3 hX (k0_off35_eq g) _ _ _ _ (by simp) (by simp; try omega) (by simp)
    · intro i; exact ld3 hX (k0_off36_eq g) _ _ _ _ (by simp) (by simp; try omega) (by simp)
    · intro i; exact ld3 hX (k0_off37_eq g) _ _ _ _ (by simp) (by simp; try omega) (by simp)
    · intro i; exact ld3 hX (k0_off38_eq g) _ _ _ _ (by simp) (by simp; try omega) (by simp)
    · intro i; exact ld3 hX (k0_off39_eq g) _ _ _ _ (by simp) (by simp; try omega) (by simp)
    · exact congrArg (fun s => X (ix3 2 ⟨512 + 32 * g.val + a.val, by omega⟩ s)) (srcm (hm2 l) _)
  unfold tripL_k0_t5 trip_k0_t5 at hp
  simp only [List.mem_cons, List.not_mem_nil, or_false] at hp
  rcases hp with rfl | rfl | rfl | rfl
  · intro x
    dsimp only at x ⊢
    clear hp
    idx_vars x
    rename' x0 => a, x1 => l
    have ha := a.isLt
    have hl := l.isLt
    refine (tail_t53 v25 h25 _ _ _ _ a l ⟨(l.val + 96) % 128, by omega⟩ rfl).trans ?_
    rw [show ∀ a l, trip_k0_t5.sl.r_5 arg8 v533 v539 v543 v547 X_arg8 g (ix2 a l) = _ from hg0, show ∀ a l, trip_k0_t5.sl.r_13 arg8 v570 v576 v580 v584 X_arg8 g (ix2 a l) = _ from hg1]
    refine (congrArg₂ (· * ·) (congrArg (sel3 l _ _) (hg2 a _)) (ld3 hSC rfl _ 3 3 l (by simp) (by simp) (by simp))).trans ?_
    have he : k0_off40 g 4288#32 = ![64 * 3 + 32 * g.val + 4096, 384] := k0_off40_eq g 3
    refine Eq.trans ?_ (congrArg (rhsQ X XS NB) (emb2 he _ ⟨64 * 3 + 32 * g.val + 4096 + a.val, by omega⟩ ⟨384 + l.val, by omega⟩ rfl rfl)).symm
    exact tail_val X XS NB 0 3 (by omega) (by omega) ⟨512 + 32 * g.val + a.val, by omega⟩ _ l _ rfl 3 rfl (by dsimp only; split <;> omega) _ rfl 3 rfl
  · intro x
    dsimp only at x ⊢
    clear hp
    idx_vars x
    rename' x0 => a, x1 => l
    have ha := a.isLt
    have hl := l.isLt
    refine (tail_t52 v25 h25 _ _ _ _ a l ⟨(l.val + 64) % 128, by omega⟩ rfl).trans ?_
    rw [show ∀ a l, trip_k0_t5.sl.r_5 arg8 v533 v539 v543 v547 X_arg8 g (ix2 a l) = _ from hg0, show ∀ a l, trip_k0_t5.sl.r_13 arg8 v570 v576 v580 v584 X_arg8 g (ix2 a l) = _ from hg1]
    refine (congrArg₂ (· * ·) (congrArg (sel3 l _ _) (hg2 a _)) (ld3 hSC rfl _ 3 2 l (by simp) (by simp) (by simp))).trans ?_
    have he : k0_off40 g 4224#32 = ![64 * 2 + 32 * g.val + 4096, 384] := k0_off40_eq g 2
    refine Eq.trans ?_ (congrArg (rhsQ X XS NB) (emb2 he _ ⟨64 * 2 + 32 * g.val + 4096 + a.val, by omega⟩ ⟨384 + l.val, by omega⟩ rfl rfl)).symm
    exact tail_val X XS NB 0 2 (by omega) (by omega) ⟨512 + 32 * g.val + a.val, by omega⟩ _ l _ rfl 2 rfl (by dsimp only; split <;> omega) _ rfl 3 rfl
  · intro x
    dsimp only at x ⊢
    clear hp
    idx_vars x
    rename' x0 => a, x1 => l
    have ha := a.isLt
    have hl := l.isLt
    refine (tail_t51 v25 h25 _ _ _ _ _ _ _ _ a l ⟨(l.val + 32) % 128, by omega⟩ rfl).trans ?_
    rw [show ∀ a l, trip_k0_t5.sl.r_5 arg8 v533 v539 v543 v547 X_arg8 g (ix2 a l) = _ from hg0, show ∀ a l, trip_k0_t5.sl.r_13 arg8 v570 v576 v580 v584 X_arg8 g (ix2 a l) = _ from hg1]
    refine (congrArg₂ (· * ·) (congrArg (sel3 l _ _) (hg2 a _)) (ld3 hSC rfl _ 3 1 l (by simp) (by simp) (by simp))).trans ?_
    have he : k0_off40 g 4160#32 = ![64 * 1 + 32 * g.val + 4096, 384] := k0_off40_eq g 1
    refine Eq.trans ?_ (congrArg (rhsQ X XS NB) (emb2 he _ ⟨64 * 1 + 32 * g.val + 4096 + a.val, by omega⟩ ⟨384 + l.val, by omega⟩ rfl rfl)).symm
    exact tail_val X XS NB 0 1 (by omega) (by omega) ⟨512 + 32 * g.val + a.val, by omega⟩ _ l _ rfl 1 rfl (by dsimp only; split <;> omega) _ rfl 3 rfl
  · intro x
    dsimp only at x ⊢
    clear hp
    idx_vars x
    rename' x0 => a, x1 => l
    have ha := a.isLt
    have hl := l.isLt
    refine (tail_t50 v25 h25 _ _ _ _ _ _ _ _ a l ⟨(l.val + 0) % 128, by omega⟩ rfl).trans ?_
    rw [show ∀ a l, trip_k0_t5.sl.r_5 arg8 v533 v539 v543 v547 X_arg8 g (ix2 a l) = _ from hg0, show ∀ a l, trip_k0_t5.sl.r_13 arg8 v570 v576 v580 v584 X_arg8 g (ix2 a l) = _ from hg1]
    refine (congrArg₂ (· * ·) (congrArg (sel3 l _ _) (hg2 a _)) (ld3 hSC rfl _ 3 0 l (by simp) (by simp) (by simp))).trans ?_
    have he : k0_off40 g 4096#32 = ![64 * 0 + 32 * g.val + 4096, 384] := k0_off40_eq g 0
    refine Eq.trans ?_ (congrArg (rhsQ X XS NB) (emb2 he _ ⟨64 * 0 + 32 * g.val + 4096 + a.val, by omega⟩ ⟨384 + l.val, by omega⟩ rfl rfl)).symm
    exact tail_val X XS NB 0 0 (by omega) (by omega) ⟨512 + 32 * g.val + a.val, by omega⟩ _ l _ rfl 0 rfl (by dsimp only; split <;> omega) _ rfl 3 rfl

theorem mem_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1 : BitVec 32) (p : View.Piece (Elt Ideal) S4608x512 .bf16) :
    p ∈ pb_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 (Scf.trips k0_t6_loop.lb k0_t6_loop.ub k0_t6_loop.st)
      ↔ ∃ g : Fin k0_t6_loop.trips, p ∈ tripL_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 g :=
  mem_trips _ _ rfl (fun g => pb_k0_t6_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 g) p

/-- The pieces of tail loop 3 hold the scratch matrix. -/
theorem good_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1 : BitVec 32) (h25 : ∀ a l, v25 (ix2 a l) = BitVec.ofNat 32 l.val)
    (X : S3x576x640.Idx → EReal) (XS : S3x640.Idx → EReal) (NB : S3x8x160.Idx → BitVec 32)
    (hX : arg8.view.read (Elt Ideal) X_arg8 = X) (hSC : arg14.view.read (Elt Ideal) X_arg14 = scQ XS NB) (hlt : ∀ i, (IntOp.maxsi (NB i) 0#32).toNat < 640)
    (m0 m1 m2 : Fin 128 → BitVec 32) (I0 : IsIdx v646 v652 v656 v660 m0) (I1 : IsIdx v683 v689 v693 v697 m1) (I2 : IsIdx v720 (k0_pay252 v722 c1) (k0_pay253 v722) (k0_pay254 v722) m2)
    (hm0 : ∀ l, m0 l = IntOp.maxsi (NB (ix3 0 (slotOf 1 0 l) (tokOf l))) 0#32) (hm1 : ∀ l, m1 l = IntOp.maxsi (NB (ix3 1 (slotOf 1 1 l) (tokOf l))) 0#32)
    (hm2 : ∀ l, m2 l = IntOp.maxsi (NB (ix3 2 (slotOf 1 2 l) (tokOf l))) 0#32) :
    Good (rhsQ X XS NB) (pb_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 (Scf.trips k0_t6_loop.lb k0_t6_loop.ub k0_t6_loop.st)) := by
  intro p hp
  obtain ⟨g, hp⟩ := (mem_t6 ..).1 hp
  have hg : g.val < 16 := g.isLt
  have hg0 : ∀ (a : Fin 32) (l : Fin 128), (trip_k0_t6.sl.r_5 arg8 v646 v652 v656 v660 X_arg8 g) (ix2 a l) = X (ix3 0 ⟨32 * g.val + a.val, by omega⟩ (src (NB (ix3 0 (slotOf 1 0 l) (tokOf l))))) := by
    intro a l
    have ha := a.isLt
    refine (gath_t6a _ _ _ _ m0 I0 _ _ _ _ _ a l (by rw [hm0]; exact hlt _) (fun s => X (ix3 0 ⟨32 * g.val + a.val, by omega⟩ s)) ?_ ?_ ?_ ?_ ?_).trans ?_
    · intro i; exact ld3 hX (k0_off41_eq g) _ _ _ _ (by simp) (by simp; try omega) (by simp)
    · intro i; exact ld3 hX (k0_off42_eq g) _ _ _ _ (by simp) (by simp; try omega) (by simp)
    · intro i; exact ld3 hX (k0_off43_eq g) _ _ _ _ (by simp) (by simp; try omega) (by simp)
    · intro i; exact ld3 hX (k0_off44_eq g) _ _ _ _ (by simp) (by simp; try omega) (by simp)
    · intro i; exact ld3 hX (k0_off45_eq g) _ _ _ _ (by simp) (by simp; try omega) (by simp)
    · exact congrArg (fun s => X (ix3 0 ⟨32 * g.val + a.val, by omega⟩ s)) (srcm (hm0 l) _)
  have hg1 : ∀ (a : Fin 32) (l : Fin 128), (trip_k0_t6.sl.r_13 arg8 v683 v689 v693 v697 X_arg8 g) (ix2 a l) = X (ix3 1 ⟨32 * g.val + a.val, by omega⟩ (src (NB (ix3 1 (slotOf 1 1 l) (tokOf l))))) := by
    intro a l
    have ha := a.isLt
    refine (gath_t6b _ _ _ _ m1 I1 _ _ _ _ _ a l (by rw [hm1]; exact hlt _) (fun s => X (ix3 1 ⟨32 * g.val + a.val, by omega⟩ s)) ?_ ?_ ?_ ?_ ?_).trans ?_
    · intro i; exact ld3 hX (k0_off46_eq g) _ _ _ _ (by simp) (by simp; try omega) (by simp)
    · intro i; exact ld3 hX (k0_off47_eq g) _ _ _ _ (by simp) (by simp; try omega) (by simp)
    · intro i; exact ld3 hX (k0_off48_eq g) _ _ _ _ (by simp) (by simp; try omega) (by simp)
    · intro i; exact ld3 hX (k0_off49_eq g) _ _ _ _ (by simp) (by simp; try omega) (by simp)
    · intro i; exact ld3 hX (k0_off50_eq g) _ _ _ _ (by simp) (by simp; try omega) (by simp)
    · exact congrArg (fun s => X (ix3 1 ⟨32 * g.val + a.val, by omega⟩ s)) (srcm (hm1 l) _)
  have hg2 : ∀ (a : Fin 32) (l : Fin 128), (trip_k0_t6.sl.r_21 arg8 v720 v722 c1 X_arg8 g) (ix2 a l) = X (ix3 2 ⟨32 * g.val + a.val, by omega⟩ (src (NB (ix3 2 (slotOf 1 2 l) (tokOf l))))) := by
    intro a l
    have ha := a.isLt
    refine (gath_t6c _ _ _ _ m2 I2 _ _ _ _ _ a l (by rw [hm2]; exact hlt _) (fun s => X (ix3 2 ⟨32 * g.val + a.val, by omega⟩ s)) ?_ ?_ ?_ ?_ ?_).trans ?_
    · intro i; exact ld3 hX (k0_off51_eq g) _ _ _ _ (by simp) (by simp; try omega) (by simp)
    · intro i; exact ld3 hX (k0_off52_eq g) _ _ _ _ (by simp) (by simp; try omega) (by simp)
    · intro i; exact ld3 hX (k0_off53_eq g) _ _ _ _ (by simp) (by simp; try omega) (by simp)
    · intro i; exact ld3 hX (k0_off54_eq g) _ _ _ _ (by simp) (by simp; try omega) (by simp)
    · intro i; exact ld3 hX (k0_off55_eq g) _ _ _ _ (by simp) (by simp; try omega) (by simp)
    · exact congrArg (fun s => X (ix3 2 ⟨32 * g.val + a.val, by omega⟩ s)) (srcm (hm2 l) _)
  unfold tripL_k0_t6 trip_k0_t6 at hp
  simp only [List.mem_cons, List.not_mem_nil, or_false] at hp
  rcases hp with rfl | rfl | rfl | rfl
  · intro x
    dsimp only at x ⊢
    clear hp
    idx_vars x
    rename' x0 => a, x1 => l
    have ha := a.isLt
    have hl := l.isLt
    refine (tail_t63 v25 h25 _ _ _ _ a l ⟨(l.val + 96) % 128, by omega⟩ rfl).trans ?_
    rw [show ∀ a l, trip_k0_t6.sl.r_5 arg8 v646 v652 v656 v660 X_arg8 g (ix2 a l) = _ from hg0, show ∀ a l, trip_k0_t6.sl.r_13 arg8 v683 v689 v693 v697 X_arg8 g (ix2 a l) = _ from hg1]
    refine (congrArg₂ (· * ·) (congrArg (sel3 l _ _) (hg2 a _)) (ld3 hSC rfl _ 3 7 l (by simp) (by simp) (by simp))).trans ?_
    have he : k0_off56 g 3584#32 = ![512 * 3 + 32 * g.val + 2048, 384] := k0_off56_eq g 3
    refine Eq.trans ?_ (congrArg (rhsQ X XS NB) (emb2 he _ ⟨512 * 3 + 32 * g.val + 2048 + a.val, by omega⟩ ⟨384 + l.val, by omega⟩ rfl rfl)).symm
    exact tail_val X XS NB 1 3 (by omega) (by omega) ⟨32 * g.val + a.val, by omega⟩ _ l _ rfl 7 rfl (by dsimp only; split <;> omega) _ rfl 3 rfl
  · intro x
    dsimp only at x ⊢
    clear hp
    idx_vars x
    rename' x0 => a, x1 => l
    have ha := a.isLt
    have hl := l.isLt
    refine (tail_t62 v25 h25 _ _ _ _ a l ⟨(l.val + 64) % 128, by omega⟩ rfl).trans ?_
    rw [show ∀ a l, trip_k0_t6.sl.r_5 arg8 v646 v652 v656 v660 X_arg8 g (ix2 a l) = _ from hg0, show ∀ a l, trip_k0_t6.sl.r_13 arg8 v683 v689 v693 v697 X_arg8 g (ix2 a l) = _ from hg1]
    refine (congrArg₂ (· * ·) (congrArg (sel3 l _ _) (hg2 a _)) (ld3 hSC rfl _ 3 6 l (by simp) (by simp) (by simp))).trans ?_
    have he : k0_off56 g 3072#32 = ![512 * 2 + 32 * g.val + 2048, 384] := k0_off56_eq g 2
    refine Eq.trans ?_ (congrArg (rhsQ X XS NB) (emb2 he _ ⟨512 * 2 + 32 * g.val + 2048 + a.val, by omega⟩ ⟨384 + l.val, by omega⟩ rfl rfl)).symm
    exact tail_val X XS NB 1 2 (by omega) (by omega) ⟨32 * g.val + a.val, by omega⟩ _ l _ rfl 6 rfl (by dsimp only; split <;> omega) _ rfl 3 rfl
  · intro x
    dsimp only at x ⊢
    clear hp
    idx_vars x
    rename' x0 => a, x1 => l
    have ha := a.isLt
    have hl := l.isLt
    refine (tail_t61 v25 h25 _ _ _ _ _ _ _ _ a l ⟨(l.val + 32) % 128, by omega⟩ rfl).trans ?_
    rw [show ∀ a l, trip_k0_t6.sl.r_5 arg8 v646 v652 v656 v660 X_arg8 g (ix2 a l) = _ from hg0, show ∀ a l, trip_k0_t6.sl.r_13 arg8 v683 v689 v693 v697 X_arg8 g (ix2 a l) = _ from hg1]
    refine (congrArg₂ (· * ·) (congrArg (sel3 l _ _) (hg2 a _)) (ld3 hSC rfl _ 3 5 l (by simp) (by simp) (by simp))).trans ?_
    have he : k0_off56 g 2560#32 = ![512 * 1 + 32 * g.val + 2048, 384] := k0_off56_eq g 1
    refine Eq.trans ?_ (congrArg (rhsQ X XS NB) (emb2 he _ ⟨512 * 1 + 32 * g.val + 2048 + a.val, by omega⟩ ⟨384 + l.val, by omega⟩ rfl rfl)).symm
    exact tail_val X XS NB 1 1 (by omega) (by omega) ⟨32 * g.val + a.val, by omega⟩ _ l _ rfl 5 rfl (by dsimp only; split <;> omega) _ rfl 3 rfl
  · intro x
    dsimp only at x ⊢
    clear hp
    idx_vars x
    rename' x0 => a, x1 => l
    have ha := a.isLt
    have hl := l.isLt
    refine (tail_t60 v25 h25 _ _ _ _ _ _ _ _ a l ⟨(l.val + 0) % 128, by omega⟩ rfl).trans ?_
    rw [show ∀ a l, trip_k0_t6.sl.r_5 arg8 v646 v652 v656 v660 X_arg8 g (ix2 a l) = _ from hg0, show ∀ a l, trip_k0_t6.sl.r_13 arg8 v683 v689 v693 v697 X_arg8 g (ix2 a l) = _ from hg1]
    refine (congrArg₂ (· * ·) (congrArg (sel3 l _ _) (hg2 a _)) (ld3 hSC rfl _ 3 4 l (by simp) (by simp) (by simp))).trans ?_
    have he : k0_off56 g 2048#32 = ![512 * 0 + 32 * g.val + 2048, 384] := k0_off56_eq g 0
    refine Eq.trans ?_ (congrArg (rhsQ X XS NB) (emb2 he _ ⟨512 * 0 + 32 * g.val + 2048 + a.val, by omega⟩ ⟨384 + l.val, by omega⟩ rfl rfl)).symm
    exact tail_val X XS NB 1 0 (by omega) (by omega) ⟨32 * g.val + a.val, by omega⟩ _ l _ rfl 4 rfl (by dsimp only; split <;> omega) _ rfl 3 rfl

theorem mem_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1 : BitVec 32) (p : View.Piece (Elt Ideal) S4608x512 .bf16) :
    p ∈ pb_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 (Scf.trips k0_t7_loop.lb k0_t7_loop.ub k0_t7_loop.st)
      ↔ ∃ g : Fin k0_t7_loop.trips, p ∈ tripL_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 g :=
  mem_trips _ _ rfl (fun g => pb_k0_t7_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 g) p

/-- The pieces of tail loop 4 hold the scratch matrix. -/
theorem good_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1 : BitVec 32) (h25 : ∀ a l, v25 (ix2 a l) = BitVec.ofNat 32 l.val)
    (X : S3x576x640.Idx → EReal) (XS : S3x640.Idx → EReal) (NB : S3x8x160.Idx → BitVec 32)
    (hX : arg8.view.read (Elt Ideal) X_arg8 = X) (hSC : arg14.view.read (Elt Ideal) X_arg14 = scQ XS NB) (hlt : ∀ i, (IntOp.maxsi (NB i) 0#32).toNat < 640)
    (m0 m1 m2 : Fin 128 → BitVec 32) (I0 : IsIdx v646 v652 v656 v660 m0) (I1 : IsIdx v683 v689 v693 v697 m1) (I2 : IsIdx v720 (k0_pay252 v722 c1) (k0_pay253 v722) (k0_pay254 v722) m2)
    (hm0 : ∀ l, m0 l = IntOp.maxsi (NB (ix3 0 (slotOf 1 0 l) (tokOf l))) 0#32) (hm1 : ∀ l, m1 l = IntOp.maxsi (NB (ix3 1 (slotOf 1 1 l) (tokOf l))) 0#32)
    (hm2 : ∀ l, m2 l = IntOp.maxsi (NB (ix3 2 (slotOf 1 2 l) (tokOf l))) 0#32) :
    Good (rhsQ X XS NB) (pb_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 (Scf.trips k0_t7_loop.lb k0_t7_loop.ub k0_t7_loop.st)) := by
  intro p hp
  obtain ⟨g, hp⟩ := (mem_t7 ..).1 hp
  have hg : g.val < 2 := g.isLt
  have hg0 : ∀ (a : Fin 32) (l : Fin 128), (trip_k0_t7.sl.r_5 arg8 v646 v652 v656 v660 X_arg8 g) (ix2 a l) = X (ix3 0 ⟨512 + 32 * g.val + a.val, by omega⟩ (src (NB (ix3 0 (slotOf 1 0 l) (tokOf l))))) := by
    intro a l
    have ha := a.isLt
    refine (gath_t7a _ _ _ _ m0 I0 _ _ _ _ _ a l (by rw [hm0]; exact hlt _) (fun s => X (ix3 0 ⟨512 + 32 * g.val + a.val, by omega⟩ s)) ?_ ?_ ?_ ?_ ?_).trans ?_
    · intro i; exact ld3 hX (k0_off57_eq g) _ _ _ _ (by simp) (by simp; try omega) (by simp)
    · intro i; exact ld3 hX (k0_off58_eq g) _ _ _ _ (by simp) (by simp; try omega) (by simp)
    · intro i; exact ld3 hX (k0_off59_eq g) _ _ _ _ (by simp) (by simp; try omega) (by simp)
    · intro i; exact ld3 hX (k0_off60_eq g) _ _ _ _ (by simp) (by simp; try omega) (by simp)
    · intro i; exact ld3 hX (k0_off61_eq g) _ _ _ _ (by simp) (by simp; try omega) (by simp)
    · exact congrArg (fun s => X (ix3 0 ⟨512 + 32 * g.val + a.val, by omega⟩ s)) (srcm (hm0 l) _)
  have hg1 : ∀ (a : Fin 32) (l : Fin 128), (trip_k0_t7.sl.r_13 arg8 v683 v689 v693 v697 X_arg8 g) (ix2 a l) = X (ix3 1 ⟨512 + 32 * g.val + a.val, by omega⟩ (src (NB (ix3 1 (slotOf 1 1 l) (tokOf l))))) := by
    intro a l
    have ha := a.isLt
    refine (gath_t7b _ _ _ _ m1 I1 _ _ _ _ _ a l (by rw [hm1]; exact hlt _) (fun s => X (ix3 1 ⟨512 + 32 * g.val + a.val, by omega⟩ s)) ?_ ?_ ?_ ?_ ?_).trans ?_
    · intro i; exact ld3 hX (k0_off62_eq g) _ _ _ _ (by simp) (by simp; try omega) (by simp)
    · intro i; exact ld3 hX (k0_off63_eq g) _ _ _ _ (by simp) (by simp; try omega) (by simp)
    · intro i; exact ld3 hX (k0_off64_eq g) _ _ _ _ (by simp) (by simp; try omega) (by simp)
    · intro i; exact ld3 hX (k0_off65_eq g) _ _ _ _ (by simp) (by simp; try omega) (by simp)
    · intro i; exact ld3 hX (k0_off66_eq g) _ _ _ _ (by simp) (by simp; try omega) (by simp)
    · exact congrArg (fun s => X (ix3 1 ⟨512 + 32 * g.val + a.val, by omega⟩ s)) (srcm (hm1 l) _)
  have hg2 : ∀ (a : Fin 32) (l : Fin 128), (trip_k0_t7.sl.r_21 arg8 v720 v722 c1 X_arg8 g) (ix2 a l) = X (ix3 2 ⟨512 + 32 * g.val + a.val, by omega⟩ (src (NB (ix3 2 (slotOf 1 2 l) (tokOf l))))) := by
    intro a l
    have ha := a.isLt
    refine (gath_t7c _ _ _ _ m2 I2 _ _ _ _ _ a l (by rw [hm2]; exact hlt _) (fun s => X (ix3 2 ⟨512 + 32 * g.val + a.val, by omega⟩ s)) ?_ ?_ ?_ ?_ ?_).trans ?_
    · intro i; exact ld3 hX (k0_off67_eq g) _ _ _ _ (by simp) (by simp; try omega) (by simp)
    · intro i; exact ld3 hX (k0_off68_eq g) _ _ _ _ (by simp) (by simp; try omega) (by simp)
    · intro i; exact ld3 hX (k0_off69_eq g) _ _ _ _ (by simp) (by simp; try omega) (by simp)
    · intro i; exact ld3 hX (k0_off70_eq g) _ _ _ _ (by simp) (by simp; try omega) (by simp)
    · intro i; exact ld3 hX (k0_off71_eq g) _ _ _ _ (by simp) (by simp; try omega) (by simp)
    · exact congrArg (fun s => X (ix3 2 ⟨512 + 32 * g.val + a.val, by omega⟩ s)) (srcm (hm2 l) _)
  unfold tripL_k0_t7 trip_k0_t7 at hp
  simp only [List.mem_cons, List.not_mem_nil, or_false] at hp
  rcases hp with rfl | rfl | rfl | rfl
  · intro x
    dsimp only at x ⊢
    clear hp
    idx_vars x
    rename' x0 => a, x1 => l
    have ha := a.isLt
    have hl := l.isLt
    refine (tail_t73 v25 h25 _ _ _ _ a l ⟨(l.val + 96) % 128, by omega⟩ rfl).trans ?_
    rw [show ∀ a l, trip_k0_t7.sl.r_5 arg8 v646 v652 v656 v660 X_arg8 g (ix2 a l) = _ from hg0, show ∀ a l, trip_k0_t7.sl.r_13 arg8 v683 v689 v693 v697 X_arg8 g (ix2 a l) = _ from hg1]
    refine (congrArg₂ (· * ·) (congrArg (sel3 l _ _) (hg2 a _)) (ld3 hSC rfl _ 3 7 l (by simp) (by simp) (by simp))).trans ?_
    have he : k0_off72 g 4544#32 = ![64 * 3 + 32 * g.val + 4352, 384] := k0_off72_eq g 3
    refine Eq.trans ?_ (congrArg (rhsQ X XS NB) (emb2 he _ ⟨64 * 3 + 32 * g.val + 4352 + a.val, by omega⟩ ⟨384 + l.val, by omega⟩ rfl rfl)).symm
    exact tail_val X XS NB 1 3 (by omega) (by omega) ⟨512 + 32 * g.val + a.val, by omega⟩ _ l _ rfl 7 rfl (by dsimp only; split <;> omega) _ rfl 3 rfl
  · intro x
    dsimp only at x ⊢
    clear hp
    idx_vars x
    rename' x0 => a, x1 => l
    have ha := a.isLt
    have hl := l.isLt
    refine (tail_t72 v25 h25 _ _ _ _ a l ⟨(l.val + 64) % 128, by omega⟩ rfl).trans ?_
    rw [show ∀ a l, trip_k0_t7.sl.r_5 arg8 v646 v652 v656 v660 X_arg8 g (ix2 a l) = _ from hg0, show ∀ a l, trip_k0_t7.sl.r_13 arg8 v683 v689 v693 v697 X_arg8 g (ix2 a l) = _ from hg1]
    refine (congrArg₂ (· * ·) (congrArg (sel3 l _ _) (hg2 a _)) (ld3 hSC rfl _ 3 6 l (by simp) (by simp) (by simp))).trans ?_
    have he : k0_off72 g 4480#32 = ![64 * 2 + 32 * g.val + 4352, 384] := k0_off72_eq g 2
    refine Eq.trans ?_ (congrArg (rhsQ X XS NB) (emb2 he _ ⟨64 * 2 + 32 * g.val + 4352 + a.val, by omega⟩ ⟨384 + l.val, by omega⟩ rfl rfl)).symm
    exact tail_val X XS NB 1 2 (by omega) (by omega) ⟨512 + 32 * g.val + a.val, by omega⟩ _ l _ rfl 6 rfl (by dsimp only; split <;> omega) _ rfl 3 rfl
  · intro x
    dsimp only at x ⊢
    clear hp
    idx_vars x
    rename' x0 => a, x1 => l
    have ha := a.isLt
    have hl := l.isLt
    refine (tail_t71 v25 h25 _ _ _ _ _ _ _ _ a l ⟨(l.val + 32) % 128, by omega⟩ rfl).trans ?_
    rw [show ∀ a l, trip_k0_t7.sl.r_5 arg8 v646 v652 v656 v660 X_arg8 g (ix2 a l) = _ from hg0, show ∀ a l, trip_k0_t7.sl.r_13 arg8 v683 v689 v693 v697 X_arg8 g (ix2 a l) = _ from hg1]
    refine (congrArg₂ (· * ·) (congrArg (sel3 l _ _) (hg2 a _)) (ld3 hSC rfl _ 3 5 l (by simp) (by simp) (by simp))).trans ?_
    have he : k0_off72 g 4416#32 = ![64 * 1 + 32 * g.val + 4352, 384] := k0_off72_eq g 1
    refine Eq.trans ?_ (congrArg (rhsQ X XS NB) (emb2 he _ ⟨64 * 1 + 32 * g.val + 4352 + a.val, by omega⟩ ⟨384 + l.val, by omega⟩ rfl rfl)).symm
    exact tail_val X XS NB 1 1 (by omega) (by omega) ⟨512 + 32 * g.val + a.val, by omega⟩ _ l _ rfl 5 rfl (by dsimp only; split <;> omega) _ rfl 3 rfl
  · intro x
    dsimp only at x ⊢
    clear hp
    idx_vars x
    rename' x0 => a, x1 => l
    have ha := a.isLt
    have hl := l.isLt
    refine (tail_t70 v25 h25 _ _ _ _ _ _ _ _ a l ⟨(l.val + 0) % 128, by omega⟩ rfl).trans ?_
    rw [show ∀ a l, trip_k0_t7.sl.r_5 arg8 v646 v652 v656 v660 X_arg8 g (ix2 a l) = _ from hg0, show ∀ a l, trip_k0_t7.sl.r_13 arg8 v683 v689 v693 v697 X_arg8 g (ix2 a l) = _ from hg1]
    refine (congrArg₂ (· * ·) (congrArg (sel3 l _ _) (hg2 a _)) (ld3 hSC rfl _ 3 4 l (by simp) (by simp) (by simp))).trans ?_
    have he : k0_off72 g 4352#32 = ![64 * 0 + 32 * g.val + 4352, 384] := k0_off72_eq g 0
    refine Eq.trans ?_ (congrArg (rhsQ X XS NB) (emb2 he _ ⟨64 * 0 + 32 * g.val + 4352 + a.val, by omega⟩ ⟨384 + l.val, by omega⟩ rfl rfl)).symm
    exact tail_val X XS NB 1 0 (by omega) (by omega) ⟨512 + 32 * g.val + a.val, by omega⟩ _ l _ rfl 4 rfl (by dsimp only; split <;> omega) _ rfl 3 rfl

/-- The pieces of tail loop 1 cover their rows of the last 128 columns. -/
theorem cover_t4 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (r : Fin 4608) (l : Fin 512) (hl : 384 ≤ l.val) (hr : r.val < 2048) :
    ∃ p ∈ pb_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (Scf.trips k0_t4_loop.lb k0_t4_loop.ub k0_t4_loop.st), (ix2 r l : S4608x512.Idx) ∈ p.1.set := by
  have hr' := r.isLt
  have hl' := l.isLt
  let g : Fin k0_t4_loop.trips := ⟨(r.val - 0) % 512 / 32, by show _ < 16; omega⟩
  have hg : g.val = (r.val - 0) % 512 / 32 := rfl
  suffices h : ∃ p ∈ tripL_k0_t4 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 g, (ix2 r l : S4608x512.Idx) ∈ p.1.set by
    obtain ⟨p, hp, hs⟩ := h
    exact ⟨p, (mem_t4 ..).2 ⟨g, hp⟩, hs⟩
  unfold tripL_k0_t4 trip_k0_t4
  have hq : (r.val - 0) / 512 = 0 ∨ (r.val - 0) / 512 = 1 ∨ (r.val - 0) / 512 = 2 ∨ (r.val - 0) / 512 = 3 := by omega
  rcases hq with hq | hq | hq | hq
  · refine ⟨_, List.mem_cons_of_mem _ (List.mem_cons_of_mem _ (List.mem_cons_of_mem _ List.mem_cons_self)), ?_⟩
    have he : k0_off24 g 0#32 = ![512 * 0 + 32 * g.val, 384] := k0_off24_eq g 0
    rw [Rect.mem_set_unit, he]
    intro x
    fin_cases x
    · show 512 * 0 + 32 * g.val ≤ r.val ∧ r.val < 512 * 0 + 32 * g.val + 32
      omega
    · show 384 ≤ l.val ∧ l.val < 384 + 128
      omega
  · refine ⟨_, List.mem_cons_of_mem _ (List.mem_cons_of_mem _ List.mem_cons_self), ?_⟩
    have he : k0_off24 g 512#32 = ![512 * 1 + 32 * g.val, 384] := k0_off24_eq g 1
    rw [Rect.mem_set_unit, he]
    intro x
    fin_cases x
    · show 512 * 1 + 32 * g.val ≤ r.val ∧ r.val < 512 * 1 + 32 * g.val + 32
      omega
    · show 384 ≤ l.val ∧ l.val < 384 + 128
      omega
  · refine ⟨_, List.mem_cons_of_mem _ List.mem_cons_self, ?_⟩
    have he : k0_off24 g 1024#32 = ![512 * 2 + 32 * g.val, 384] := k0_off24_eq g 2
    rw [Rect.mem_set_unit, he]
    intro x
    fin_cases x
    · show 512 * 2 + 32 * g.val ≤ r.val ∧ r.val < 512 * 2 + 32 * g.val + 32
      omega
    · show 384 ≤ l.val ∧ l.val < 384 + 128
      omega
  · refine ⟨_, List.mem_cons_self, ?_⟩
    have he : k0_off24 g 1536#32 = ![512 * 3 + 32 * g.val, 384] := k0_off24_eq g 3
    rw [Rect.mem_set_unit, he]
    intro x
    fin_cases x
    · show 512 * 3 + 32 * g.val ≤ r.val ∧ r.val < 512 * 3 + 32 * g.val + 32
      omega
    · show 384 ≤ l.val ∧ l.val < 384 + 128
      omega

/-- The pieces of tail loop 2 cover their rows of the last 128 columns. -/
theorem cover_t5 (v25 : IVec S32x128 32) (v182 : IVec S8x128 32) (v496 : IVec S8x128 32) (v533 : IVec S32x128 32) (v539 : IVec S32x128 1) (v543 : IVec S32x128 1) (v547 : IVec S32x128 1) (v570 : IVec S32x128 32) (v576 : IVec S32x128 1) (v580 : IVec S32x128 1) (v584 : IVec S32x128 1) (v587 : IVec S32x128 32) (v590 : IVec S32x128 32) (v591 : IVec S1x128 32) (r : Fin 4608) (l : Fin 512) (hl : 384 ≤ l.val) (hr : 4096 ≤ r.val ∧ r.val < 4352) :
    ∃ p ∈ pb_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 (Scf.trips k0_t5_loop.lb k0_t5_loop.ub k0_t5_loop.st), (ix2 r l : S4608x512.Idx) ∈ p.1.set := by
  have hr' := r.isLt
  have hl' := l.isLt
  let g : Fin k0_t5_loop.trips := ⟨(r.val - 4096) % 64 / 32, by show _ < 2; omega⟩
  have hg : g.val = (r.val - 4096) % 64 / 32 := rfl
  suffices h : ∃ p ∈ tripL_k0_t5 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v182 v496 v533 v539 v543 v547 v570 v576 v580 v584 v587 v590 v591 X_arg8 X_arg14 g, (ix2 r l : S4608x512.Idx) ∈ p.1.set by
    obtain ⟨p, hp, hs⟩ := h
    exact ⟨p, (mem_t5 ..).2 ⟨g, hp⟩, hs⟩
  unfold tripL_k0_t5 trip_k0_t5
  have hq : (r.val - 4096) / 64 = 0 ∨ (r.val - 4096) / 64 = 1 ∨ (r.val - 4096) / 64 = 2 ∨ (r.val - 4096) / 64 = 3 := by omega
  rcases hq with hq | hq | hq | hq
  · refine ⟨_, List.mem_cons_of_mem _ (List.mem_cons_of_mem _ (List.mem_cons_of_mem _ List.mem_cons_self)), ?_⟩
    have he : k0_off40 g 4096#32 = ![64 * 0 + 32 * g.val + 4096, 384] := k0_off40_eq g 0
    rw [Rect.mem_set_unit, he]
    intro x
    fin_cases x
    · show 64 * 0 + 32 * g.val + 4096 ≤ r.val ∧ r.val < 64 * 0 + 32 * g.val + 4096 + 32
      omega
    · show 384 ≤ l.val ∧ l.val < 384 + 128
      omega
  · refine ⟨_, List.mem_cons_of_mem _ (List.mem_cons_of_mem _ List.mem_cons_self), ?_⟩
    have he : k0_off40 g 4160#32 = ![64 * 1 + 32 * g.val + 4096, 384] := k0_off40_eq g 1
    rw [Rect.mem_set_unit, he]
    intro x
    fin_cases x
    · show 64 * 1 + 32 * g.val + 4096 ≤ r.val ∧ r.val < 64 * 1 + 32 * g.val + 4096 + 32
      omega
    · show 384 ≤ l.val ∧ l.val < 384 + 128
      omega
  · refine ⟨_, List.mem_cons_of_mem _ List.mem_cons_self, ?_⟩
    have he : k0_off40 g 4224#32 = ![64 * 2 + 32 * g.val + 4096, 384] := k0_off40_eq g 2
    rw [Rect.mem_set_unit, he]
    intro x
    fin_cases x
    · show 64 * 2 + 32 * g.val + 4096 ≤ r.val ∧ r.val < 64 * 2 + 32 * g.val + 4096 + 32
      omega
    · show 384 ≤ l.val ∧ l.val < 384 + 128
      omega
  · refine ⟨_, List.mem_cons_self, ?_⟩
    have he : k0_off40 g 4288#32 = ![64 * 3 + 32 * g.val + 4096, 384] := k0_off40_eq g 3
    rw [Rect.mem_set_unit, he]
    intro x
    fin_cases x
    · show 64 * 3 + 32 * g.val + 4096 ≤ r.val ∧ r.val < 64 * 3 + 32 * g.val + 4096 + 32
      omega
    · show 384 ≤ l.val ∧ l.val < 384 + 128
      omega

/-- The pieces of tail loop 3 cover their rows of the last 128 columns. -/
theorem cover_t6 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1 : BitVec 32) (r : Fin 4608) (l : Fin 512) (hl : 384 ≤ l.val) (hr : 2048 ≤ r.val ∧ r.val < 4096) :
    ∃ p ∈ pb_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 (Scf.trips k0_t6_loop.lb k0_t6_loop.ub k0_t6_loop.st), (ix2 r l : S4608x512.Idx) ∈ p.1.set := by
  have hr' := r.isLt
  have hl' := l.isLt
  let g : Fin k0_t6_loop.trips := ⟨(r.val - 2048) % 512 / 32, by show _ < 16; omega⟩
  have hg : g.val = (r.val - 2048) % 512 / 32 := rfl
  suffices h : ∃ p ∈ tripL_k0_t6 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 g, (ix2 r l : S4608x512.Idx) ∈ p.1.set by
    obtain ⟨p, hp, hs⟩ := h
    exact ⟨p, (mem_t6 ..).2 ⟨g, hp⟩, hs⟩
  unfold tripL_k0_t6 trip_k0_t6
  have hq : (r.val - 2048) / 512 = 0 ∨ (r.val - 2048) / 512 = 1 ∨ (r.val - 2048) / 512 = 2 ∨ (r.val - 2048) / 512 = 3 := by omega
  rcases hq with hq | hq | hq | hq
  · refine ⟨_, List.mem_cons_of_mem _ (List.mem_cons_of_mem _ (List.mem_cons_of_mem _ List.mem_cons_self)), ?_⟩
    have he : k0_off56 g 2048#32 = ![512 * 0 + 32 * g.val + 2048, 384] := k0_off56_eq g 0
    rw [Rect.mem_set_unit, he]
    intro x
    fin_cases x
    · show 512 * 0 + 32 * g.val + 2048 ≤ r.val ∧ r.val < 512 * 0 + 32 * g.val + 2048 + 32
      omega
    · show 384 ≤ l.val ∧ l.val < 384 + 128
      omega
  · refine ⟨_, List.mem_cons_of_mem _ (List.mem_cons_of_mem _ List.mem_cons_self), ?_⟩
    have he : k0_off56 g 2560#32 = ![512 * 1 + 32 * g.val + 2048, 384] := k0_off56_eq g 1
    rw [Rect.mem_set_unit, he]
    intro x
    fin_cases x
    · show 512 * 1 + 32 * g.val + 2048 ≤ r.val ∧ r.val < 512 * 1 + 32 * g.val + 2048 + 32
      omega
    · show 384 ≤ l.val ∧ l.val < 384 + 128
      omega
  · refine ⟨_, List.mem_cons_of_mem _ List.mem_cons_self, ?_⟩
    have he : k0_off56 g 3072#32 = ![512 * 2 + 32 * g.val + 2048, 384] := k0_off56_eq g 2
    rw [Rect.mem_set_unit, he]
    intro x
    fin_cases x
    · show 512 * 2 + 32 * g.val + 2048 ≤ r.val ∧ r.val < 512 * 2 + 32 * g.val + 2048 + 32
      omega
    · show 384 ≤ l.val ∧ l.val < 384 + 128
      omega
  · refine ⟨_, List.mem_cons_self, ?_⟩
    have he : k0_off56 g 3584#32 = ![512 * 3 + 32 * g.val + 2048, 384] := k0_off56_eq g 3
    rw [Rect.mem_set_unit, he]
    intro x
    fin_cases x
    · show 512 * 3 + 32 * g.val + 2048 ≤ r.val ∧ r.val < 512 * 3 + 32 * g.val + 2048 + 32
      omega
    · show 384 ≤ l.val ∧ l.val < 384 + 128
      omega

/-- The pieces of tail loop 4 cover their rows of the last 128 columns. -/
theorem cover_t7 (v25 : IVec S32x128 32) (v646 : IVec S32x128 32) (v652 : IVec S32x128 1) (v656 : IVec S32x128 1) (v660 : IVec S32x128 1) (v683 : IVec S32x128 32) (v689 : IVec S32x128 1) (v693 : IVec S32x128 1) (v697 : IVec S32x128 1) (v720 : IVec S32x128 32) (v722 : IVec S32x128 32) (c1 : BitVec 32) (r : Fin 4608) (l : Fin 512) (hl : 384 ≤ l.val) (hr : 4352 ≤ r.val) :
    ∃ p ∈ pb_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 (Scf.trips k0_t7_loop.lb k0_t7_loop.ub k0_t7_loop.st), (ix2 r l : S4608x512.Idx) ∈ p.1.set := by
  have hr' := r.isLt
  have hl' := l.isLt
  let g : Fin k0_t7_loop.trips := ⟨(r.val - 4352) % 64 / 32, by show _ < 2; omega⟩
  have hg : g.val = (r.val - 4352) % 64 / 32 := rfl
  suffices h : ∃ p ∈ tripL_k0_t7 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 v25 v646 v652 v656 v660 v683 v689 v693 v697 v720 v722 c1 X_arg8 X_arg14 g, (ix2 r l : S4608x512.Idx) ∈ p.1.set by
    obtain ⟨p, hp, hs⟩ := h
    exact ⟨p, (mem_t7 ..).2 ⟨g, hp⟩, hs⟩
  unfold tripL_k0_t7 trip_k0_t7
  have hq : (r.val - 4352) / 64 = 0 ∨ (r.val - 4352) / 64 = 1 ∨ (r.val - 4352) / 64 = 2 ∨ (r.val - 4352) / 64 = 3 := by omega
  rcases hq with hq | hq | hq | hq
  · refine ⟨_, List.mem_cons_of_mem _ (List.mem_cons_of_mem _ (List.mem_cons_of_mem _ List.mem_cons_self)), ?_⟩
    have he : k0_off72 g 4352#32 = ![64 * 0 + 32 * g.val + 4352, 384] := k0_off72_eq g 0
    rw [Rect.mem_set_unit, he]
    intro x
    fin_cases x
    · show 64 * 0 + 32 * g.val + 4352 ≤ r.val ∧ r.val < 64 * 0 + 32 * g.val + 4352 + 32
      omega
    · show 384 ≤ l.val ∧ l.val < 384 + 128
      omega
  · refine ⟨_, List.mem_cons_of_mem _ (List.mem_cons_of_mem _ List.mem_cons_self), ?_⟩
    have he : k0_off72 g 4416#32 = ![64 * 1 + 32 * g.val + 4352, 384] := k0_off72_eq g 1
    rw [Rect.mem_set_unit, he]
    intro x
    fin_cases x
    · show 64 * 1 + 32 * g.val + 4352 ≤ r.val ∧ r.val < 64 * 1 + 32 * g.val + 4352 + 32
      omega
    · show 384 ≤ l.val ∧ l.val < 384 + 128
      omega
  · refine ⟨_, List.mem_cons_of_mem _ List.mem_cons_self, ?_⟩
    have he : k0_off72 g 4480#32 = ![64 * 2 + 32 * g.val + 4352, 384] := k0_off72_eq g 2
    rw [Rect.mem_set_unit, he]
    intro x
    fin_cases x
    · show 64 * 2 + 32 * g.val + 4352 ≤ r.val ∧ r.val < 64 * 2 + 32 * g.val + 4352 + 32
      omega
    · show 384 ≤ l.val ∧ l.val < 384 + 128
      omega
  · refine ⟨_, List.mem_cons_self, ?_⟩
    have he : k0_off72 g 4544#32 = ![64 * 3 + 32 * g.val + 4352, 384] := k0_off72_eq g 3
    rw [Rect.mem_set_unit, he]
    intro x
    fin_cases x
    · show 64 * 3 + 32 * g.val + 4352 ≤ r.val ∧ r.val < 64 * 3 + 32 * g.val + 4352 + 32
      omega
    · show 384 ≤ l.val ∧ l.val < 384 + 128
      omega
-- ==== Proof.KernelIdeal.Scale.lean ====
/- The scale tile: what the body stores there is the masked scale of each batch, slot and token. -/
module
public import proofs.«01_k».proof.Proof.KernelIdeal.Spec

@[expose] public section
set_option maxRecDepth 16384
noncomputable section
open Idealize.ShloMosaic
namespace Cert.KernelIdeal.Body
open Cert.KernelIdeal Cert.KernelIdeal.Gen

theorem ofBits_zero32 : (FloatOps.ofBits .f32 0#32 : Ideal .f32) = (0 : EReal) := by
  simp [FloatOps.ofBits, Ideal.ofBits, Ideal.ieee]

/-- Batch 0's last 32 tokens' words, four copies side by side. -/
theorem wide_0 (v112 : Vec Ideal S1x8x32 .i32) (k : Fin 8) (l : Fin 128) : (k0_pay124 v112) (ix2 k l) = v112 (ix3 0 k ⟨l.val % 32, by omega⟩) := by
  pointwise [k0_pay124]
  split_ifs <;> (congr 2; apply Fin.ext; simp only []; omega)

theorem tail_ix_0 (v112 : Vec Ideal S1x8x32 .i32) (k : Fin 8) (l : Fin 128) : (k0_pay136 (k0_pay124 v112)) (ix2 k l) = IntOp.maxsi (v112 (ix3 0 k ⟨l.val % 32, by omega⟩)) 0#32 := by
  rw [← wide_0 v112]
  pointwise [k0_pay136]

/-- Batch 1's last 32 tokens' words, four copies side by side. -/
theorem wide_1 (v269 : Vec Ideal S1x8x32 .i32) (k : Fin 8) (l : Fin 128) : (k0_pay154 v269) (ix2 k l) = v269 (ix3 0 k ⟨l.val % 32, by omega⟩) := by
  pointwise [k0_pay154]
  split_ifs <;> (congr 2; apply Fin.ext; simp only []; omega)

theorem tail_ix_1 (v269 : Vec Ideal S1x8x32 .i32) (k : Fin 8) (l : Fin 128) : (k0_pay165 (k0_pay154 v269)) (ix2 k l) = IntOp.maxsi (v269 (ix3 0 k ⟨l.val % 32, by omega⟩)) 0#32 := by
  rw [← wide_1 v269]
  pointwise [k0_pay165]

/-- Batch 2's last 32 tokens' words, four copies side by side. -/
theorem wide_2 (v426 : Vec Ideal S1x8x32 .i32) (k : Fin 8) (l : Fin 128) : (k0_pay182 v426) (ix2 k l) = v426 (ix3 0 k ⟨l.val % 32, by omega⟩) := by
  pointwise [k0_pay182]
  split_ifs <;> (congr 2; apply Fin.ext; simp only []; omega)

theorem tail_ix_2 (v426 : Vec Ideal S1x8x32 .i32) (k : Fin 8) (l : Fin 128) : (k0_pay192 (k0_pay182 v426)) (ix2 k l) = IntOp.maxsi (v426 (ix3 0 k ⟨l.val % 32, by omega⟩)) 0#32 := by
  rw [← wide_2 v426]
  pointwise [k0_pay192]

/-- Batch 0's masked scales of its first 128 tokens. -/
theorem sc_main_0 (v26 v29 v32 v35 v38 : Vec Ideal S1x128 .f32) (v41 : Vec Ideal S1x8x128 .i32) (S : Fin 640 → EReal)
    (h0 : ∀ (i : Fin 128) h, v26 (ix2 0 i) = S ⟨i.val, h⟩) (h1 : ∀ (i : Fin 128) h, v29 (ix2 0 i) = S ⟨128 + i.val, h⟩) (h2 : ∀ (i : Fin 128) h, v32 (ix2 0 i) = S ⟨256 + i.val, h⟩) (h3 : ∀ (i : Fin 128) h, v35 (ix2 0 i) = S ⟨384 + i.val, h⟩) (h4 : ∀ (i : Fin 128) h, v38 (ix2 0 i) = S ⟨512 + i.val, h⟩)
    (k : Fin 8) (l : Fin 128) (hw : (IntOp.maxsi (v41 (ix3 0 k l)) 0#32).toNat < 640) :
    (k0_pay123 (k0_pay110 v29) (k0_pay111 v32) (k0_pay112 v35) (k0_pay113 v38) (k0_pay114 v41) (k0_pay116 v41) (k0_pay118 v41) (k0_pay119 v41) (k0_pay120 v41) (k0_pay121 (k0_pay109 v26) v41) (k0_pay122 v41)) (ix3 0 k l) = scl (v41 (ix3 0 k l)) S := by
  pointwise [k0_pay109, k0_pay110, k0_pay111, k0_pay112, k0_pay113, k0_pay114, k0_pay116, k0_pay118, k0_pay119, k0_pay120, k0_pay121, k0_pay122, k0_pay123, k0_pay115, k0_pay117]
  unfold scl
  congr 1
  exact pick_src (v41 (ix3 0 k l)) hw S _ _ _ _ _ (fun h => h0 _ h) (fun h => h1 _ h) (fun h => h2 _ h) (fun h => h3 _ h) (fun h => h4 _ h)

/-- Batch 1's masked scales of its first 128 tokens. -/
theorem sc_main_1 (v183 v186 v189 v192 v195 : Vec Ideal S1x128 .f32) (v198 : Vec Ideal S1x8x128 .i32) (S : Fin 640 → EReal)
    (h0 : ∀ (i : Fin 128) h, v183 (ix2 0 i) = S ⟨i.val, h⟩) (h1 : ∀ (i : Fin 128) h, v186 (ix2 0 i) = S ⟨128 + i.val, h⟩) (h2 : ∀ (i : Fin 128) h, v189 (ix2 0 i) = S ⟨256 + i.val, h⟩) (h3 : ∀ (i : Fin 128) h, v192 (ix2 0 i) = S ⟨384 + i.val, h⟩) (h4 : ∀ (i : Fin 128) h, v195 (ix2 0 i) = S ⟨512 + i.val, h⟩)
    (k : Fin 8) (l : Fin 128) (hw : (IntOp.maxsi (v198 (ix3 0 k l)) 0#32).toNat < 640) :
    (k0_pay153 (k0_pay140 v192) (k0_pay141 v195) (k0_pay142 v198) (k0_pay144 (k0_pay142 v198)) (k0_pay146 (k0_pay142 v198)) (k0_pay147 (k0_pay142 v198)) (k0_pay148 (k0_pay142 v198)) (k0_pay149 (k0_pay137 v183) (k0_pay142 v198)) (k0_pay150 (k0_pay138 v186) (k0_pay142 v198)) (k0_pay151 (k0_pay139 v189) (k0_pay142 v198)) (k0_pay152 (k0_pay142 v198))) (ix3 0 k l) = scl (v198 (ix3 0 k l)) S := by
  pointwise [k0_pay137, k0_pay138, k0_pay139, k0_pay140, k0_pay141, k0_pay142, k0_pay144, k0_pay146, k0_pay147, k0_pay148, k0_pay149, k0_pay150, k0_pay151, k0_pay152, k0_pay153, k0_pay143, k0_pay145]
  unfold scl
  congr 1
  exact pick_src (v198 (ix3 0 k l)) hw S _ _ _ _ _ (fun h => h0 _ h) (fun h => h1 _ h) (fun h => h2 _ h) (fun h => h3 _ h) (fun h => h4 _ h)

/-- Batch 2's masked scales of its first 128 tokens. -/
theorem sc_main_2 (v340 v343 v346 v349 v352 : Vec Ideal S1x128 .f32) (v355 : Vec Ideal S1x8x128 .i32) (S : Fin 640 → EReal)
    (h0 : ∀ (i : Fin 128) h, v340 (ix2 0 i) = S ⟨i.val, h⟩) (h1 : ∀ (i : Fin 128) h, v343 (ix2 0 i) = S ⟨128 + i.val, h⟩) (h2 : ∀ (i : Fin 128) h, v346 (ix2 0 i) = S ⟨256 + i.val, h⟩) (h3 : ∀ (i : Fin 128) h, v349 (ix2 0 i) = S ⟨384 + i.val, h⟩) (h4 : ∀ (i : Fin 128) h, v352 (ix2 0 i) = S ⟨512 + i.val, h⟩)
    (k : Fin 8) (l : Fin 128) (hw : (IntOp.maxsi (v355 (ix3 0 k l)) 0#32).toNat < 640) :
    (k0_pay181 (k0_pay171 v355) (k0_pay178 (k0_pay174 v355)) (k0_pay179 (k0_pay170 v352) (k0_pay173 v355)) (k0_pay180 (k0_pay166 v340) (k0_pay167 v343) (k0_pay168 v346) (k0_pay169 v349) (k0_pay173 v355) (k0_pay175 v355) (k0_pay176 v355) k0_pay177)) (ix3 0 k l) = scl (v355 (ix3 0 k l)) S := by
  pointwise [k0_pay166, k0_pay167, k0_pay168, k0_pay169, k0_pay170, k0_pay171, k0_pay173, k0_pay174, k0_pay175, k0_pay176, k0_pay177, k0_pay178, k0_pay179, k0_pay180, k0_pay181, k0_pay172]
  unfold scl
  congr 1
  exact pick_src (v355 (ix3 0 k l)) hw S _ _ _ _ _ (fun h => h0 _ h) (fun h => h1 _ h) (fun h => h2 _ h) (fun h => h3 _ h) (fun h => h4 _ h)

/-- Batch 0's masked scales of its last 32 tokens, four copies side by side. -/
theorem sc_tail_0 (v26 v29 v32 v35 v38 : Vec Ideal S1x128 .f32) (v112 : Vec Ideal S1x8x32 .i32) (S : Fin 640 → EReal)
    (h0 : ∀ (i : Fin 128) h, v26 (ix2 0 i) = S ⟨i.val, h⟩) (h1 : ∀ (i : Fin 128) h, v29 (ix2 0 i) = S ⟨128 + i.val, h⟩) (h2 : ∀ (i : Fin 128) h, v32 (ix2 0 i) = S ⟨256 + i.val, h⟩) (h3 : ∀ (i : Fin 128) h, v35 (ix2 0 i) = S ⟨384 + i.val, h⟩) (h4 : ∀ (i : Fin 128) h, v38 (ix2 0 i) = S ⟨512 + i.val, h⟩)
    (k : Fin 8) (l : Fin 128) (hw : (IntOp.maxsi (k0_pay124 v112 (ix2 k l)) 0#32).toNat < 640) :
    (k0_pay135 (k0_pay112 v35) (k0_pay113 v38) (k0_pay124 v112) (k0_pay126 (k0_pay124 v112)) (k0_pay128 (k0_pay124 v112)) (k0_pay129 (k0_pay124 v112)) (k0_pay130 (k0_pay124 v112)) (k0_pay131 (k0_pay109 v26) (k0_pay124 v112)) (k0_pay132 (k0_pay110 v29) (k0_pay124 v112)) (k0_pay133 (k0_pay111 v32) (k0_pay124 v112)) (k0_pay134 (k0_pay124 v112))) (ix2 k l) = scl (k0_pay124 v112 (ix2 k l)) S := by
  pointwise [k0_pay109, k0_pay110, k0_pay111, k0_pay112, k0_pay113, k0_pay126, k0_pay128, k0_pay129, k0_pay130, k0_pay131, k0_pay132, k0_pay133, k0_pay134, k0_pay135, k0_pay125, k0_pay127]
  unfold scl
  congr 1
  exact pick_src (k0_pay124 v112 (ix2 k l)) hw S _ _ _ _ _ (fun h => h0 _ h) (fun h => h1 _ h) (fun h => h2 _ h) (fun h => h3 _ h) (fun h => h4 _ h)

/-- Batch 1's masked scales of its last 32 tokens, four copies side by side. -/
theorem sc_tail_1 (v183 v186 v189 v192 v195 : Vec Ideal S1x128 .f32) (v269 : Vec Ideal S1x8x32 .i32) (S : Fin 640 → EReal)
    (h0 : ∀ (i : Fin 128) h, v183 (ix2 0 i) = S ⟨i.val, h⟩) (h1 : ∀ (i : Fin 128) h, v186 (ix2 0 i) = S ⟨128 + i.val, h⟩) (h2 : ∀ (i : Fin 128) h, v189 (ix2 0 i) = S ⟨256 + i.val, h⟩) (h3 : ∀ (i : Fin 128) h, v192 (ix2 0 i) = S ⟨384 + i.val, h⟩) (h4 : ∀ (i : Fin 128) h, v195 (ix2 0 i) = S ⟨512 + i.val, h⟩)
    (k : Fin 8) (l : Fin 128) (hw : (IntOp.maxsi (k0_pay154 v269 (ix2 k l)) 0#32).toNat < 640) :
    (k0_pay164 (k0_pay154 v269) (k0_pay161 (k0_pay157 v269)) (k0_pay162 (k0_pay141 v195) (k0_pay156 v269)) (k0_pay163 (k0_pay137 v183) (k0_pay138 v186) (k0_pay139 v189) (k0_pay140 v192) (k0_pay156 v269) (k0_pay158 v269) (k0_pay159 v269) k0_pay160)) (ix2 k l) = scl (k0_pay154 v269 (ix2 k l)) S := by
  pointwise [k0_pay137, k0_pay138, k0_pay139, k0_pay140, k0_pay141, k0_pay156, k0_pay157, k0_pay158, k0_pay159, k0_pay160, k0_pay161, k0_pay162, k0_pay163, k0_pay164, k0_pay155]
  unfold scl
  congr 1
  exact pick_src (k0_pay154 v269 (ix2 k l)) hw S _ _ _ _ _ (fun h => h0 _ h) (fun h => h1 _ h) (fun h => h2 _ h) (fun h => h3 _ h) (fun h => h4 _ h)

/-- Batch 2's masked scales of its last 32 tokens, four copies side by side. -/
theorem sc_tail_2 (v340 v343 v346 v349 v352 : Vec Ideal S1x128 .f32) (v426 : Vec Ideal S1x8x32 .i32) (S : Fin 640 → EReal)
    (h0 : ∀ (i : Fin 128) h, v340 (ix2 0 i) = S ⟨i.val, h⟩) (h1 : ∀ (i : Fin 128) h, v343 (ix2 0 i) = S ⟨128 + i.val, h⟩) (h2 : ∀ (i : Fin 128) h, v346 (ix2 0 i) = S ⟨256 + i.val, h⟩) (h3 : ∀ (i : Fin 128) h, v349 (ix2 0 i) = S ⟨384 + i.val, h⟩) (h4 : ∀ (i : Fin 128) h, v352 (ix2 0 i) = S ⟨512 + i.val, h⟩)
    (k : Fin 8) (l : Fin 128) (hw : (IntOp.maxsi (k0_pay182 v426 (ix2 k l)) 0#32).toNat < 640) :
    (k0_pay191 (k0_pay167 v343) (k0_pay168 v346) (k0_pay169 v349) (k0_pay170 v352) (k0_pay182 v426) (k0_pay184 v426) (k0_pay186 v426) (k0_pay187 v426) (k0_pay188 v426) (k0_pay189 (k0_pay166 v340) v426) (k0_pay190 v426)) (ix2 k l) = scl (k0_pay182 v426 (ix2 k l)) S := by
  pointwise [k0_pay166, k0_pay167, k0_pay168, k0_pay169, k0_pay170, k0_pay184, k0_pay186, k0_pay187, k0_pay188, k0_pay189, k0_pay190, k0_pay191, k0_pay183, k0_pay185]
  unfold scl
  congr 1
  exact pick_src (k0_pay182 v426 (ix2 k l)) hw S _ _ _ _ _ (fun h => h0 _ h) (fun h => h1 _ h) (fun h => h2 _ h) (fun h => h3 _ h) (fun h => h4 _ h)

theorem slt_lane : ∀ l : Fin 128, IntOp.cmpi .slt (BitVec.ofNat 32 l.val) 32#32 = BitVec.ofBool (decide (l.val < 32)) ∧
    IntOp.cmpi .slt (BitVec.ofNat 32 l.val) 64#32 = BitVec.ofBool (decide (l.val < 64)) ∧
    IntOp.cmpi .slt (BitVec.ofNat 32 l.val) 96#32 = BitVec.ofBool (decide (l.val < 96)) := by decide +kernel

/-- The last row of the scale tile takes each 32 lanes from one batch. -/
theorem sc_row3 (A B C : FVec Ideal S8x128 .f32) (k : Fin 8) (l : Fin 128) :
    (k0_pay196 A B C (k0_pay193 (iota .tc S8x128 32 [1] iota_S8x128_d1_w32)) (k0_pay194 (iota .tc S8x128 32 [1] iota_S8x128_d1_w32)) (k0_pay195 (iota .tc S8x128 32 [1] iota_S8x128_d1_w32)) (FloatOps.ofBits .f32 0#32)) (ix3 0 k l) = if l.val < 32 then A (ix2 k l) else if l.val < 64 then B (ix2 k l) else if l.val < 96 then C (ix2 k l) else 0 := by
  pointwise [k0_pay196, k0_pay195, k0_pay194, k0_pay193]
  simp only [(slt_lane l).1, (slt_lane l).2.1, (slt_lane l).2.2, sel_ofBool, ofBits_zero32]

end Cert.KernelIdeal.Body
-- ==== Proof.KernelIdeal.Mem.lean ====
/- What the body's run reads back from its buffers, in closed form: the scale tile, the tail index words, the scratch
   matrix of gathered activations and the packed weights, each as a function of what was copied in. -/
module
public import proofs.«01_k».proof.Proof.KernelIdeal.Run
public import proofs.«01_k».proof.Proof.KernelIdeal.Rhs
public import proofs.«01_k».proof.Proof.KernelIdeal.Rhs2
public import proofs.«01_k».proof.Proof.KernelIdeal.Scale

@[expose] public section
set_option maxRecDepth 16384
noncomputable section
open Idealize.ShloMosaic
namespace Cert.KernelIdeal.Body
open Cert.KernelIdeal Cert.KernelIdeal.Gen

/-- A view filled by one write of its whole shape reads back what was written. -/
theorem read_whole {sig : RefSig} {κ : Kind} {sp : Space} {e : EltTy} {s : Shape} (v : View sig κ sp s e) (f : BufTy.Contents (Elt Ideal) v.ty) (d : s.Idx → Elt Ideal e) :
    v.read (Elt Ideal) (v.writes (Elt Ideal) f [⟨Rect.whole s, d⟩]) = d := by
  funext y
  refine View.read_writes_apply_of_pieces v f d _ ?_ y ⟨_, List.mem_cons_self, ?_⟩
  · intro p hp x
    obtain rfl := List.mem_singleton.1 hp
    show d x = d ((Rect.whole s).emb x)
    rw [Rect.emb_whole_apply]
  · show y ∈ (Rect.whole s).set
    rw [Rect.set_whole]; exact Finset.mem_univ _

/-- A load of a box from a buffer copied in whole, rank 3. -/
theorem rc3 {sig : RefSig} {κ : Kind} {sp : Space} {e : EltTy} {d0 d1 d2 s0 s1 s2 : ℕ} (v : View sig κ sp ⟨3, ![d0, d1, d2]⟩ e)
    (d : (⟨3, ![d0, d1, d2]⟩ : Shape).Idx → Elt Ideal e) {off : Fin 3 → ℕ} {o0 o1 o2 : ℕ} (ho : off = ![o0, o1, o2])
    (inb : ∀ a, off a + ![s0, s1, s2] a ≤ (⟨3, ![d0, d1, d2]⟩ : Shape).size a) {x0 : Fin s0} {x1 : Fin s1} {x2 : Fin s2} (y0 : Fin d0) (y1 : Fin d1) (y2 : Fin d2)
    (h0 : y0.val = o0 + x0.val) (h1 : y1.val = o1 + x1.val) (h2 : y2.val = o2 + x2.val) :
    v.readCov [⟨Rect.whole _, d⟩] (Rect.unit (s := ⟨3, ![d0, d1, d2]⟩) off ![s0, s1, s2] inb).toLoadRect (ix3 x0 x1 x2) = d (ix3 y0 y1 y2) :=
  ld3 (read_whole v _ d) ho inb y0 y1 y2 h0 h1 h2

/-- A load of a box from a buffer copied in whole, rank 2. -/
theorem rc2 {sig : RefSig} {κ : Kind} {sp : Space} {e : EltTy} {d0 d1 s0 s1 : ℕ} (v : View sig κ sp ⟨2, ![d0, d1]⟩ e)
    (d : (⟨2, ![d0, d1]⟩ : Shape).Idx → Elt Ideal e) {off : Fin 2 → ℕ} {o0 o1 : ℕ} (ho : off = ![o0, o1])
    (inb : ∀ a, off a + ![s0, s1] a ≤ (⟨2, ![d0, d1]⟩ : Shape).size a) {x0 : Fin s0} {x1 : Fin s1} (y0 : Fin d0) (y1 : Fin d1)
    (h0 : y0.val = o0 + x0.val) (h1 : y1.val = o1 + x1.val) :
    v.readCov [⟨Rect.whole _, d⟩] (Rect.unit (s := ⟨2, ![d0, d1]⟩) off ![s0, s1] inb).toLoadRect (ix2 x0 x1) = d (ix2 y0 y1) :=
  ld2 (read_whole v _ d) ho inb y0 y1 h0 h1

variable (c : Dev nD) (arg7 : Memref sig .tc .vmem S3x160 .f32) (harg7 : arg7.IsWhole) (arg8 : Memref sig .tc .vmem S3x576x640 .fp8e4m3) (harg8 : arg8.IsWhole) (arg9 : Memref sig .tc .vmem S3x640 .f32) (harg9 : arg9.IsWhole) (arg10 : Memref sig .tc .vmem S3x8x160 .i32) (harg10 : arg10.IsWhole) (arg11 : Memref sig .tc .vmem S8x448x576 .fp8e4m3) (harg11 : arg11.IsWhole) (arg12 : Memref sig .tc .vmem S1x448 .f32) (harg12 : arg12.IsWhole) (arg13 : Memref sig .tc .vmem S1x448 .f32) (harg13 : arg13.IsWhole) (arg14 : Memref sig .tc .vmem S4x8x128 .f32) (harg14 : arg14.IsWhole) (arg15 : Memref sig .tc .vmem S4608x512 .bf16) (harg15 : arg15.IsWhole) (arg16 : Memref sig .tc .vmem S448x4608 .fp8e4m3) (harg16 : arg16.IsWhole) (arg17 : Memref sig .tc .vmem S3x160x448 .fp8e4m3) (harg17 : arg17.IsWhole)
variable (f15 : BufTy.Contents (Elt Ideal) arg15.view.ty) (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) (fh5 : HbBuf0 (F := Ideal) c hbM0_5)

/-- The neighbour words, the scales, the codes, the weights, the weight scales and the bias, as copied in. -/
abbrev NBq : S3x8x160.Idx → BitVec 32 := kernelRun.sl.dma0 (F := Ideal) c fh2
abbrev XSq : S3x640.Idx → EReal := kernelRun.sl.dma0_1 (F := Ideal) c fh1
abbrev Xq : S3x576x640.Idx → EReal := kernelRun.sl.dma0_2 (F := Ideal) c fh0
abbrev Wq : S8x448x576.Idx → EReal := kernelRun.sl.dma0_3 (F := Ideal) c fh3
abbrev WSq : S1x448.Idx → EReal := kernelRun.sl.dma0_4 (F := Ideal) c fh4
abbrev Bq : S1x448.Idx → EReal := kernelRun.sl.dma0_5 (F := Ideal) c fh5

theorem ld_v26 (i : Fin 128) (h : i.val < 640) : kernelRun.sl.v26 (F := Ideal) c arg9 fh1 (ix2 0 i) = XSq c fh1 (ix2 0 ⟨i.val, h⟩) :=
  rc2 arg9.view _ rfl inb_S3x640_S1x128_0_0 _ _ (by simp) (by simp)
theorem ld_v29 (i : Fin 128) (h : 128 + i.val < 640) : kernelRun.sl.v29 (F := Ideal) c arg9 fh1 (ix2 0 i) = XSq c fh1 (ix2 0 ⟨128 + i.val, h⟩) :=
  rc2 arg9.view _ rfl inb_S3x640_S1x128_0_128 _ _ (by simp) (by simp)
theorem ld_v32 (i : Fin 128) (h : 256 + i.val < 640) : kernelRun.sl.v32 (F := Ideal) c arg9 fh1 (ix2 0 i) = XSq c fh1 (ix2 0 ⟨256 + i.val, h⟩) :=
  rc2 arg9.view _ rfl inb_S3x640_S1x128_0_256 _ _ (by simp) (by simp)
theorem ld_v35 (i : Fin 128) (h : 384 + i.val < 640) : kernelRun.sl.v35 (F := Ideal) c arg9 fh1 (ix2 0 i) = XSq c fh1 (ix2 0 ⟨384 + i.val, h⟩) :=
  rc2 arg9.view _ rfl inb_S3x640_S1x128_0_384 _ _ (by simp) (by simp)
theorem ld_v38 (i : Fin 128) (h : 512 + i.val < 640) : kernelRun.sl.v38 (F := Ideal) c arg9 fh1 (ix2 0 i) = XSq c fh1 (ix2 0 ⟨512 + i.val, h⟩) :=
  rc2 arg9.view _ rfl inb_S3x640_S1x128_0_512 _ _ (by simp) (by simp)
theorem ld_v41 (k : Fin 8) (l : Fin 128) : kernelRun.sl.v41 (F := Ideal) c arg10 fh2 (ix3 0 k l) = NBq c fh2 (ix3 0 k ⟨l.val, by omega⟩) :=
  rc3 arg10.view _ rfl inb_S3x8x160_S1x8x128_0_0_0 _ _ _ (by simp) (by simp) (by simp)
theorem ld_v112 (k : Fin 8) (l : Fin 32) : kernelRun.sl.v112 (F := Ideal) c arg10 fh2 (ix3 0 k l) = NBq c fh2 (ix3 0 k ⟨128 + l.val, by omega⟩) :=
  rc3 arg10.view _ rfl inb_S3x8x160_S1x8x32_0_0_128 _ _ _ (by simp) (by simp) (by simp)

/-- Batch 0's tail words, clamped below at 0. -/
theorem tail_r_0 (k : Fin 8) (l : Fin 128) : kernelRun.sl.r_22 (F := Ideal) c arg10 fh2 (ix2 k l) = IntOp.maxsi (NBq c fh2 (ix3 0 k (tokOf l))) 0#32 :=
  (tail_ix_0 _ k l).trans (congrArg (fun w => IntOp.maxsi w 0#32) (ld_v112 c arg10 fh2 k _))

theorem ld_v183 (i : Fin 128) (h : i.val < 640) : kernelRun.sl.v183 (F := Ideal) c arg9 fh1 (ix2 0 i) = XSq c fh1 (ix2 1 ⟨i.val, h⟩) :=
  rc2 arg9.view _ rfl inb_S3x640_S1x128_1_0 _ _ (by simp) (by simp)
theorem ld_v186 (i : Fin 128) (h : 128 + i.val < 640) : kernelRun.sl.v186 (F := Ideal) c arg9 fh1 (ix2 0 i) = XSq c fh1 (ix2 1 ⟨128 + i.val, h⟩) :=
  rc2 arg9.view _ rfl inb_S3x640_S1x128_1_128 _ _ (by simp) (by simp)
theorem ld_v189 (i : Fin 128) (h : 256 + i.val < 640) : kernelRun.sl.v189 (F := Ideal) c arg9 fh1 (ix2 0 i) = XSq c fh1 (ix2 1 ⟨256 + i.val, h⟩) :=
  rc2 arg9.view _ rfl inb_S3x640_S1x128_1_256 _ _ (by simp) (by simp)
theorem ld_v192 (i : Fin 128) (h : 384 + i.val < 640) : kernelRun.sl.v192 (F := Ideal) c arg9 fh1 (ix2 0 i) = XSq c fh1 (ix2 1 ⟨384 + i.val, h⟩) :=
  rc2 arg9.view _ rfl inb_S3x640_S1x128_1_384 _ _ (by simp) (by simp)
theorem ld_v195 (i : Fin 128) (h : 512 + i.val < 640) : kernelRun.sl.v195 (F := Ideal) c arg9 fh1 (ix2 0 i) = XSq c fh1 (ix2 1 ⟨512 + i.val, h⟩) :=
  rc2 arg9.view _ rfl inb_S3x640_S1x128_1_512 _ _ (by simp) (by simp)
theorem ld_v198 (k : Fin 8) (l : Fin 128) : kernelRun.sl.v198 (F := Ideal) c arg10 fh2 (ix3 0 k l) = NBq c fh2 (ix3 1 k ⟨l.val, by omega⟩) :=
  rc3 arg10.view _ rfl inb_S3x8x160_S1x8x128_1_0_0 _ _ _ (by simp) (by simp) (by simp)
theorem ld_v269 (k : Fin 8) (l : Fin 32) : kernelRun.sl.v269 (F := Ideal) c arg10 fh2 (ix3 0 k l) = NBq c fh2 (ix3 1 k ⟨128 + l.val, by omega⟩) :=
  rc3 arg10.view _ rfl inb_S3x8x160_S1x8x32_1_0_128 _ _ _ (by simp) (by simp) (by simp)

/-- Batch 1's tail words, clamped below at 0. -/
theorem tail_r_1 (k : Fin 8) (l : Fin 128) : kernelRun.sl.r_46 (F := Ideal) c arg10 fh2 (ix2 k l) = IntOp.maxsi (NBq c fh2 (ix3 1 k (tokOf l))) 0#32 :=
  (tail_ix_1 _ k l).trans (congrArg (fun w => IntOp.maxsi w 0#32) (ld_v269 c arg10 fh2 k _))

theorem ld_v340 (i : Fin 128) (h : i.val < 640) : kernelRun.sl.v340 (F := Ideal) c arg9 fh1 (ix2 0 i) = XSq c fh1 (ix2 2 ⟨i.val, h⟩) :=
  rc2 arg9.view _ rfl inb_S3x640_S1x128_2_0 _ _ (by simp) (by simp)
theorem ld_v343 (i : Fin 128) (h : 128 + i.val < 640) : kernelRun.sl.v343 (F := Ideal) c arg9 fh1 (ix2 0 i) = XSq c fh1 (ix2 2 ⟨128 + i.val, h⟩) :=
  rc2 arg9.view _ rfl inb_S3x640_S1x128_2_128 _ _ (by simp) (by simp)
theorem ld_v346 (i : Fin 128) (h : 256 + i.val < 640) : kernelRun.sl.v346 (F := Ideal) c arg9 fh1 (ix2 0 i) = XSq c fh1 (ix2 2 ⟨256 + i.val, h⟩) :=
  rc2 arg9.view _ rfl inb_S3x640_S1x128_2_256 _ _ (by simp) (by simp)
theorem ld_v349 (i : Fin 128) (h : 384 + i.val < 640) : kernelRun.sl.v349 (F := Ideal) c arg9 fh1 (ix2 0 i) = XSq c fh1 (ix2 2 ⟨384 + i.val, h⟩) :=
  rc2 arg9.view _ rfl inb_S3x640_S1x128_2_384 _ _ (by simp) (by simp)
theorem ld_v352 (i : Fin 128) (h : 512 + i.val < 640) : kernelRun.sl.v352 (F := Ideal) c arg9 fh1 (ix2 0 i) = XSq c fh1 (ix2 2 ⟨512 + i.val, h⟩) :=
  rc2 arg9.view _ rfl inb_S3x640_S1x128_2_512 _ _ (by simp) (by simp)
theorem ld_v355 (k : Fin 8) (l : Fin 128) : kernelRun.sl.v355 (F := Ideal) c arg10 fh2 (ix3 0 k l) = NBq c fh2 (ix3 2 k ⟨l.val, by omega⟩) :=
  rc3 arg10.view _ rfl inb_S3x8x160_S1x8x128_2_0_0 _ _ _ (by simp) (by simp) (by simp)
theorem ld_v426 (k : Fin 8) (l : Fin 32) : kernelRun.sl.v426 (F := Ideal) c arg10 fh2 (ix3 0 k l) = NBq c fh2 (ix3 2 k ⟨128 + l.val, by omega⟩) :=
  rc3 arg10.view _ rfl inb_S3x8x160_S1x8x32_2_0_128 _ _ _ (by simp) (by simp) (by simp)

/-- Batch 2's tail words, clamped below at 0. -/
theorem tail_r_2 (k : Fin 8) (l : Fin 128) : kernelRun.sl.r_68 (F := Ideal) c arg10 fh2 (ix2 k l) = IntOp.maxsi (NBq c fh2 (ix3 2 k (tokOf l))) 0#32 :=
  (tail_ix_2 _ k l).trans (congrArg (fun w => IntOp.maxsi w 0#32) (ld_v426 c arg10 fh2 k _))

/-- The scale tile as stored. -/
theorem good_sc (hlt : ∀ i, (IntOp.maxsi (NBq c fh2 i) 0#32).toNat < 640) : Good (scQ (XSq c fh1) (NBq c fh2)) (kernelRun.sl.H14_4 (F := Ideal) c arg9 arg10 fh1 fh2) := by
  intro p hp
  unfold kernelRun.sl.H14_4 at hp
  simp only [List.mem_cons, List.not_mem_nil, or_false] at hp
  rcases hp with rfl | rfl | rfl | rfl
  · intro x
    dsimp only at x ⊢
    idx_vars x
    rename' x0 => z, x1 => k, x2 => l
    obtain rfl : z = 0 := Fin.ext (by have := z.isLt; simp)
    have t0 : kernelRun.sl.r_21 (F := Ideal) c arg9 arg10 fh1 fh2 (ix2 k l) = scl (NBq c fh2 (ix3 0 k (tokOf l))) fun s => XSq c fh1 (ix2 0 s) := by
      have e : (k0_pay124 (kernelRun.sl.v112 (F := Ideal) c arg10 fh2)) (ix2 k l) = NBq c fh2 (ix3 0 k (tokOf l)) :=
        (wide_0 _ k l).trans (ld_v112 c arg10 fh2 k _)
      refine (sc_tail_0 _ _ _ _ _ _ (fun s => XSq c fh1 (ix2 0 s)) (ld_v26 c arg9 fh1) (ld_v29 c arg9 fh1) (ld_v32 c arg9 fh1) (ld_v35 c arg9 fh1) (ld_v38 c arg9 fh1) k l (by rw [e]; exact hlt _)).trans ?_
      rw [e]
    have t1 : kernelRun.sl.r_45 (F := Ideal) c arg9 arg10 fh1 fh2 (ix2 k l) = scl (NBq c fh2 (ix3 1 k (tokOf l))) fun s => XSq c fh1 (ix2 1 s) := by
      have e : (k0_pay154 (kernelRun.sl.v269 (F := Ideal) c arg10 fh2)) (ix2 k l) = NBq c fh2 (ix3 1 k (tokOf l)) :=
        (wide_1 _ k l).trans (ld_v269 c arg10 fh2 k _)
      refine (sc_tail_1 _ _ _ _ _ _ (fun s => XSq c fh1 (ix2 1 s)) (ld_v183 c arg9 fh1) (ld_v186 c arg9 fh1) (ld_v189 c arg9 fh1) (ld_v192 c arg9 fh1) (ld_v195 c arg9 fh1) k l (by rw [e]; exact hlt _)).trans ?_
      rw [e]
    have t2 : kernelRun.sl.r_67 (F := Ideal) c arg9 arg10 fh1 fh2 (ix2 k l) = scl (NBq c fh2 (ix3 2 k (tokOf l))) fun s => XSq c fh1 (ix2 2 s) := by
      have e : (k0_pay182 (kernelRun.sl.v426 (F := Ideal) c arg10 fh2)) (ix2 k l) = NBq c fh2 (ix3 2 k (tokOf l)) :=
        (wide_2 _ k l).trans (ld_v426 c arg10 fh2 k _)
      refine (sc_tail_2 _ _ _ _ _ _ (fun s => XSq c fh1 (ix2 2 s)) (ld_v340 c arg9 fh1) (ld_v343 c arg9 fh1) (ld_v346 c arg9 fh1) (ld_v349 c arg9 fh1) (ld_v352 c arg9 fh1) k l (by rw [e]; exact hlt _)).trans ?_
      rw [e]
    have hl := l.isLt
    refine (sc_row3 _ _ _ k l).trans ?_
    rw [emb3 (s0 := 1) (s1 := 8) (s2 := 128) rfl inb_S4x8x128_S1x8x128_3_0_0 3 k l (by simp) (by simp) (by simp)]
    rw [t0, t1, t2]
    split_ifs with q0 q1 q2
    · exact (scQ_tail _ _ 0 k l 3 rfl (tokOf l) (Nat.le_add_right _ _) (by show l.val = 32 * 0 + (128 + l.val % 32 - 128); omega)).symm
    · exact (scQ_tail _ _ 1 k l 3 rfl (tokOf l) (Nat.le_add_right _ _) (by show l.val = 32 * 1 + (128 + l.val % 32 - 128); omega)).symm
    · exact (scQ_tail _ _ 2 k l 3 rfl (tokOf l) (Nat.le_add_right _ _) (by show l.val = 32 * 2 + (128 + l.val % 32 - 128); omega)).symm
    · exact (scQ_zero _ _ k l 3 rfl (by omega)).symm
  · intro x
    dsimp only at x ⊢
    idx_vars x
    rename' x0 => z, x1 => k, x2 => l
    obtain rfl : z = 0 := Fin.ext (by have := z.isLt; simp)
    have e := ld_v355 c arg10 fh2 k l
    refine (sc_main_2 _ _ _ _ _ _ (fun s => XSq c fh1 (ix2 2 s)) (ld_v340 c arg9 fh1) (ld_v343 c arg9 fh1) (ld_v346 c arg9 fh1) (ld_v349 c arg9 fh1) (ld_v352 c arg9 fh1) k l (by rw [e]; exact hlt _)).trans ?_
    rw [e, emb3 (s0 := 1) (s1 := 8) (s2 := 128) rfl inb_S4x8x128_S1x8x128_2_0_0 2 k l (by simp) (by simp) (by simp)]
    exact (scQ_main _ _ 2 k l 2 rfl _ rfl).symm
  · intro x
    dsimp only at x ⊢
    idx_vars x
    rename' x0 => z, x1 => k, x2 => l
    obtain rfl : z = 0 := Fin.ext (by have := z.isLt; simp)
    have e := ld_v198 c arg10 fh2 k l
    refine (sc_main_1 _ _ _ _ _ _ (fun s => XSq c fh1 (ix2 1 s)) (ld_v183 c arg9 fh1) (ld_v186 c arg9 fh1) (ld_v189 c arg9 fh1) (ld_v192 c arg9 fh1) (ld_v195 c arg9 fh1) k l (by rw [e]; exact hlt _)).trans ?_
    rw [e, emb3 (s0 := 1) (s1 := 8) (s2 := 128) rfl inb_S4x8x128_S1x8x128_1_0_0 1 k l (by simp) (by simp) (by simp)]
    exact (scQ_main _ _ 1 k l 1 rfl _ rfl).symm
  · intro x
    dsimp only at x ⊢
    idx_vars x
    rename' x0 => z, x1 => k, x2 => l
    obtain rfl : z = 0 := Fin.ext (by have := z.isLt; simp)
    have e := ld_v41 c arg10 fh2 k l
    refine (sc_main_0 _ _ _ _ _ _ (fun s => XSq c fh1 (ix2 0 s)) (ld_v26 c arg9 fh1) (ld_v29 c arg9 fh1) (ld_v32 c arg9 fh1) (ld_v35 c arg9 fh1) (ld_v38 c arg9 fh1) k l (by rw [e]; exact hlt _)).trans ?_
    rw [e, emb3 (s0 := 1) (s1 := 8) (s2 := 128) rfl inb_S4x8x128_S1x8x128_0_0_0 0 k l (by simp) (by simp) (by simp)]
    exact (scQ_main _ _ 0 k l 0 rfl _ rfl).symm

theorem read_sc (hlt : ∀ i, (IntOp.maxsi (NBq c fh2 i) 0#32).toNat < 640) :
    arg14.view.read (Elt Ideal) (arg14.view.writes (Elt Ideal) arg14.view.junk (kernelRun.sl.H14_4 (F := Ideal) c arg9 arg10 fh1 fh2)) = scQ (XSq c fh1) (NBq c fh2) := by
  funext y
  refine View.read_writes_apply_of_pieces arg14.view _ _ _ (good_sc c arg9 arg10 fh1 fh2 hlt) y ?_
  idx_vars y
  rename' y0 => b, y1 => k, y2 => l
  have hb := b.isLt
  have hk := k.isLt
  have hl := l.isLt
  unfold kernelRun.sl.H14_4
  have hq : b.val = 0 ∨ b.val = 1 ∨ b.val = 2 ∨ b.val = 3 := by omega
  rcases hq with hq | hq | hq | hq
  · refine ⟨_, (List.mem_cons_of_mem _ (List.mem_cons_of_mem _ (List.mem_cons_of_mem _ List.mem_cons_self))), ?_⟩
    rw [Rect.mem_set_unit]
    intro x
    fin_cases x
    · show 0 ≤ b.val ∧ b.val < 0 + 1
      omega
    · show 0 ≤ k.val ∧ k.val < 0 + 8
      omega
    · show 0 ≤ l.val ∧ l.val < 0 + 128
      omega
  · refine ⟨_, (List.mem_cons_of_mem _ (List.mem_cons_of_mem _ List.mem_cons_self)), ?_⟩
    rw [Rect.mem_set_unit]
    intro x
    fin_cases x
    · show 1 ≤ b.val ∧ b.val < 1 + 1
      omega
    · show 0 ≤ k.val ∧ k.val < 0 + 8
      omega
    · show 0 ≤ l.val ∧ l.val < 0 + 128
      omega
  · refine ⟨_, (List.mem_cons_of_mem _ List.mem_cons_self), ?_⟩
    rw [Rect.mem_set_unit]
    intro x
    fin_cases x
    · show 2 ≤ b.val ∧ b.val < 2 + 1
      omega
    · show 0 ≤ k.val ∧ k.val < 0 + 8
      omega
    · show 0 ≤ l.val ∧ l.val < 0 + 128
      omega
  · refine ⟨_, List.mem_cons_self, ?_⟩
    rw [Rect.mem_set_unit]
    intro x
    fin_cases x
    · show 3 ≤ b.val ∧ b.val < 3 + 1
      omega
    · show 0 ≤ k.val ∧ k.val < 0 + 8
      omega
    · show 0 ≤ l.val ∧ l.val < 0 + 128
      omega

theorem h25 : ∀ (a : Fin 32) (l : Fin 128), kernelRun.sl.v25 (ix2 a l) = BitVec.ofNat 32 l.val := by
  intro a l
  unfold kernelRun.sl.v25
  pointwise
  try rfl

/-- Columns 0 to 255 of the scratch matrix, as loaded. -/
theorem ld_v865 (hlt : ∀ i, (IntOp.maxsi (NBq c fh2 i) 0#32).toNat < 640) (r : Fin 4608) (l : Fin 256) :
    kernelRun.sl.v865 (F := Ideal) c arg7 harg7 arg8 harg8 arg9 harg9 arg10 harg10 arg11 harg11 arg12 harg12 arg13 harg13 arg14 harg14 arg15 harg15 arg16 harg16 arg17 harg17 f15 fh0 fh1 fh2 (ix2 r l) = rhsQ (Xq c fh0) (XSq c fh1) (NBq c fh2) (ix2 r ⟨0 + l.val, by omega⟩) := by
  have hX : arg8.view.read (Elt Ideal) (arg8.view.writes (Elt Ideal) arg8.view.junk [⟨Rect.whole S3x576x640, kernelRun.sl.dma0_2 c fh0⟩]) = Xq c fh0 := read_whole _ _ _
  have hNB : arg10.view.read (Elt Ideal) (arg10.view.writes (Elt Ideal) arg10.view.junk [⟨Rect.whole S3x8x160, kernelRun.sl.dma0 c fh2⟩]) = NBq c fh2 := read_whole _ _ _
  have hSC := read_sc c arg9 arg10 arg14 fh1 fh2 hlt
  have I00 := idx_00 _ h25 (kernelRun.sl.r_22 (F := Ideal) c arg10 fh2)
  have I01 := idx_01 _ h25 (kernelRun.sl.r_46 (F := Ideal) c arg10 fh2)
  have I02 := idx_02 _ h25 (kernelRun.sl.r_68 (F := Ideal) c arg10 fh2)
  have I10 := idx_10 _ h25 (kernelRun.sl.r_22 (F := Ideal) c arg10 fh2)
  have I11 := idx_11 _ h25 (kernelRun.sl.r_46 (F := Ideal) c arg10 fh2)
  have I12 := idx_12 _ h25 (kernelRun.sl.r_68 (F := Ideal) c arg10 fh2)
  have h00 := fun l : Fin 128 => tail_r_0 c arg10 fh2 (slotOf 0 0 l) l
  have h01 := fun l : Fin 128 => tail_r_1 c arg10 fh2 (slotOf 0 1 l) l
  have h02 := fun l : Fin 128 => tail_r_2 c arg10 fh2 (slotOf 0 2 l) l
  have h10 := fun l : Fin 128 => tail_r_0 c arg10 fh2 (slotOf 1 0 l) l
  have h11 := fun l : Fin 128 => tail_r_1 c arg10 fh2 (slotOf 1 1 l) l
  have h12 := fun l : Fin 128 => tail_r_2 c arg10 fh2 (slotOf 1 2 l) l
  unfold kernelRun.sl.v865
  refine ld2 (e := .bf16) (G := rhsQ (Xq c fh0) (XSq c fh1) (NBq c fh2)) (funext fun y => ?_) rfl inb_S4608x512_S4608x256_0_0 r ⟨0 + l.val, by omega⟩ (Nat.zero_add _).symm rfl
  refine View.read_writes_apply_of_pieces arg15.view _ _ _ ?_ y ?_
  · intro p hp x
    simp only [List.mem_append] at hp
    rcases hp with hp | hp | hp | hp | hp
    · exact good_t7 _ _ _ _ _ _ _ _ _ _ _ _ _ _ _ _ _ _ _ _ _ _ _ _ _ _ _ _ _ _ _ _ _ _ _ _ _ _ _ _ _ _ _ _ _ _ _ _ _ _ _ _ _ _ h25 _ _ _ hX hSC hlt _ _ _ I10 I11 I12 h10 h11 h12 p hp x
    · exact good_t6 _ _ _ _ _ _ _ _ _ _ _ _ _ _ _ _ _ _ _ _ _ _ _ _ _ _ _ _ _ _ _ _ _ _ _ _ _ _ _ _ _ _ _ _ _ _ _ _ _ _ _ _ _ _ h25 _ _ _ hX hSC hlt _ _ _ I10 I11 I12 h10 h11 h12 p hp x
    · exact good_t5 _ _ _ _ _ _ _ _ _ _ _ _ _ _ _ _ _ _ _ _ _ _ _ _ _ _ _ _ _ _ _ _ _ _ _ _ _ _ _ _ _ _ _ _ _ _ _ _ _ _ _ _ _ _ _ _ h25 _ _ _ hX hSC hlt _ _ _ I00 I01 I02 h00 h01 h02 p hp x
    · exact good_t4 _ _ _ _ _ _ _ _ _ _ _ _ _ _ _ _ _ _ _ _ _ _ _ _ _ _ _ _ _ _ _ _ _ _ _ _ _ _ _ _ _ _ _ _ _ _ _ _ _ _ _ _ _ _ _ _ h25 _ _ _ hX hSC hlt _ _ _ I00 I01 I02 h00 h01 h02 p hp x
    · exact good_t1 _ _ _ _ _ _ _ _ _ _ _ _ _ _ _ _ _ _ _ _ _ _ _ _ _ _ _ _ _ _ _ _ _ _ _ _ _ _ _ _ _ _ _ _ _ _ _ _ _ _ _ _ _ _ _ hX hNB hSC hlt p hp x
  · idx_vars y
    rename' y0 => r, y1 => l
    by_cases hl : l.val < 384
    · obtain ⟨p, hp, hs⟩ := cover_t1 (r := r) (l := l) (hl := hl) ..
      exact ⟨p, List.mem_append_right _ (List.mem_append_right _ (List.mem_append_right _ (List.mem_append_right _ hp))), hs⟩
    · have hl' : 384 ≤ l.val := by omega
      by_cases h1 : r.val < 2048
      · obtain ⟨p, hp, hs⟩ := cover_t4 (r := r) (l := l) (hl := hl') (hr := h1) ..
        exact ⟨p, List.mem_append_right _ (List.mem_append_right _ (List.mem_append_right _ (List.mem_append_left _ hp))), hs⟩
      · by_cases h2 : r.val < 4096
        · obtain ⟨p, hp, hs⟩ := cover_t6 (r := r) (l := l) (hl := hl') (hr := ⟨by omega, h2⟩) ..
          exact ⟨p, List.mem_append_right _ (List.mem_append_left _ hp), hs⟩
        · by_cases h3 : r.val < 4352
          · obtain ⟨p, hp, hs⟩ := cover_t5 (r := r) (l := l) (hl := hl') (hr := ⟨by omega, h3⟩) ..
            exact ⟨p, List.mem_append_right _ (List.mem_append_right _ (List.mem_append_left _ hp)), hs⟩
          · obtain ⟨p, hp, hs⟩ := cover_t7 (r := r) (l := l) (hl := hl') (hr := by omega) ..
            exact ⟨p, List.mem_append_left _ hp, hs⟩

/-- Columns 256 to 511 of the scratch matrix, as loaded. -/
theorem ld_v1001 (hlt : ∀ i, (IntOp.maxsi (NBq c fh2 i) 0#32).toNat < 640) (r : Fin 4608) (l : Fin 256) :
    kernelRun.sl.v1001 (F := Ideal) c arg7 harg7 arg8 harg8 arg9 harg9 arg10 harg10 arg11 harg11 arg12 harg12 arg13 harg13 arg14 harg14 arg15 harg15 arg16 harg16 arg17 harg17 f15 fh0 fh1 fh2 (ix2 r l) = rhsQ (Xq c fh0) (XSq c fh1) (NBq c fh2) (ix2 r ⟨256 + l.val, by omega⟩) := by
  have hX : arg8.view.read (Elt Ideal) (arg8.view.writes (Elt Ideal) arg8.view.junk [⟨Rect.whole S3x576x640, kernelRun.sl.dma0_2 c fh0⟩]) = Xq c fh0 := read_whole _ _ _
  have hNB : arg10.view.read (Elt Ideal) (arg10.view.writes (Elt Ideal) arg10.view.junk [⟨Rect.whole S3x8x160, kernelRun.sl.dma0 c fh2⟩]) = NBq c fh2 := read_whole _ _ _
  have hSC := read_sc c arg9 arg10 arg14 fh1 fh2 hlt
  have I00 := idx_00 _ h25 (kernelRun.sl.r_22 (F := Ideal) c arg10 fh2)
  have I01 := idx_01 _ h25 (kernelRun.sl.r_46 (F := Ideal) c arg10 fh2)
  have I02 := idx_02 _ h25 (kernelRun.sl.r_68 (F := Ideal) c arg10 fh2)
  have I10 := idx_10 _ h25 (kernelRun.sl.r_22 (F := Ideal) c arg10 fh2)
  have I11 := idx_11 _ h25 (kernelRun.sl.r_46 (F := Ideal) c arg10 fh2)
  have I12 := idx_12 _ h25 (kernelRun.sl.r_68 (F := Ideal) c arg10 fh2)
  have h00 := fun l : Fin 128 => tail_r_0 c arg10 fh2 (slotOf 0 0 l) l
  have h01 := fun l : Fin 128 => tail_r_1 c arg10 fh2 (slotOf 0 1 l) l
  have h02 := fun l : Fin 128 => tail_r_2 c arg10 fh2 (slotOf 0 2 l) l
  have h10 := fun l : Fin 128 => tail_r_0 c arg10 fh2 (slotOf 1 0 l) l
  have h11 := fun l : Fin 128 => tail_r_1 c arg10 fh2 (slotOf 1 1 l) l
  have h12 := fun l : Fin 128 => tail_r_2 c arg10 fh2 (slotOf 1 2 l) l
  unfold kernelRun.sl.v1001
  refine ld2 (e := .bf16) (G := rhsQ (Xq c fh0) (XSq c fh1) (NBq c fh2)) (funext fun y => ?_) rfl inb_S4608x512_S4608x256_0_256 r ⟨256 + l.val, by omega⟩ (Nat.zero_add _).symm rfl
  refine View.read_writes_apply_of_pieces arg15.view _ _ _ ?_ y ?_
  · intro p hp x
    simp only [List.mem_append] at hp
    rcases hp with hp | hp | hp | hp | hp
    · exact good_t7 _ _ _ _ _ _ _ _ _ _ _ _ _ _ _ _ _ _ _ _ _ _ _ _ _ _ _ _ _ _ _ _ _ _ _ _ _ _ _ _ _ _ _ _ _ _ _ _ _ _ _ _ _ _ h25 _ _ _ hX hSC hlt _ _ _ I10 I11 I12 h10 h11 h12 p hp x
    · exact good_t6 _ _ _ _ _ _ _ _ _ _ _ _ _ _ _ _ _ _ _ _ _ _ _ _ _ _ _ _ _ _ _ _ _ _ _ _ _ _ _ _ _ _ _ _ _ _ _ _ _ _ _ _ _ _ h25 _ _ _ hX hSC hlt _ _ _ I10 I11 I12 h10 h11 h12 p hp x
    · exact good_t5 _ _ _ _ _ _ _ _ _ _ _ _ _ _ _ _ _ _ _ _ _ _ _ _ _ _ _ _ _ _ _ _ _ _ _ _ _ _ _ _ _ _ _ _ _ _ _ _ _ _ _ _ _ _ _ _ h25 _ _ _ hX hSC hlt _ _ _ I00 I01 I02 h00 h01 h02 p hp x
    · exact good_t4 _ _ _ _ _ _ _ _ _ _ _ _ _ _ _ _ _ _ _ _ _ _ _ _ _ _ _ _ _ _ _ _ _ _ _ _ _ _ _ _ _ _ _ _ _ _ _ _ _ _ _ _ _ _ _ _ h25 _ _ _ hX hSC hlt _ _ _ I00 I01 I02 h00 h01 h02 p hp x
    · exact good_t1 _ _ _ _ _ _ _ _ _ _ _ _ _ _ _ _ _ _ _ _ _ _ _ _ _ _ _ _ _ _ _ _ _ _ _ _ _ _ _ _ _ _ _ _ _ _ _ _ _ _ _ _ _ _ _ hX hNB hSC hlt p hp x
  · idx_vars y
    rename' y0 => r, y1 => l
    by_cases hl : l.val < 384
    · obtain ⟨p, hp, hs⟩ := cover_t1 (r := r) (l := l) (hl := hl) ..
      exact ⟨p, List.mem_append_right _ (List.mem_append_right _ (List.mem_append_right _ (List.mem_append_right _ hp))), hs⟩
    · have hl' : 384 ≤ l.val := by omega
      by_cases h1 : r.val < 2048
      · obtain ⟨p, hp, hs⟩ := cover_t4 (r := r) (l := l) (hl := hl') (hr := h1) ..
        exact ⟨p, List.mem_append_right _ (List.mem_append_right _ (List.mem_append_right _ (List.mem_append_left _ hp))), hs⟩
      · by_cases h2 : r.val < 4096
        · obtain ⟨p, hp, hs⟩ := cover_t6 (r := r) (l := l) (hl := hl') (hr := ⟨by omega, h2⟩) ..
          exact ⟨p, List.mem_append_right _ (List.mem_append_left _ hp), hs⟩
        · by_cases h3 : r.val < 4352
          · obtain ⟨p, hp, hs⟩ := cover_t5 (r := r) (l := l) (hl := hl') (hr := ⟨by omega, h3⟩) ..
            exact ⟨p, List.mem_append_right _ (List.mem_append_right _ (List.mem_append_left _ hp)), hs⟩
          · obtain ⟨p, hp, hs⟩ := cover_t7 (r := r) (l := l) (hl := hl') (hr := by omega) ..
            exact ⟨p, List.mem_append_left _ hp, hs⟩

end Cert.KernelIdeal.Body
-- ==== Proof.KernelIdeal.Lhs.lean ====
/- The packed weights: what the body stores in its weight scratch is, column by column, the weight of the slot and channel of
   the matching row of the activation scratch. -/
module
public import proofs.«01_k».proof.Proof.KernelIdeal.Mem

@[expose] public section
set_option maxRecDepth 16384
noncomputable section
open Idealize.ShloMosaic
namespace Cert.KernelIdeal.Body
open Cert.KernelIdeal Cert.KernelIdeal.Gen

variable (c : Dev nD) (arg11 : Memref sig .tc .vmem S8x448x576 .fp8e4m3) (arg16 : Memref sig .tc .vmem S448x4608 .fp8e4m3) (fh3 : HbBuf0 (F := Ideal) c hbM0_3)

/-- The packed weights. -/
def lhsQ (W : S8x448x576.Idx → EReal) (i : S448x4608.Idx) : EReal := W (ix3 (kOf (i 1)) (i 0) (cOf (i 1)))

theorem lhsQ_at (W : S8x448x576.Idx → EReal) (k : Fin 8) (o : Fin 448) (c : Fin 576) (r : Fin 4608)
    (hr : r.val = if c.val < 512 then 512 * k.val + c.val else 4096 + 64 * k.val + (c.val - 512)) :
    lhsQ W (ix2 o r) = W (ix3 k o c) := by
  have hk := k.isLt
  have hc := c.isLt
  have e1 : kOf r = k := Fin.ext (by rw [kOf_val]; split_ifs at * <;> omega)
  have e2 : cOf r = c := Fin.ext (by rw [cOf_val]; split_ifs at * <;> omega)
  show W (ix3 (kOf r) o (cOf r)) = _
  rw [e1, e2]

theorem ld_v737 (o : Fin 448) (j : Fin 512) : kernelRun.sl.v737 (F := Ideal) c arg11 fh3 (ix3 0 o j) = Wq c fh3 (ix3 0 o ⟨j.val, by omega⟩) :=
  rc3 arg11.view _ rfl inb_S8x448x576_S1x448x512_0_0_0 _ _ _ (by simp) (by simp) (by simp)
theorem ld_v777 (o : Fin 448) (j : Fin 64) : kernelRun.sl.v777 (F := Ideal) c arg11 fh3 (ix3 0 o j) = Wq c fh3 (ix3 0 o ⟨512 + j.val, by omega⟩) :=
  rc3 arg11.view _ rfl inb_S8x448x576_S1x448x64_0_0_512 _ _ _ (by simp) (by simp) (by simp)
theorem w_main_0 (v : Vec Ideal S1x448x512 .fp8e4m3) (o : Fin 448) (j : Fin 512) : (k0_pay259 v) (ix2 o j) = v (ix3 0 o j) := by
  pointwise [k0_pay259]
theorem ld_v742 (o : Fin 448) (j : Fin 512) : kernelRun.sl.v742 (F := Ideal) c arg11 fh3 (ix3 0 o j) = Wq c fh3 (ix3 1 o ⟨j.val, by omega⟩) :=
  rc3 arg11.view _ rfl inb_S8x448x576_S1x448x512_1_0_0 _ _ _ (by simp) (by simp) (by simp)
theorem ld_v780 (o : Fin 448) (j : Fin 64) : kernelRun.sl.v780 (F := Ideal) c arg11 fh3 (ix3 0 o j) = Wq c fh3 (ix3 1 o ⟨512 + j.val, by omega⟩) :=
  rc3 arg11.view _ rfl inb_S8x448x576_S1x448x64_1_0_512 _ _ _ (by simp) (by simp) (by simp)
theorem w_main_1 (v : Vec Ideal S1x448x512 .fp8e4m3) (o : Fin 448) (j : Fin 512) : (k0_pay260 v) (ix2 o j) = v (ix3 0 o j) := by
  pointwise [k0_pay260]
theorem ld_v747 (o : Fin 448) (j : Fin 512) : kernelRun.sl.v747 (F := Ideal) c arg11 fh3 (ix3 0 o j) = Wq c fh3 (ix3 2 o ⟨j.val, by omega⟩) :=
  rc3 arg11.view _ rfl inb_S8x448x576_S1x448x512_2_0_0 _ _ _ (by simp) (by simp) (by simp)
theorem ld_v788 (o : Fin 448) (j : Fin 64) : kernelRun.sl.v788 (F := Ideal) c arg11 fh3 (ix3 0 o j) = Wq c fh3 (ix3 2 o ⟨512 + j.val, by omega⟩) :=
  rc3 arg11.view _ rfl inb_S8x448x576_S1x448x64_2_0_512 _ _ _ (by simp) (by simp) (by simp)
theorem w_main_2 (v : Vec Ideal S1x448x512 .fp8e4m3) (o : Fin 448) (j : Fin 512) : (k0_pay262 (k0_pay261 v)) (ix2 o j) = v (ix3 0 o j) := by
  pointwise [k0_pay261, k0_pay262]
theorem ld_v752 (o : Fin 448) (j : Fin 512) : kernelRun.sl.v752 (F := Ideal) c arg11 fh3 (ix3 0 o j) = Wq c fh3 (ix3 3 o ⟨j.val, by omega⟩) :=
  rc3 arg11.view _ rfl inb_S8x448x576_S1x448x512_3_0_0 _ _ _ (by simp) (by simp) (by simp)
theorem ld_v791 (o : Fin 448) (j : Fin 64) : kernelRun.sl.v791 (F := Ideal) c arg11 fh3 (ix3 0 o j) = Wq c fh3 (ix3 3 o ⟨512 + j.val, by omega⟩) :=
  rc3 arg11.view _ rfl inb_S8x448x576_S1x448x64_3_0_512 _ _ _ (by simp) (by simp) (by simp)
theorem w_main_3 (v : Vec Ideal S1x448x512 .fp8e4m3) (o : Fin 448) (j : Fin 512) : (k0_pay263 v) (ix2 o j) = v (ix3 0 o j) := by
  pointwise [k0_pay263]
theorem ld_v757 (o : Fin 448) (j : Fin 512) : kernelRun.sl.v757 (F := Ideal) c arg11 fh3 (ix3 0 o j) = Wq c fh3 (ix3 4 o ⟨j.val, by omega⟩) :=
  rc3 arg11.view _ rfl inb_S8x448x576_S1x448x512_4_0_0 _ _ _ (by simp) (by simp) (by simp)
theorem ld_v799 (o : Fin 448) (j : Fin 64) : kernelRun.sl.v799 (F := Ideal) c arg11 fh3 (ix3 0 o j) = Wq c fh3 (ix3 4 o ⟨512 + j.val, by omega⟩) :=
  rc3 arg11.view _ rfl inb_S8x448x576_S1x448x64_4_0_512 _ _ _ (by simp) (by simp) (by simp)
theorem w_main_4 (v : Vec Ideal S1x448x512 .fp8e4m3) (o : Fin 448) (j : Fin 512) : (k0_pay264 v) (ix2 o j) = v (ix3 0 o j) := by
  pointwise [k0_pay264]
theorem ld_v762 (o : Fin 448) (j : Fin 512) : kernelRun.sl.v762 (F := Ideal) c arg11 fh3 (ix3 0 o j) = Wq c fh3 (ix3 5 o ⟨j.val, by omega⟩) :=
  rc3 arg11.view _ rfl inb_S8x448x576_S1x448x512_5_0_0 _ _ _ (by simp) (by simp) (by simp)
theorem ld_v802 (o : Fin 448) (j : Fin 64) : kernelRun.sl.v802 (F := Ideal) c arg11 fh3 (ix3 0 o j) = Wq c fh3 (ix3 5 o ⟨512 + j.val, by omega⟩) :=
  rc3 arg11.view _ rfl inb_S8x448x576_S1x448x64_5_0_512 _ _ _ (by simp) (by simp) (by simp)
theorem w_main_5 (v : Vec Ideal S1x448x512 .fp8e4m3) (o : Fin 448) (j : Fin 512) : (k0_pay265 v) (ix2 o j) = v (ix3 0 o j) := by
  pointwise [k0_pay265]
theorem ld_v767 (o : Fin 448) (j : Fin 512) : kernelRun.sl.v767 (F := Ideal) c arg11 fh3 (ix3 0 o j) = Wq c fh3 (ix3 6 o ⟨j.val, by omega⟩) :=
  rc3 arg11.view _ rfl inb_S8x448x576_S1x448x512_6_0_0 _ _ _ (by simp) (by simp) (by simp)
theorem ld_v810 (o : Fin 448) (j : Fin 64) : kernelRun.sl.v810 (F := Ideal) c arg11 fh3 (ix3 0 o j) = Wq c fh3 (ix3 6 o ⟨512 + j.val, by omega⟩) :=
  rc3 arg11.view _ rfl inb_S8x448x576_S1x448x64_6_0_512 _ _ _ (by simp) (by simp) (by simp)
theorem w_main_6 (v : Vec Ideal S1x448x512 .fp8e4m3) (o : Fin 448) (j : Fin 512) : (k0_pay266 v) (ix2 o j) = v (ix3 0 o j) := by
  pointwise [k0_pay266]
theorem ld_v772 (o : Fin 448) (j : Fin 512) : kernelRun.sl.v772 (F := Ideal) c arg11 fh3 (ix3 0 o j) = Wq c fh3 (ix3 7 o ⟨j.val, by omega⟩) :=
  rc3 arg11.view _ rfl inb_S8x448x576_S1x448x512_7_0_0 _ _ _ (by simp) (by simp) (by simp)
theorem ld_v813 (o : Fin 448) (j : Fin 64) : kernelRun.sl.v813 (F := Ideal) c arg11 fh3 (ix3 0 o j) = Wq c fh3 (ix3 7 o ⟨512 + j.val, by omega⟩) :=
  rc3 arg11.view _ rfl inb_S8x448x576_S1x448x64_7_0_512 _ _ _ (by simp) (by simp) (by simp)
theorem w_main_7 (v : Vec Ideal S1x448x512 .fp8e4m3) (o : Fin 448) (j : Fin 512) : (k0_pay267 v) (ix2 o j) = v (ix3 0 o j) := by
  pointwise [k0_pay267]
theorem w_tail_0 (v w : Vec Ideal S1x448x64 .fp8e4m3) (o : Fin 448) (j : Fin 128) :
    (k0_pay268 v w) (ix2 o j) = if h : j.val < 64 then v (ix3 0 o ⟨j.val, h⟩) else w (ix3 0 o ⟨j.val - 64, by omega⟩) := by
  pointwise [k0_pay268]
theorem w_tail_1 (v w : Vec Ideal S1x448x64 .fp8e4m3) (o : Fin 448) (j : Fin 128) :
    (k0_pay269 v w) (ix2 o j) = if h : j.val < 64 then v (ix3 0 o ⟨j.val, h⟩) else w (ix3 0 o ⟨j.val - 64, by omega⟩) := by
  pointwise [k0_pay269]
theorem w_tail_2 (v w : Vec Ideal S1x448x64 .fp8e4m3) (o : Fin 448) (j : Fin 128) :
    (k0_pay270 v w) (ix2 o j) = if h : j.val < 64 then v (ix3 0 o ⟨j.val, h⟩) else w (ix3 0 o ⟨j.val - 64, by omega⟩) := by
  pointwise [k0_pay270]
theorem w_tail_3 (v w : Vec Ideal S1x448x64 .fp8e4m3) (o : Fin 448) (j : Fin 128) :
    (k0_pay271 v w) (ix2 o j) = if h : j.val < 64 then v (ix3 0 o ⟨j.val, h⟩) else w (ix3 0 o ⟨j.val - 64, by omega⟩) := by
  pointwise [k0_pay271]

theorem good_w : Good (lhsQ (Wq c fh3)) (kernelRun.sl.H16_12 (F := Ideal) c arg11 fh3) := by
  intro p hp
  unfold kernelRun.sl.H16_12 at hp
  simp only [List.mem_cons, List.not_mem_nil, or_false] at hp
  rcases hp with rfl | rfl | rfl | rfl | rfl | rfl | rfl | rfl | rfl | rfl | rfl | rfl
  · intro x
    dsimp only at x ⊢
    idx_vars x
    rename' x0 => o, x1 => j
    have hj := j.isLt
    refine (w_tail_3 _ _ o j).trans ?_
    rw [emb2 (s0 := 448) (s1 := 128) rfl inb_S448x4608_S448x128_0_4480 o ⟨4480 + j.val, by omega⟩ (by simp) rfl]
    split_ifs with h
    · exact (ld_v810 c arg11 fh3 o _).trans (lhsQ_at _ 6 o ⟨512 + j.val, by omega⟩ _ (by show 4480 + j.val = if 512 + j.val < 512 then _ else 4096 + 64 * 6 + (512 + j.val - 512); rw [if_neg (by omega)]; omega)).symm
    · exact (ld_v813 c arg11 fh3 o _).trans (lhsQ_at _ 7 o ⟨512 + (j.val - 64), by omega⟩ _ (by show 4480 + j.val = if 512 + (j.val - 64) < 512 then _ else 4096 + 64 * 7 + (512 + (j.val - 64) - 512); rw [if_neg (by omega)]; omega)).symm
  · intro x
    dsimp only at x ⊢
    idx_vars x
    rename' x0 => o, x1 => j
    have hj := j.isLt
    refine (w_tail_2 _ _ o j).trans ?_
    rw [emb2 (s0 := 448) (s1 := 128) rfl inb_S448x4608_S448x128_0_4352 o ⟨4352 + j.val, by omega⟩ (by simp) rfl]
    split_ifs with h
    · exact (ld_v799 c arg11 fh3 o _).trans (lhsQ_at _ 4 o ⟨512 + j.val, by omega⟩ _ (by show 4352 + j.val = if 512 + j.val < 512 then _ else 4096 + 64 * 4 + (512 + j.val - 512); rw [if_neg (by omega)]; omega)).symm
    · exact (ld_v802 c arg11 fh3 o _).trans (lhsQ_at _ 5 o ⟨512 + (j.val - 64), by omega⟩ _ (by show 4352 + j.val = if 512 + (j.val - 64) < 512 then _ else 4096 + 64 * 5 + (512 + (j.val - 64) - 512); rw [if_neg (by omega)]; omega)).symm
  · intro x
    dsimp only at x ⊢
    idx_vars x
    rename' x0 => o, x1 => j
    have hj := j.isLt
    refine (w_tail_1 _ _ o j).trans ?_
    rw [emb2 (s0 := 448) (s1 := 128) rfl inb_S448x4608_S448x128_0_4224 o ⟨4224 + j.val, by omega⟩ (by simp) rfl]
    split_ifs with h
    · exact (ld_v788 c arg11 fh3 o _).trans (lhsQ_at _ 2 o ⟨512 + j.val, by omega⟩ _ (by show 4224 + j.val = if 512 + j.val < 512 then _ else 4096 + 64 * 2 + (512 + j.val - 512); rw [if_neg (by omega)]; omega)).symm
    · exact (ld_v791 c arg11 fh3 o _).trans (lhsQ_at _ 3 o ⟨512 + (j.val - 64), by omega⟩ _ (by show 4224 + j.val = if 512 + (j.val - 64) < 512 then _ else 4096 + 64 * 3 + (512 + (j.val - 64) - 512); rw [if_neg (by omega)]; omega)).symm
  · intro x
    dsimp only at x ⊢
    idx_vars x
    rename' x0 => o, x1 => j
    have hj := j.isLt
    refine (w_tail_0 _ _ o j).trans ?_
    rw [emb2 (s0 := 448) (s1 := 128) rfl inb_S448x4608_S448x128_0_4096 o ⟨4096 + j.val, by omega⟩ (by simp) rfl]
    split_ifs with h
    · exact (ld_v777 c arg11 fh3 o _).trans (lhsQ_at _ 0 o ⟨512 + j.val, by omega⟩ _ (by show 4096 + j.val = if 512 + j.val < 512 then _ else 4096 + 64 * 0 + (512 + j.val - 512); rw [if_neg (by omega)]; omega)).symm
    · exact (ld_v780 c arg11 fh3 o _).trans (lhsQ_at _ 1 o ⟨512 + (j.val - 64), by omega⟩ _ (by show 4096 + j.val = if 512 + (j.val - 64) < 512 then _ else 4096 + 64 * 1 + (512 + (j.val - 64) - 512); rw [if_neg (by omega)]; omega)).symm
  · intro x
    dsimp only at x ⊢
    idx_vars x
    rename' x0 => o, x1 => j
    have hj := j.isLt
    refine (w_main_7 _ o j).trans ?_
    rw [emb2 (s0 := 448) (s1 := 512) rfl inb_S448x4608_S448x512_0_3584 o ⟨3584 + j.val, by omega⟩ (by simp) rfl]
    exact (ld_v772 c arg11 fh3 o j).trans (lhsQ_at _ 7 o ⟨j.val, by omega⟩ _ (by show 3584 + j.val = if j.val < 512 then 512 * 7 + j.val else _; rw [if_pos hj])).symm
  · intro x
    dsimp only at x ⊢
    idx_vars x
    rename' x0 => o, x1 => j
    have hj := j.isLt
    refine (w_main_6 _ o j).trans ?_
    rw [emb2 (s0 := 448) (s1 := 512) rfl inb_S448x4608_S448x512_0_3072 o ⟨3072 + j.val, by omega⟩ (by simp) rfl]
    exact (ld_v767 c arg11 fh3 o j).trans (lhsQ_at _ 6 o ⟨j.val, by omega⟩ _ (by show 3072 + j.val = if j.val < 512 then 512 * 6 + j.val else _; rw [if_pos hj])).symm
  · intro x
    dsimp only at x ⊢
    idx_vars x
    rename' x0 => o, x1 => j
    have hj := j.isLt
    refine (w_main_5 _ o j).trans ?_
    rw [emb2 (s0 := 448) (s1 := 512) rfl inb_S448x4608_S448x512_0_2560 o ⟨2560 + j.val, by omega⟩ (by simp) rfl]
    exact (ld_v762 c arg11 fh3 o j).trans (lhsQ_at _ 5 o ⟨j.val, by omega⟩ _ (by show 2560 + j.val = if j.val < 512 then 512 * 5 + j.val else _; rw [if_pos hj])).symm
  · intro x
    dsimp only at x ⊢
    idx_vars x
    rename' x0 => o, x1 => j
    have hj := j.isLt
    refine (w_main_4 _ o j).trans ?_
    rw [emb2 (s0 := 448) (s1 := 512) rfl inb_S448x4608_S448x512_0_2048 o ⟨2048 + j.val, by omega⟩ (by simp) rfl]
    exact (ld_v757 c arg11 fh3 o j).trans (lhsQ_at _ 4 o ⟨j.val, by omega⟩ _ (by show 2048 + j.val = if j.val < 512 then 512 * 4 + j.val else _; rw [if_pos hj])).symm
  · intro x
    dsimp only at x ⊢
    idx_vars x
    rename' x0 => o, x1 => j
    have hj := j.isLt
    refine (w_main_3 _ o j).trans ?_
    rw [emb2 (s0 := 448) (s1 := 512) rfl inb_S448x4608_S448x512_0_1536 o ⟨1536 + j.val, by omega⟩ (by simp) rfl]
    exact (ld_v752 c arg11 fh3 o j).trans (lhsQ_at _ 3 o ⟨j.val, by omega⟩ _ (by show 1536 + j.val = if j.val < 512 then 512 * 3 + j.val else _; rw [if_pos hj])).symm
  · intro x
    dsimp only at x ⊢
    idx_vars x
    rename' x0 => o, x1 => j
    have hj := j.isLt
    refine (w_main_2 _ o j).trans ?_
    rw [emb2 (s0 := 448) (s1 := 512) rfl inb_S448x4608_S448x512_0_1024 o ⟨1024 + j.val, by omega⟩ (by simp) rfl]
    exact (ld_v747 c arg11 fh3 o j).trans (lhsQ_at _ 2 o ⟨j.val, by omega⟩ _ (by show 1024 + j.val = if j.val < 512 then 512 * 2 + j.val else _; rw [if_pos hj])).symm
  · intro x
    dsimp only at x ⊢
    idx_vars x
    rename' x0 => o, x1 => j
    have hj := j.isLt
    refine (w_main_1 _ o j).trans ?_
    rw [emb2 (s0 := 448) (s1 := 512) rfl inb_S448x4608_S448x512_0_512 o ⟨512 + j.val, by omega⟩ (by simp) rfl]
    exact (ld_v742 c arg11 fh3 o j).trans (lhsQ_at _ 1 o ⟨j.val, by omega⟩ _ (by show 512 + j.val = if j.val < 512 then 512 * 1 + j.val else _; rw [if_pos hj])).symm
  · intro x
    dsimp only at x ⊢
    idx_vars x
    rename' x0 => o, x1 => j
    have hj := j.isLt
    refine (w_main_0 _ o j).trans ?_
    rw [emb2 (s0 := 448) (s1 := 512) rfl inb_S448x4608_S448x512_0_0 o ⟨0 + j.val, by omega⟩ (by simp) rfl]
    exact (ld_v737 c arg11 fh3 o j).trans (lhsQ_at _ 0 o ⟨j.val, by omega⟩ _ (by show 0 + j.val = if j.val < 512 then 512 * 0 + j.val else _; rw [if_pos hj])).symm

/-- The weight scratch as loaded. -/
theorem ld_v863 (o : Fin 448) (r : Fin 4608) : kernelRun.sl.v863 (F := Ideal) c arg11 arg16 fh3 (ix2 o r) = Wq c fh3 (ix3 (kOf r) o (cOf r)) := by
  unfold kernelRun.sl.v863
  refine ld2 (e := .fp8e4m3) (G := lhsQ (Wq c fh3)) (funext fun y => ?_) rfl inb_S448x4608_S448x4608_0_0 o r (Nat.zero_add _).symm (Nat.zero_add _).symm
  refine View.read_writes_apply_of_pieces arg16.view _ _ _ (good_w c arg11 fh3) y ?_
  idx_vars y
  rename' y0 => o, y1 => r
  have ho := o.isLt
  have hr := r.isLt
  unfold kernelRun.sl.H16_12
  have hq : (4480 ≤ r.val ∧ r.val < 4480 + 128) ∨ (4352 ≤ r.val ∧ r.val < 4352 + 128) ∨ (4224 ≤ r.val ∧ r.val < 4224 + 128) ∨ (4096 ≤ r.val ∧ r.val < 4096 + 128) ∨ (3584 ≤ r.val ∧ r.val < 3584 + 512) ∨ (3072 ≤ r.val ∧ r.val < 3072 + 512) ∨ (2560 ≤ r.val ∧ r.val < 2560 + 512) ∨ (2048 ≤ r.val ∧ r.val < 2048 + 512) ∨ (1536 ≤ r.val ∧ r.val < 1536 + 512) ∨ (1024 ≤ r.val ∧ r.val < 1024 + 512) ∨ (512 ≤ r.val ∧ r.val < 512 + 512) ∨ (0 ≤ r.val ∧ r.val < 0 + 512) := by omega
  rcases hq with hq | hq | hq | hq | hq | hq | hq | hq | hq | hq | hq | hq
  · refine ⟨_, List.mem_cons_self, ?_⟩
    rw [Rect.mem_set_unit]
    intro x
    fin_cases x
    · show 0 ≤ o.val ∧ o.val < 0 + 448
      omega
    · exact hq
  · refine ⟨_, (List.mem_cons_of_mem _ List.mem_cons_self), ?_⟩
    rw [Rect.mem_set_unit]
    intro x
    fin_cases x
    · show 0 ≤ o.val ∧ o.val < 0 + 448
      omega
    · exact hq
  · refine ⟨_, (List.mem_cons_of_mem _ (List.mem_cons_of_mem _ List.mem_cons_self)), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ List.mem_cons_self))), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ (List.mem_cons_of_mem _ List.mem_cons_self)))), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ (List.mem_cons_of_mem _ (List.mem_cons_of_mem _ List.mem_cons_self))))), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ (List.mem_cons_of_mem _ (List.mem_cons_of_mem _ (List.mem_cons_of_mem _ List.mem_cons_self)))))), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
    rw [Rect.mem_set_unit]
    intro x
    fin_cases x
    · show 0 ≤ o.val ∧ o.val < 0 + 448
      omega
    · exact hq
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
    rw [Rect.mem_set_unit]
    intro x
    fin_cases x
    · show 0 ≤ o.val ∧ o.val < 0 + 448
      omega
    · exact hq

end Cert.KernelIdeal.Body
-- ==== Proof.KernelIdeal.Out.lean ====
/- The epilogue, entry by entry: the dequantised row, its maximum, the exponent found from the octave the maximum lies in,
   the scale and the codes. -/
module
public import proofs.«01_k».proof.Proof.KernelIdeal.Lhs

@[expose] public section
set_option maxRecDepth 16384
noncomputable section
open Idealize.ShloMosaic
namespace Cert.KernelIdeal.Body
open Cert.KernelIdeal Cert.KernelIdeal.Gen

/-- One entry before quantisation: the accumulated sum times the weight scale plus the bias, below 0 cut off. -/
def yK (a w b : EReal) : EReal := max (a * w + b) 0
/-- The maximum over the channels, divided by the largest code. -/
def vK (Y : Fin 448 → EReal) : EReal := Finset.fold max (Ideal.ofBits .f32 4286578688#32) Y Finset.univ * Ideal.ofBits .f32 991054117#32
/-- The biased exponent: the one whose octave holds the value; 255 from 2^126 on, 0 where no octave holds it. -/
def ebK (v : EReal) : BitVec 32 :=
  if Ideal.ofBits FTy.f32 2122317824#32 ≤ v then 255#32
  else Finset.fold IntOp.addi (0#32) (fun x : Fin 256 =>
    Scalar.select
      (IntOp.andi
        (IntOp.andi
          (IntOp.andi (IntOp.cmpi CmpIPredicate.sge (BitVec.ofNat 32 x.val) 1#32)
            (IntOp.cmpi CmpIPredicate.sle (BitVec.ofNat 32 x.val) 252#32))
          (BitVec.ofBool (decide (Ideal.ofBits FTy.f32 (IntOp.shli ArithUnit.vector (BitVec.ofNat 32 x.val) 23#32) ≤ v))))
        (BitVec.ofBool (decide (v < Ideal.ofBits FTy.f32 (IntOp.shli ArithUnit.vector (IntOp.addi (BitVec.ofNat 32 x.val) 1#32) 23#32)))))
      (BitVec.ofNat 32 x.val) 0#32) Finset.univ
/-- The exponent, 0 outside the range. -/
def exK (v : EReal) : BitVec 32 :=
  Scalar.select (IntOp.ori (IntOp.cmpi .eq (ebK v) 0#32) (IntOp.cmpi .eq (ebK v) 255#32)) (0#32) (IntOp.subi (ebK v) 126#32)
/-- The scale, 2 to the exponent. -/
def scK (v : EReal) : EReal := Ideal.ofBits .f32 (IntOp.shli .vector (IntOp.addi (exK v) 127#32) 23#32)
/-- The scale's inverse. -/
def inK (v : EReal) : EReal := Ideal.ofBits .f32 (IntOp.shli .vector (IntOp.subi 127#32 (exK v)) 23#32)
/-- A code. -/
def cdK (y v : EReal) : EReal := min (y * inK v) (Ideal.ofBits .f32 1138753536#32)

theorem wcol (v : Vec Ideal S1x448 .f32) (o : Fin 448) (j : Fin 128) : k0_pay272 v (ix2 o j) = v (ix2 0 o) := by
  have ho := o.isLt
  pointwise [k0_pay272]
  split_ifs <;> first | omega | rfl | (congr 2; apply Fin.ext; simp only []; omega)
theorem bcol (v : Vec Ideal S1x448 .f32) (o : Fin 448) (j : Fin 128) : k0_pay278 (k0_pay274 v) (k0_pay275 v) (k0_pay276 v) (k0_pay277 v) (ix2 o j) = v (ix2 0 o) := by
  have ho := o.isLt
  pointwise [k0_pay278, k0_pay273, k0_pay274, k0_pay275, k0_pay276, k0_pay277]
  split_ifs <;> first | omega | rfl | (congr 2; apply Fin.ext; simp only []; omega)

/-- A row before quantisation, for one column of the scratch half. -/
def Yk (A : Vec Ideal S448x4608 .fp8e4m3) (R : Vec Ideal S4608x256 .bf16) (w b : Vec Ideal S1x448 .f32) (l : Fin 256) (o : Fin 448) : EReal :=
  yK (∑ x : Fin 4608, (show EReal from A (ix2 o x)) * R (ix2 x l)) (w (ix2 0 o)) (b (ix2 0 o))

theorem y_0 (A : Vec Ideal S448x4608 .fp8e4m3) (R : Vec Ideal S4608x256 .bf16) (w b : Vec Ideal S1x448 .f32) (o : Fin 448) (j : Fin 128) : (k0_pay280 (k0_pay272 w) (k0_pay274 b) (k0_pay275 b) (k0_pay276 b) (k0_pay277 b) A R) (ix2 o j) = Yk A R w b ⟨j.val, by omega⟩ o := by
  pointwise [k0_pay280, k0_pay279]
  rw [wcol, bcol]
  rfl

theorem y_1 (A : Vec Ideal S448x4608 .fp8e4m3) (R : Vec Ideal S4608x256 .bf16) (w b : Vec Ideal S1x448 .f32) (o : Fin 448) (j : Fin 128) : (k0_pay287 (k0_pay272 w) (k0_pay278 (k0_pay274 b) (k0_pay275 b) (k0_pay276 b) (k0_pay277 b)) (k0_pay279 A R)) (ix2 o j) = Yk A R w b ⟨128 + j.val, by omega⟩ o := by
  pointwise [k0_pay287, k0_pay279]
  rw [wcol, bcol]
  rfl

theorem y_2 (A : Vec Ideal S448x4608 .fp8e4m3) (R : Vec Ideal S4608x256 .bf16) (w b : Vec Ideal S1x448 .f32) (o : Fin 448) (j : Fin 128) : (k0_pay294 (k0_pay272 w) (k0_pay278 (k0_pay274 b) (k0_pay275 b) (k0_pay276 b) (k0_pay277 b)) A R) (ix2 o j) = Yk A R w b ⟨j.val, by omega⟩ o := by
  pointwise [k0_pay294, k0_pay293]
  rw [wcol, bcol]
  rfl

theorem y_3 (A : Vec Ideal S448x4608 .fp8e4m3) (R : Vec Ideal S4608x256 .bf16) (w b : Vec Ideal S1x448 .f32) (o : Fin 448) (j : Fin 128) : (k0_pay303 (k0_pay272 w) (k0_pay278 (k0_pay274 b) (k0_pay275 b) (k0_pay276 b) (k0_pay277 b)) (k0_pay293 A R)) (ix2 o j) = Yk A R w b ⟨128 + j.val, by omega⟩ o := by
  pointwise [k0_pay303, k0_pay293]
  rw [wcol, bcol]
  rfl

theorem s_0 (A : Vec Ideal S448x4608 .fp8e4m3) (R : Vec Ideal S4608x256 .bf16) (w b : Vec Ideal S1x448 .f32) (j : Fin 128) : (k0_pay285 (F := Ideal) (k0_pay282 (k0_pay272 w) (k0_pay274 b) (k0_pay275 b) (k0_pay276 b) (k0_pay277 b) A R) (k0_pay283 (k0_pay272 w) (k0_pay274 b) (k0_pay275 b) (k0_pay276 b) (k0_pay277 b) A R)) (ix2 0 j) = scK (vK (Yk A R w b ⟨j.val, by omega⟩)) := by
  pointwise [k0_pay285, k0_pay284, k0_pay283, k0_pay282, k0_pay281]
  simp only [y_0]
  rfl

theorem s_1 (A : Vec Ideal S448x4608 .fp8e4m3) (R : Vec Ideal S4608x256 .bf16) (w b : Vec Ideal S1x448 .f32) (j : Fin 128) : (k0_pay290 (F := Ideal) (k0_pay288 (k0_pay272 w) (k0_pay278 (k0_pay274 b) (k0_pay275 b) (k0_pay276 b) (k0_pay277 b)) (k0_pay279 A R))) (ix2 0 j) = scK (vK (Yk A R w b ⟨128 + j.val, by omega⟩)) := by
  pointwise [k0_pay290, k0_pay289, k0_pay288]
  simp only [y_1]
  rfl

theorem s_2 (A : Vec Ideal S448x4608 .fp8e4m3) (R : Vec Ideal S4608x256 .bf16) (w b : Vec Ideal S1x448 .f32) (j : Fin 128) : (k0_pay301 (F := Ideal) (k0_pay295 (k0_pay272 w) (k0_pay278 (k0_pay274 b) (k0_pay275 b) (k0_pay276 b) (k0_pay277 b)) A R) (iota .tc S256x128 32 [0] iota_S256x128_d0_w32) k0_pay296 k0_pay297 k0_pay298 k0_pay299) (ix2 0 j) = scK (vK (Yk A R w b ⟨j.val, by omega⟩)) := by
  pointwise [k0_pay301, k0_pay300, k0_pay299, k0_pay298, k0_pay297, k0_pay296, k0_pay295]
  simp only [y_2]
  rfl

theorem s_3 (A : Vec Ideal S448x4608 .fp8e4m3) (R : Vec Ideal S4608x256 .bf16) (w b : Vec Ideal S1x448 .f32) (j : Fin 128) : (k0_pay308 (F := Ideal) (k0_pay304 (k0_pay272 w) (k0_pay278 (k0_pay274 b) (k0_pay275 b) (k0_pay276 b) (k0_pay277 b)) (k0_pay293 A R)) (k0_pay305 (k0_pay272 w) (k0_pay278 (k0_pay274 b) (k0_pay275 b) (k0_pay276 b) (k0_pay277 b)) (k0_pay293 A R)) (k0_pay306 (k0_pay272 w) (k0_pay278 (k0_pay274 b) (k0_pay275 b) (k0_pay276 b) (k0_pay277 b)) (k0_pay293 A R))) (ix2 0 j) = scK (vK (Yk A R w b ⟨128 + j.val, by omega⟩)) := by
  pointwise [k0_pay308, k0_pay307, k0_pay306, k0_pay305, k0_pay304]
  simp only [y_3]
  rfl

theorem c_0 (A : Vec Ideal S448x4608 .fp8e4m3) (R : Vec Ideal S4608x256 .bf16) (w b : Vec Ideal S1x448 .f32) (o : Fin 448) (j : Fin 128) : (k0_pay286 (k0_pay280 (k0_pay272 w) (k0_pay274 b) (k0_pay275 b) (k0_pay276 b) (k0_pay277 b) A R) (k0_pay282 (k0_pay272 w) (k0_pay274 b) (k0_pay275 b) (k0_pay276 b) (k0_pay277 b) A R) (k0_pay283 (k0_pay272 w) (k0_pay274 b) (k0_pay275 b) (k0_pay276 b) (k0_pay277 b) A R)) (ix3 0 j o) = cdK (Yk A R w b ⟨j.val, by omega⟩ o) (vK (Yk A R w b ⟨j.val, by omega⟩)) := by
  pointwise [k0_pay286, k0_pay284, k0_pay283, k0_pay282, k0_pay281]
  simp only [y_0]
  rfl

theorem c_1 (A : Vec Ideal S448x4608 .fp8e4m3) (R : Vec Ideal S4608x256 .bf16) (w b : Vec Ideal S1x448 .f32) (o : Fin 448) (j : Fin 128) : (k0_pay292 (k0_pay287 (k0_pay272 w) (k0_pay278 (k0_pay274 b) (k0_pay275 b) (k0_pay276 b) (k0_pay277 b)) (k0_pay279 A R)) (k0_pay291 (k0_pay288 (k0_pay272 w) (k0_pay278 (k0_pay274 b) (k0_pay275 b) (k0_pay276 b) (k0_pay277 b)) (k0_pay279 A R)))) (ix3 0 j o) = cdK (Yk A R w b ⟨128 + j.val, by omega⟩ o) (vK (Yk A R w b ⟨128 + j.val, by omega⟩)) := by
  pointwise [k0_pay292, k0_pay291, k0_pay289, k0_pay288]
  simp only [y_1]
  rfl

theorem c_2 (A : Vec Ideal S448x4608 .fp8e4m3) (R : Vec Ideal S4608x256 .bf16) (w b : Vec Ideal S1x448 .f32) (o : Fin 448) (j : Fin 128) : (k0_pay302 (k0_pay294 (k0_pay272 w) (k0_pay278 (k0_pay274 b) (k0_pay275 b) (k0_pay276 b) (k0_pay277 b)) A R) (k0_pay295 (k0_pay272 w) (k0_pay278 (k0_pay274 b) (k0_pay275 b) (k0_pay276 b) (k0_pay277 b)) A R) (iota .tc S256x128 32 [0] iota_S256x128_d0_w32) k0_pay296 k0_pay297 k0_pay298 k0_pay299) (ix3 0 j o) = cdK (Yk A R w b ⟨j.val, by omega⟩ o) (vK (Yk A R w b ⟨j.val, by omega⟩)) := by
  pointwise [k0_pay302, k0_pay300, k0_pay299, k0_pay298, k0_pay297, k0_pay296, k0_pay295]
  simp only [y_2]
  rfl

theorem c_3 (A : Vec Ideal S448x4608 .fp8e4m3) (R : Vec Ideal S4608x256 .bf16) (w b : Vec Ideal S1x448 .f32) (o : Fin 448) (j : Fin 128) : (k0_pay309 (k0_pay303 (k0_pay272 w) (k0_pay278 (k0_pay274 b) (k0_pay275 b) (k0_pay276 b) (k0_pay277 b)) (k0_pay293 A R)) (k0_pay304 (k0_pay272 w) (k0_pay278 (k0_pay274 b) (k0_pay275 b) (k0_pay276 b) (k0_pay277 b)) (k0_pay293 A R)) (k0_pay305 (k0_pay272 w) (k0_pay278 (k0_pay274 b) (k0_pay275 b) (k0_pay276 b) (k0_pay277 b)) (k0_pay293 A R)) (k0_pay306 (k0_pay272 w) (k0_pay278 (k0_pay274 b) (k0_pay275 b) (k0_pay276 b) (k0_pay277 b)) (k0_pay293 A R))) (ix2 j o) = cdK (Yk A R w b ⟨128 + j.val, by omega⟩ o) (vK (Yk A R w b ⟨128 + j.val, by omega⟩)) := by
  pointwise [k0_pay309, k0_pay307, k0_pay306, k0_pay305, k0_pay304]
  simp only [y_3]
  rfl

theorem tc_0 (A : Vec Ideal S448x4608 .fp8e4m3) (R : Vec Ideal S4608x256 .bf16) (w b : Vec Ideal S1x448 .f32) (o : Fin 448) (j : Fin 32) : (k0_pay310 (F := Ideal) (k0_pay303 (k0_pay272 w) (k0_pay278 (k0_pay274 b) (k0_pay275 b) (k0_pay276 b) (k0_pay277 b)) (k0_pay293 A R)) (k0_pay304 (k0_pay272 w) (k0_pay278 (k0_pay274 b) (k0_pay275 b) (k0_pay276 b) (k0_pay277 b)) (k0_pay293 A R)) (k0_pay305 (k0_pay272 w) (k0_pay278 (k0_pay274 b) (k0_pay275 b) (k0_pay276 b) (k0_pay277 b)) (k0_pay293 A R)) (k0_pay306 (k0_pay272 w) (k0_pay278 (k0_pay274 b) (k0_pay275 b) (k0_pay276 b) (k0_pay277 b)) (k0_pay293 A R))) (ix3 0 j o) = cdK (Yk A R w b ⟨128 + j.val, by omega⟩ o) (vK (Yk A R w b ⟨128 + j.val, by omega⟩)) := by
  pointwise [k0_pay310]
  have h := c_3 A R w b o ⟨j.val, by omega⟩
  rw [show (⟨128 + (⟨j.val, by omega⟩ : Fin 128).val, by simp; omega⟩ : Fin 256) = ⟨128 + j.val, by omega⟩ from Fin.ext (by simp; try omega)] at h
  exact h
theorem ts_0 (A : Vec Ideal S448x4608 .fp8e4m3) (R : Vec Ideal S4608x256 .bf16) (w b : Vec Ideal S1x448 .f32) (j : Fin 32) : (k0_pay311 (F := Ideal) (k0_pay304 (k0_pay272 w) (k0_pay278 (k0_pay274 b) (k0_pay275 b) (k0_pay276 b) (k0_pay277 b)) (k0_pay293 A R)) (k0_pay305 (k0_pay272 w) (k0_pay278 (k0_pay274 b) (k0_pay275 b) (k0_pay276 b) (k0_pay277 b)) (k0_pay293 A R)) (k0_pay306 (k0_pay272 w) (k0_pay278 (k0_pay274 b) (k0_pay275 b) (k0_pay276 b) (k0_pay277 b)) (k0_pay293 A R))) (ix2 0 j) = scK (vK (Yk A R w b ⟨128 + j.val, by omega⟩)) := by
  pointwise [k0_pay311]
  have h := s_3 A R w b ⟨j.val, by omega⟩
  rw [show (⟨128 + (⟨j.val, by omega⟩ : Fin 128).val, by simp; omega⟩ : Fin 256) = ⟨128 + j.val, by omega⟩ from Fin.ext (by simp; try omega)] at h
  exact h

theorem tc_1 (A : Vec Ideal S448x4608 .fp8e4m3) (R : Vec Ideal S4608x256 .bf16) (w b : Vec Ideal S1x448 .f32) (o : Fin 448) (j : Fin 32) : (k0_pay312 (F := Ideal) (k0_pay303 (k0_pay272 w) (k0_pay278 (k0_pay274 b) (k0_pay275 b) (k0_pay276 b) (k0_pay277 b)) (k0_pay293 A R)) (k0_pay304 (k0_pay272 w) (k0_pay278 (k0_pay274 b) (k0_pay275 b) (k0_pay276 b) (k0_pay277 b)) (k0_pay293 A R)) (k0_pay305 (k0_pay272 w) (k0_pay278 (k0_pay274 b) (k0_pay275 b) (k0_pay276 b) (k0_pay277 b)) (k0_pay293 A R)) (k0_pay306 (k0_pay272 w) (k0_pay278 (k0_pay274 b) (k0_pay275 b) (k0_pay276 b) (k0_pay277 b)) (k0_pay293 A R))) (ix3 0 j o) = cdK (Yk A R w b ⟨160 + j.val, by omega⟩ o) (vK (Yk A R w b ⟨160 + j.val, by omega⟩)) := by
  pointwise [k0_pay312]
  have h := c_3 A R w b o ⟨32 + j.val, by omega⟩
  rw [show (⟨128 + (⟨32 + j.val, by omega⟩ : Fin 128).val, by simp; omega⟩ : Fin 256) = ⟨160 + j.val, by omega⟩ from Fin.ext (by simp; try omega)] at h
  exact h
theorem ts_1 (A : Vec Ideal S448x4608 .fp8e4m3) (R : Vec Ideal S4608x256 .bf16) (w b : Vec Ideal S1x448 .f32) (j : Fin 32) : (k0_pay313 (F := Ideal) (k0_pay304 (k0_pay272 w) (k0_pay278 (k0_pay274 b) (k0_pay275 b) (k0_pay276 b) (k0_pay277 b)) (k0_pay293 A R)) (k0_pay305 (k0_pay272 w) (k0_pay278 (k0_pay274 b) (k0_pay275 b) (k0_pay276 b) (k0_pay277 b)) (k0_pay293 A R)) (k0_pay306 (k0_pay272 w) (k0_pay278 (k0_pay274 b) (k0_pay275 b) (k0_pay276 b) (k0_pay277 b)) (k0_pay293 A R))) (ix2 0 j) = scK (vK (Yk A R w b ⟨160 + j.val, by omega⟩)) := by
  pointwise [k0_pay313]
  have h := s_3 A R w b ⟨32 + j.val, by omega⟩
  rw [show (⟨128 + (⟨32 + j.val, by omega⟩ : Fin 128).val, by simp; omega⟩ : Fin 256) = ⟨160 + j.val, by omega⟩ from Fin.ext (by simp; try omega)] at h
  exact h

theorem tc_2 (A : Vec Ideal S448x4608 .fp8e4m3) (R : Vec Ideal S4608x256 .bf16) (w b : Vec Ideal S1x448 .f32) (o : Fin 448) (j : Fin 32) : (k0_pay1 (F := Ideal) (k0_pay314 (k0_pay303 (k0_pay272 w) (k0_pay278 (k0_pay274 b) (k0_pay275 b) (k0_pay276 b) (k0_pay277 b)) (k0_pay293 A R)) (k0_pay304 (k0_pay272 w) (k0_pay278 (k0_pay274 b) (k0_pay275 b) (k0_pay276 b) (k0_pay277 b)) (k0_pay293 A R)) (k0_pay305 (k0_pay272 w) (k0_pay278 (k0_pay274 b) (k0_pay275 b) (k0_pay276 b) (k0_pay277 b)) (k0_pay293 A R)) (k0_pay306 (k0_pay272 w) (k0_pay278 (k0_pay274 b) (k0_pay275 b) (k0_pay276 b) (k0_pay277 b)) (k0_pay293 A R)))) (ix3 0 j o) = cdK (Yk A R w b ⟨192 + j.val, by omega⟩ o) (vK (Yk A R w b ⟨192 + j.val, by omega⟩)) := by
  pointwise [k0_pay314, k0_pay1]
  have h := c_3 A R w b o ⟨64 + j.val, by omega⟩
  rw [show (⟨128 + (⟨64 + j.val, by omega⟩ : Fin 128).val, by simp; omega⟩ : Fin 256) = ⟨192 + j.val, by omega⟩ from Fin.ext (by simp; try omega)] at h
  exact h
theorem ts_2 (A : Vec Ideal S448x4608 .fp8e4m3) (R : Vec Ideal S4608x256 .bf16) (w b : Vec Ideal S1x448 .f32) (j : Fin 32) : (k0_pay2 (F := Ideal) (k0_pay308 (k0_pay304 (k0_pay272 w) (k0_pay278 (k0_pay274 b) (k0_pay275 b) (k0_pay276 b) (k0_pay277 b)) (k0_pay293 A R)) (k0_pay305 (k0_pay272 w) (k0_pay278 (k0_pay274 b) (k0_pay275 b) (k0_pay276 b) (k0_pay277 b)) (k0_pay293 A R)) (k0_pay306 (k0_pay272 w) (k0_pay278 (k0_pay274 b) (k0_pay275 b) (k0_pay276 b) (k0_pay277 b)) (k0_pay293 A R)))) (ix2 0 j) = scK (vK (Yk A R w b ⟨192 + j.val, by omega⟩)) := by
  pointwise [k0_pay2]
  have h := s_3 A R w b ⟨64 + j.val, by omega⟩
  rw [show (⟨128 + (⟨64 + j.val, by omega⟩ : Fin 128).val, by simp; omega⟩ : Fin 256) = ⟨192 + j.val, by omega⟩ from Fin.ext (by simp; try omega)] at h
  exact h

end Cert.KernelIdeal.Body
-- ==== Proof.KernelIdeal.Res.lean ====
/- The results of the body's run in closed form: what it stores in the block of scales and what it copies to the codes, entry
   by entry, as functions of what was copied in. -/
module
public import proofs.«01_k».proof.Proof.KernelIdeal.Out

@[expose] public section
set_option maxRecDepth 16384
noncomputable section
open Idealize.ShloMosaic
namespace Cert.KernelIdeal.Body
open Cert.KernelIdeal Cert.KernelIdeal.Gen

/-- The row of a slot and a channel. -/
def rOf (k : Fin 8) (c : Fin 576) : Fin 4608 := ⟨if c.val < 512 then 512 * k.val + c.val else 4096 + 64 * k.val + (c.val - 512), by split <;> omega⟩

/-- The scratch rows are the pairs of a slot and a channel. -/
def rowEquiv : Fin 4608 ≃ Fin 8 × Fin 576 where
  toFun r := (kOf r, cOf r)
  invFun p := rOf p.1 p.2
  left_inv r := by
    apply Fin.ext
    have := r.isLt
    show (if (cOf r).val < 512 then 512 * (kOf r).val + (cOf r).val else 4096 + 64 * (kOf r).val + ((cOf r).val - 512)) = r.val
    simp only [kOf_val, cOf_val]
    split_ifs <;> omega
  right_inv p := by
    obtain ⟨k, c⟩ := p
    have := k.isLt
    have := c.isLt
    refine Prod.ext (Fin.ext ?_) (Fin.ext ?_)
    · show (if (rOf k c).val < 4096 then (rOf k c).val / 512 else ((rOf k c).val - 4096) / 64) = k.val
      simp only [rOf]; split_ifs <;> omega
    · show (if (rOf k c).val < 4096 then (rOf k c).val % 512 else 512 + ((rOf k c).val - 4096) % 64) = c.val
      simp only [rOf]; split_ifs <;> omega

theorem sum_rows (f : Fin 8 → Fin 576 → EReal) : ∑ r : Fin 4608, f (kOf r) (cOf r) = ∑ k, ∑ c, f k c := by
  rw [← Fintype.sum_prod_type' f]
  exact Fintype.sum_equiv rowEquiv _ _ fun _ => rfl

section
variable (X : S3x576x640.Idx → EReal) (XS : S3x640.Idx → EReal) (NB : S3x8x160.Idx → BitVec 32) (W : S8x448x576.Idx → EReal) (WS Bi : S1x448.Idx → EReal)

/-- A token's row before quantisation. -/
def yRow (b : Fin 3) (t : Fin 160) (o : Fin 448) : EReal :=
  yK (∑ k : Fin 8, ∑ c : Fin 576, W (ix3 k o c) * act X XS NB b t k c) (WS (ix2 0 o)) (Bi (ix2 0 o))
/-- The codes. -/
def codesQ (i : S3x160x448.Idx) : EReal := cdK (yRow X XS NB W WS Bi (i 0) (i 1) (i 2)) (vK (yRow X XS NB W WS Bi (i 0) (i 1)))
/-- The scales. -/
def scalesQ (i : S3x160.Idx) : EReal := scK (vK (yRow X XS NB W WS Bi (i 0) (i 1)))

theorem yk_eq (A : Vec Ideal S448x4608 .fp8e4m3) (R : Vec Ideal S4608x256 .bf16) (w b : Vec Ideal S1x448 .f32) (l : Fin 256) (l' : Fin 512) (bt : Fin 3) (t : Fin 160)
    (hA : ∀ o r, A (ix2 o r) = W (ix3 (kOf r) o (cOf r))) (hR : ∀ r, R (ix2 r l) = rhsQ X XS NB (ix2 r l'))
    (hw : ∀ o, w (ix2 0 o) = WS (ix2 0 o)) (hb : ∀ o, b (ix2 0 o) = Bi (ix2 0 o))
    (hl : l'.val = if t.val < 128 then 128 * bt.val + t.val else 384 + 32 * bt.val + (t.val - 128)) :
    Yk A R w b l = yRow X XS NB W WS Bi bt t := by
  have hbt := bt.isLt
  have ht := t.isLt
  have h480 : l'.val < 480 := by split at hl <;> omega
  have e3 : bOf l' = bt := Fin.ext (by rw [bOf_val]; split_ifs at * <;> omega)
  have e4 : tOf l' = t := Fin.ext (by rw [tOf_val]; split_ifs at * <;> omega)
  funext o
  unfold Yk yRow
  rw [hw, hb, ← sum_rows fun k c => W (ix3 k o c) * act X XS NB bt t k c]
  congr 1
  refine Finset.sum_congr rfl fun r _ => ?_
  refine congrArg₂ (· * ·) (hA o r) ((hR r).trans ?_)
  show (if l'.val < 480 then act X XS NB (bOf l') (tOf l') (kOf r) (cOf r) else 0) = _
  rw [if_pos h480, e3, e4]
end

variable (c : Dev nD) (arg7 : Memref sig .tc .vmem S3x160 .f32) (harg7 : arg7.IsWhole) (arg8 : Memref sig .tc .vmem S3x576x640 .fp8e4m3) (harg8 : arg8.IsWhole) (arg9 : Memref sig .tc .vmem S3x640 .f32) (harg9 : arg9.IsWhole) (arg10 : Memref sig .tc .vmem S3x8x160 .i32) (harg10 : arg10.IsWhole) (arg11 : Memref sig .tc .vmem S8x448x576 .fp8e4m3) (harg11 : arg11.IsWhole) (arg12 : Memref sig .tc .vmem S1x448 .f32) (harg12 : arg12.IsWhole) (arg13 : Memref sig .tc .vmem S1x448 .f32) (harg13 : arg13.IsWhole) (arg14 : Memref sig .tc .vmem S4x8x128 .f32) (harg14 : arg14.IsWhole) (arg15 : Memref sig .tc .vmem S4608x512 .bf16) (harg15 : arg15.IsWhole) (arg16 : Memref sig .tc .vmem S448x4608 .fp8e4m3) (harg16 : arg16.IsWhole) (arg17 : Memref sig .tc .vmem S3x160x448 .fp8e4m3) (harg17 : arg17.IsWhole)
variable (f15 : BufTy.Contents (Elt Ideal) arg15.view.ty) (f17 : BufTy.Contents (Elt Ideal) arg17.view.ty) (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) (fh5 : HbBuf0 (F := Ideal) c hbM0_5)

/-- The codes the run copies out. -/
abbrev codesR : S3x160x448.Idx → EReal := codesQ (Xq c fh0) (XSq c fh1) (NBq c fh2) (Wq c fh3) (WSq c fh4) (Bq c fh5)
/-- The scales the run stores. -/
abbrev scalesR : S3x160.Idx → EReal := scalesQ (Xq c fh0) (XSq c fh1) (NBq c fh2) (Wq c fh3) (WSq c fh4) (Bq c fh5)

theorem ld_v821 (o : Fin 448) : kernelRun.sl.v821 (F := Ideal) c arg12 fh4 (ix2 0 o) = WSq c fh4 (ix2 0 o) :=
  rc2 arg12.view _ rfl inb_S1x448_S1x448_0_0 0 o (Nat.zero_add _).symm (Nat.zero_add _).symm
theorem ld_v842 (o : Fin 448) : kernelRun.sl.v842 (F := Ideal) c arg13 fh5 (ix2 0 o) = Bq c fh5 (ix2 0 o) :=
  rc2 arg13.view _ rfl inb_S1x448_S1x448_0_0 0 o (Nat.zero_add _).symm (Nat.zero_add _).symm

theorem yk_v865 (hlt : ∀ i, (IntOp.maxsi (NBq c fh2 i) 0#32).toNat < 640) (l : Fin 256) (bt : Fin 3) (t : Fin 160)
    (hl : 0 + l.val = if t.val < 128 then 128 * bt.val + t.val else 384 + 32 * bt.val + (t.val - 128)) :
    Yk (kernelRun.sl.v863 (F := Ideal) c arg11 arg16 fh3) (kernelRun.sl.v865 (F := Ideal) c arg7 harg7 arg8 harg8 arg9 harg9 arg10 harg10 arg11 harg11 arg12 harg12 arg13 harg13 arg14 harg14 arg15 harg15 arg16 harg16 arg17 harg17 f15 fh0 fh1 fh2) (kernelRun.sl.v821 (F := Ideal) c arg12 fh4) (kernelRun.sl.v842 (F := Ideal) c arg13 fh5) l
      = yRow (Xq c fh0) (XSq c fh1) (NBq c fh2) (Wq c fh3) (WSq c fh4) (Bq c fh5) bt t :=
  yk_eq _ _ _ _ _ _ _ _ _ _ l ⟨0 + l.val, by omega⟩ bt t (fun o r => ld_v863 c arg11 arg16 fh3 o r)
    (fun r => ld_v865 c arg7 harg7 arg8 harg8 arg9 harg9 arg10 harg10 arg11 harg11 arg12 harg12 arg13 harg13 arg14 harg14 arg15 harg15 arg16 harg16 arg17 harg17 f15 fh0 fh1 fh2 hlt r l) (ld_v821 c arg12 fh4) (ld_v842 c arg13 fh5) hl

theorem yk_v1001 (hlt : ∀ i, (IntOp.maxsi (NBq c fh2 i) 0#32).toNat < 640) (l : Fin 256) (bt : Fin 3) (t : Fin 160)
    (hl : 256 + l.val = if t.val < 128 then 128 * bt.val + t.val else 384 + 32 * bt.val + (t.val - 128)) :
    Yk (kernelRun.sl.v863 (F := Ideal) c arg11 arg16 fh3) (kernelRun.sl.v1001 (F := Ideal) c arg7 harg7 arg8 harg8 arg9 harg9 arg10 harg10 arg11 harg11 arg12 harg12 arg13 harg13 arg14 harg14 arg15 harg15 arg16 harg16 arg17 harg17 f15 fh0 fh1 fh2) (kernelRun.sl.v821 (F := Ideal) c arg12 fh4) (kernelRun.sl.v842 (F := Ideal) c arg13 fh5) l
      = yRow (Xq c fh0) (XSq c fh1) (NBq c fh2) (Wq c fh3) (WSq c fh4) (Bq c fh5) bt t :=
  yk_eq _ _ _ _ _ _ _ _ _ _ l ⟨256 + l.val, by omega⟩ bt t (fun o r => ld_v863 c arg11 arg16 fh3 o r)
    (fun r => ld_v1001 c arg7 harg7 arg8 harg8 arg9 harg9 arg10 harg10 arg11 harg11 arg12 harg12 arg13 harg13 arg14 harg14 arg15 harg15 arg16 harg16 arg17 harg17 f15 fh0 fh1 fh2 hlt r l) (ld_v821 c arg12 fh4) (ld_v842 c arg13 fh5) hl

set_option maxHeartbeats 1000000 in
/-- The codes as stored in the output scratch. -/
theorem good_codes (hlt : ∀ i, (IntOp.maxsi (NBq c fh2 i) 0#32).toNat < 640) : Good (codesR c fh0 fh1 fh2 fh3 fh4 fh5) (kernelRun.sl.H17_6 (F := Ideal) c arg7 harg7 arg8 harg8 arg9 harg9 arg10 harg10 arg11 harg11 arg12 harg12 arg13 harg13 arg14 harg14 arg15 harg15 arg16 harg16 arg17 harg17 f15 fh0 fh1 fh2 fh3 fh4 fh5) := by
  intro p hp
  unfold kernelRun.sl.H17_6 at hp
  simp only [List.mem_cons, List.not_mem_nil, or_false] at hp
  rcases hp with rfl | rfl | rfl | rfl | rfl | rfl
  · intro x
    dsimp only at x ⊢
    idx_vars x
    rename' x0 => z, x1 => j, x2 => o
    obtain rfl : z = 0 := Fin.ext (by have := z.isLt; simp)
    have hj := j.isLt
    refine (tc_2 _ _ _ _ o j).trans ?_
    rw [emb3 (s0 := 1) (s1 := 32) (s2 := 448) rfl inb_S3x160x448_S1x32x448_2_128_0 2 ⟨128 + j.val, by omega⟩ o (by simp) (by simp) (by simp)]
    have e := yk_v1001 c arg7 harg7 arg8 harg8 arg9 harg9 arg10 harg10 arg11 harg11 arg12 harg12 arg13 harg13 arg14 harg14 arg15 harg15 arg16 harg16 arg17 harg17 f15 fh0 fh1 fh2 fh3 fh4 fh5 hlt ⟨192 + j.val, by omega⟩ 2 ⟨128 + j.val, by omega⟩ (by show 256 + (192 + j.val) = if 128 + j.val < 128 then 128 * 2 + (128 + j.val) else 384 + 32 * 2 + (128 + j.val - 128); split_ifs <;> omega)
    exact congrArg₂ cdK (congrFun e o) (congrArg vK e)
  · intro x
    dsimp only at x ⊢
    idx_vars x
    rename' x0 => z, x1 => j, x2 => o
    obtain rfl : z = 0 := Fin.ext (by have := z.isLt; simp)
    have hj := j.isLt
    refine (tc_1 _ _ _ _ o j).trans ?_
    rw [emb3 (s0 := 1) (s1 := 32) (s2 := 448) rfl inb_S3x160x448_S1x32x448_1_128_0 1 ⟨128 + j.val, by omega⟩ o (by simp) (by simp) (by simp)]
    have e := yk_v1001 c arg7 harg7 arg8 harg8 arg9 harg9 arg10 harg10 arg11 harg11 arg12 harg12 arg13 harg13 arg14 harg14 arg15 harg15 arg16 harg16 arg17 harg17 f15 fh0 fh1 fh2 fh3 fh4 fh5 hlt ⟨160 + j.val, by omega⟩ 1 ⟨128 + j.val, by omega⟩ (by show 256 + (160 + j.val) = if 128 + j.val < 128 then 128 * 1 + (128 + j.val) else 384 + 32 * 1 + (128 + j.val - 128); split_ifs <;> omega)
    exact congrArg₂ cdK (congrFun e o) (congrArg vK e)
  · intro x
    dsimp only at x ⊢
    idx_vars x
    rename' x0 => z, x1 => j, x2 => o
    obtain rfl : z = 0 := Fin.ext (by have := z.isLt; simp)
    have hj := j.isLt
    refine (tc_0 _ _ _ _ o j).trans ?_
    rw [emb3 (s0 := 1) (s1 := 32) (s2 := 448) rfl inb_S3x160x448_S1x32x448_0_128_0 0 ⟨128 + j.val, by omega⟩ o (by simp) (by simp) (by simp)]
    have e := yk_v1001 c arg7 harg7 arg8 harg8 arg9 harg9 arg10 harg10 arg11 harg11 arg12 harg12 arg13 harg13 arg14 harg14 arg15 harg15 arg16 harg16 arg17 harg17 f15 fh0 fh1 fh2 fh3 fh4 fh5 hlt ⟨128 + j.val, by omega⟩ 0 ⟨128 + j.val, by omega⟩ (by show 256 + (128 + j.val) = if 128 + j.val < 128 then 128 * 0 + (128 + j.val) else 384 + 32 * 0 + (128 + j.val - 128); split_ifs <;> omega)
    exact congrArg₂ cdK (congrFun e o) (congrArg vK e)
  · intro x
    dsimp only at x ⊢
    idx_vars x
    rename' x0 => z, x1 => j, x2 => o
    obtain rfl : z = 0 := Fin.ext (by have := z.isLt; simp)
    have hj := j.isLt
    refine (c_2 _ _ _ _ o j).trans ?_
    rw [emb3 (s0 := 1) (s1 := 128) (s2 := 448) rfl inb_S3x160x448_S1x128x448_2_0_0 2 ⟨j.val, by omega⟩ o (by simp) (by simp) (by simp)]
    have e := yk_v1001 c arg7 harg7 arg8 harg8 arg9 harg9 arg10 harg10 arg11 harg11 arg12 harg12 arg13 harg13 arg14 harg14 arg15 harg15 arg16 harg16 arg17 harg17 f15 fh0 fh1 fh2 fh3 fh4 fh5 hlt ⟨j.val, by omega⟩ 2 ⟨j.val, by omega⟩ (by show 256 + (j.val) = if j.val < 128 then 128 * 2 + (j.val) else 384 + 32 * 2 + (j.val - 128); split_ifs <;> omega)
    exact congrArg₂ cdK (congrFun e o) (congrArg vK e)
  · intro x
    dsimp only at x ⊢
    idx_vars x
    rename' x0 => z, x1 => j, x2 => o
    obtain rfl : z = 0 := Fin.ext (by have := z.isLt; simp)
    have hj := j.isLt
    refine (c_1 _ _ _ _ o j).trans ?_
    rw [emb3 (s0 := 1) (s1 := 128) (s2 := 448) rfl inb_S3x160x448_S1x128x448_1_0_0 1 ⟨j.val, by omega⟩ o (by simp) (by simp) (by simp)]
    have e := yk_v865 c arg7 harg7 arg8 harg8 arg9 harg9 arg10 harg10 arg11 harg11 arg12 harg12 arg13 harg13 arg14 harg14 arg15 harg15 arg16 harg16 arg17 harg17 f15 fh0 fh1 fh2 fh3 fh4 fh5 hlt ⟨128 + j.val, by omega⟩ 1 ⟨j.val, by omega⟩ (by show 0 + (128 + j.val) = if j.val < 128 then 128 * 1 + (j.val) else 384 + 32 * 1 + (j.val - 128); split_ifs <;> omega)
    exact congrArg₂ cdK (congrFun e o) (congrArg vK e)
  · intro x
    dsimp only at x ⊢
    idx_vars x
    rename' x0 => z, x1 => j, x2 => o
    obtain rfl : z = 0 := Fin.ext (by have := z.isLt; simp)
    have hj := j.isLt
    refine (c_0 _ _ _ _ o j).trans ?_
    rw [emb3 (s0 := 1) (s1 := 128) (s2 := 448) rfl inb_S3x160x448_S1x128x448_0_0_0 0 ⟨j.val, by omega⟩ o (by simp) (by simp) (by simp)]
    have e := yk_v865 c arg7 harg7 arg8 harg8 arg9 harg9 arg10 harg10 arg11 harg11 arg12 harg12 arg13 harg13 arg14 harg14 arg15 harg15 arg16 harg16 arg17 harg17 f15 fh0 fh1 fh2 fh3 fh4 fh5 hlt ⟨j.val, by omega⟩ 0 ⟨j.val, by omega⟩ (by show 0 + (j.val) = if j.val < 128 then 128 * 0 + (j.val) else 384 + 32 * 0 + (j.val - 128); split_ifs <;> omega)
    exact congrArg₂ cdK (congrFun e o) (congrArg vK e)

set_option maxHeartbeats 1000000 in
/-- The scales as stored in the output block. -/
theorem good_scales (hlt : ∀ i, (IntOp.maxsi (NBq c fh2 i) 0#32).toNat < 640) (f7 f8 f9 f10 f11 f12 f13 f14 f16 fw6) : Good (scalesR c fh0 fh1 fh2 fh3 fh4 fh5)
    (kernelRun (F := Ideal) c arg7 harg7 arg8 harg8 arg9 harg9 arg10 harg10 arg11 harg11 arg12 harg12 arg13 harg13 arg14 harg14 arg15 harg15 arg16 harg16 arg17 harg17 f7 f8 f9 f10 f11 f12 f13 f14 f15 f16 f17 fh0 fh1 fh2 fh3 fh4 fh5 fw6).1 := by
  intro p hp
  unfold kernelRun at hp
  simp only [List.mem_cons, List.not_mem_nil, or_false] at hp
  rcases hp with rfl | rfl | rfl | rfl | rfl | rfl
  · intro x
    dsimp only at x ⊢
    idx_vars x
    rename' x0 => z, x1 => j
    obtain rfl : z = 0 := Fin.ext (by have := z.isLt; simp)
    have hj := j.isLt
    refine (ts_2 _ _ _ _ j).trans ?_
    rw [emb2 (s0 := 1) (s1 := 32) rfl inb_S3x160_S1x32_2_128 2 ⟨128 + j.val, by omega⟩ (by simp) (by simp)]
    have e := yk_v1001 c arg7 harg7 arg8 harg8 arg9 harg9 arg10 harg10 arg11 harg11 arg12 harg12 arg13 harg13 arg14 harg14 arg15 harg15 arg16 harg16 arg17 harg17 f15 fh0 fh1 fh2 fh3 fh4 fh5 hlt ⟨192 + j.val, by omega⟩ 2 ⟨128 + j.val, by omega⟩ (by show 256 + (192 + j.val) = if 128 + j.val < 128 then 128 * 2 + (128 + j.val) else 384 + 32 * 2 + (128 + j.val - 128); split_ifs <;> omega)
    exact congrArg scK (congrArg vK e)
  · intro x
    dsimp only at x ⊢
    idx_vars x
    rename' x0 => z, x1 => j
    obtain rfl : z = 0 := Fin.ext (by have := z.isLt; simp)
    have hj := j.isLt
    refine (ts_1 _ _ _ _ j).trans ?_
    rw [emb2 (s0 := 1) (s1 := 32) rfl inb_S3x160_S1x32_1_128 1 ⟨128 + j.val, by omega⟩ (by simp) (by simp)]
    have e := yk_v1001 c arg7 harg7 arg8 harg8 arg9 harg9 arg10 harg10 arg11 harg11 arg12 harg12 arg13 harg13 arg14 harg14 arg15 harg15 arg16 harg16 arg17 harg17 f15 fh0 fh1 fh2 fh3 fh4 fh5 hlt ⟨160 + j.val, by omega⟩ 1 ⟨128 + j.val, by omega⟩ (by show 256 + (160 + j.val) = if 128 + j.val < 128 then 128 * 1 + (128 + j.val) else 384 + 32 * 1 + (128 + j.val - 128); split_ifs <;> omega)
    exact congrArg scK (congrArg vK e)
  · intro x
    dsimp only at x ⊢
    idx_vars x
    rename' x0 => z, x1 => j
    obtain rfl : z = 0 := Fin.ext (by have := z.isLt; simp)
    have hj := j.isLt
    refine (ts_0 _ _ _ _ j).trans ?_
    rw [emb2 (s0 := 1) (s1 := 32) rfl inb_S3x160_S1x32_0_128 0 ⟨128 + j.val, by omega⟩ (by simp) (by simp)]
    have e := yk_v1001 c arg7 harg7 arg8 harg8 arg9 harg9 arg10 harg10 arg11 harg11 arg12 harg12 arg13 harg13 arg14 harg14 arg15 harg15 arg16 harg16 arg17 harg17 f15 fh0 fh1 fh2 fh3 fh4 fh5 hlt ⟨128 + j.val, by omega⟩ 0 ⟨128 + j.val, by omega⟩ (by show 256 + (128 + j.val) = if 128 + j.val < 128 then 128 * 0 + (128 + j.val) else 384 + 32 * 0 + (128 + j.val - 128); split_ifs <;> omega)
    exact congrArg scK (congrArg vK e)
  · intro x
    dsimp only at x ⊢
    idx_vars x
    rename' x0 => z, x1 => j
    obtain rfl : z = 0 := Fin.ext (by have := z.isLt; simp)
    have hj := j.isLt
    refine (s_2 _ _ _ _ j).trans ?_
    rw [emb2 (s0 := 1) (s1 := 128) rfl inb_S3x160_S1x128_2_0 2 ⟨j.val, by omega⟩ (by simp) (by simp)]
    have e := yk_v1001 c arg7 harg7 arg8 harg8 arg9 harg9 arg10 harg10 arg11 harg11 arg12 harg12 arg13 harg13 arg14 harg14 arg15 harg15 arg16 harg16 arg17 harg17 f15 fh0 fh1 fh2 fh3 fh4 fh5 hlt ⟨j.val, by omega⟩ 2 ⟨j.val, by omega⟩ (by show 256 + (j.val) = if j.val < 128 then 128 * 2 + (j.val) else 384 + 32 * 2 + (j.val - 128); split_ifs <;> omega)
    exact congrArg scK (congrArg vK e)
  · intro x
    dsimp only at x ⊢
    idx_vars x
    rename' x0 => z, x1 => j
    obtain rfl : z = 0 := Fin.ext (by have := z.isLt; simp)
    have hj := j.isLt
    refine (s_1 _ _ _ _ j).trans ?_
    rw [emb2 (s0 := 1) (s1 := 128) rfl inb_S3x160_S1x128_1_0 1 ⟨j.val, by omega⟩ (by simp) (by simp)]
    have e := yk_v865 c arg7 harg7 arg8 harg8 arg9 harg9 arg10 harg10 arg11 harg11 arg12 harg12 arg13 harg13 arg14 harg14 arg15 harg15 arg16 harg16 arg17 harg17 f15 fh0 fh1 fh2 fh3 fh4 fh5 hlt ⟨128 + j.val, by omega⟩ 1 ⟨j.val, by omega⟩ (by show 0 + (128 + j.val) = if j.val < 128 then 128 * 1 + (j.val) else 384 + 32 * 1 + (j.val - 128); split_ifs <;> omega)
    exact congrArg scK (congrArg vK e)
  · intro x
    dsimp only at x ⊢
    idx_vars x
    rename' x0 => z, x1 => j
    obtain rfl : z = 0 := Fin.ext (by have := z.isLt; simp)
    have hj := j.isLt
    refine (s_0 _ _ _ _ j).trans ?_
    rw [emb2 (s0 := 1) (s1 := 128) rfl inb_S3x160_S1x128_0_0 0 ⟨j.val, by omega⟩ (by simp) (by simp)]
    have e := yk_v865 c arg7 harg7 arg8 harg8 arg9 harg9 arg10 harg10 arg11 harg11 arg12 harg12 arg13 harg13 arg14 harg14 arg15 harg15 arg16 harg16 arg17 harg17 f15 fh0 fh1 fh2 fh3 fh4 fh5 hlt ⟨j.val, by omega⟩ 0 ⟨j.val, by omega⟩ (by show 0 + (j.val) = if j.val < 128 then 128 * 0 + (j.val) else 384 + 32 * 0 + (j.val - 128); split_ifs <;> omega)
    exact congrArg scK (congrArg vK e)

theorem cover_codes (y : S3x160x448.Idx) : ∃ p ∈ kernelRun.sl.H17_6 (F := Ideal) c arg7 harg7 arg8 harg8 arg9 harg9 arg10 harg10 arg11 harg11 arg12 harg12 arg13 harg13 arg14 harg14 arg15 harg15 arg16 harg16 arg17 harg17 f15 fh0 fh1 fh2 fh3 fh4 fh5, y ∈ p.1.set := by
  idx_vars y
  rename' y0 => b, y1 => t, y2 => o
  have hb := b.isLt
  have ht := t.isLt
  have ho := o.isLt
  unfold kernelRun.sl.H17_6
  by_cases h : t.val < 128
  · have hq : b.val = 0 ∨ b.val = 1 ∨ b.val = 2 := by omega
    rcases hq with hq | hq | hq
    · refine ⟨_, (List.mem_cons_of_mem _ (List.mem_cons_of_mem _ (List.mem_cons_of_mem _ (List.mem_cons_of_mem _ (List.mem_cons_of_mem _ List.mem_cons_self))))), ?_⟩
      rw [Rect.mem_set_unit]
      intro x
      fin_cases x
      · show 0 ≤ b.val ∧ b.val < 0 + 1
        omega
      · show 0 ≤ t.val ∧ t.val < 0 + 128
        omega
      · show 0 ≤ o.val ∧ o.val < 0 + 448
        omega
    · refine ⟨_, (List.mem_cons_of_mem _ (List.mem_cons_of_mem _ (List.mem_cons_of_mem _ (List.mem_cons_of_mem _ List.mem_cons_self)))), ?_⟩
      rw [Rect.mem_set_unit]
      intro x
      fin_cases x
      · show 1 ≤ b.val ∧ b.val < 1 + 1
        omega
      · show 0 ≤ t.val ∧ t.val < 0 + 128
        omega
      · show 0 ≤ o.val ∧ o.val < 0 + 448
        omega
    · refine ⟨_, (List.mem_cons_of_mem _ (List.mem_cons_of_mem _ (List.mem_cons_of_mem _ List.mem_cons_self))), ?_⟩
      rw [Rect.mem_set_unit]
      intro x
      fin_cases x
      · show 2 ≤ b.val ∧ b.val < 2 + 1
        omega
      · show 0 ≤ t.val ∧ t.val < 0 + 128
        omega
      · show 0 ≤ o.val ∧ o.val < 0 + 448
        omega
  · have hq : b.val = 0 ∨ b.val = 1 ∨ b.val = 2 := by omega
    rcases hq with hq | hq | hq
    · refine ⟨_, (List.mem_cons_of_mem _ (List.mem_cons_of_mem _ List.mem_cons_self)), ?_⟩
      rw [Rect.mem_set_unit]
      intro x
      fin_cases x
      · show 0 ≤ b.val ∧ b.val < 0 + 1
        omega
      · show 128 ≤ t.val ∧ t.val < 128 + 32
        omega
      · show 0 ≤ o.val ∧ o.val < 0 + 448
        omega
    · refine ⟨_, (List.mem_cons_of_mem _ List.mem_cons_self), ?_⟩
      rw [Rect.mem_set_unit]
      intro x
      fin_cases x
      · show 1 ≤ b.val ∧ b.val < 1 + 1
        omega
      · show 128 ≤ t.val ∧ t.val < 128 + 32
        omega
      · show 0 ≤ o.val ∧ o.val < 0 + 448
        omega
    · refine ⟨_, List.mem_cons_self, ?_⟩
      rw [Rect.mem_set_unit]
      intro x
      fin_cases x
      · show 2 ≤ b.val ∧ b.val < 2 + 1
        omega
      · show 128 ≤ t.val ∧ t.val < 128 + 32
        omega
      · show 0 ≤ o.val ∧ o.val < 0 + 448
        omega

theorem cover_scales (f7 f8 f9 f10 f11 f12 f13 f14 f16 fw6) (y : S3x160.Idx) :
    ∃ p ∈ (kernelRun (F := Ideal) c arg7 harg7 arg8 harg8 arg9 harg9 arg10 harg10 arg11 harg11 arg12 harg12 arg13 harg13 arg14 harg14 arg15 harg15 arg16 harg16 arg17 harg17 f7 f8 f9 f10 f11 f12 f13 f14 f15 f16 f17 fh0 fh1 fh2 fh3 fh4 fh5 fw6).1, y ∈ p.1.set := by
  idx_vars y
  rename' y0 => b, y1 => t
  have hb := b.isLt
  have ht := t.isLt
  unfold kernelRun
  by_cases h : t.val < 128
  · have hq : b.val = 0 ∨ b.val = 1 ∨ b.val = 2 := by omega
    rcases hq with hq | hq | hq
    · refine ⟨_, (List.mem_cons_of_mem _ (List.mem_cons_of_mem _ (List.mem_cons_of_mem _ (List.mem_cons_of_mem _ (List.mem_cons_of_mem _ List.mem_cons_self))))), ?_⟩
      rw [Rect.mem_set_unit]
      intro x
      fin_cases x
      · show 0 ≤ b.val ∧ b.val < 0 + 1
        omega
      · show 0 ≤ t.val ∧ t.val < 0 + 128
        omega
    · refine ⟨_, (List.mem_cons_of_mem _ (List.mem_cons_of_mem _ (List.mem_cons_of_mem _ (List.mem_cons_of_mem _ List.mem_cons_self)))), ?_⟩
      rw [Rect.mem_set_unit]
      intro x
      fin_cases x
      · show 1 ≤ b.val ∧ b.val < 1 + 1
        omega
      · show 0 ≤ t.val ∧ t.val < 0 + 128
        omega
    · refine ⟨_, (List.mem_cons_of_mem _ (List.mem_cons_of_mem _ (List.mem_cons_of_mem _ List.mem_cons_self))), ?_⟩
      rw [Rect.mem_set_unit]
      intro x
      fin_cases x
      · show 2 ≤ b.val ∧ b.val < 2 + 1
        omega
      · show 0 ≤ t.val ∧ t.val < 0 + 128
        omega
  · have hq : b.val = 0 ∨ b.val = 1 ∨ b.val = 2 := by omega
    rcases hq with hq | hq | hq
    · refine ⟨_, (List.mem_cons_of_mem _ (List.mem_cons_of_mem _ List.mem_cons_self)), ?_⟩
      rw [Rect.mem_set_unit]
      intro x
      fin_cases x
      · show 0 ≤ b.val ∧ b.val < 0 + 1
        omega
      · show 128 ≤ t.val ∧ t.val < 128 + 32
        omega
    · refine ⟨_, (List.mem_cons_of_mem _ List.mem_cons_self), ?_⟩
      rw [Rect.mem_set_unit]
      intro x
      fin_cases x
      · show 1 ≤ b.val ∧ b.val < 1 + 1
        omega
      · show 128 ≤ t.val ∧ t.val < 128 + 32
        omega
    · refine ⟨_, List.mem_cons_self, ?_⟩
      rw [Rect.mem_set_unit]
      intro x
      fin_cases x
      · show 2 ≤ b.val ∧ b.val < 2 + 1
        omega
      · show 128 ≤ t.val ∧ t.val < 128 + 32
        omega

/-- What the write-back carries: the codes. -/
theorem dma70_eq (hlt : ∀ i, (IntOp.maxsi (NBq c fh2 i) 0#32).toNat < 640) : kernelRun.sl.dma70 (F := Ideal) c arg7 harg7 arg8 harg8 arg9 harg9 arg10 harg10 arg11 harg11 arg12 harg12 arg13 harg13 arg14 harg14 arg15 harg15 arg16 harg16 arg17 harg17 f15 f17 fh0 fh1 fh2 fh3 fh4 fh5 = codesR c fh0 fh1 fh2 fh3 fh4 fh5 := by
  have h : arg17.view.read (Elt Ideal) (arg17.view.writes (Elt Ideal) f17 (kernelRun.sl.H17_6 (F := Ideal) c arg7 harg7 arg8 harg8 arg9 harg9 arg10 harg10 arg11 harg11 arg12 harg12 arg13 harg13 arg14 harg14 arg15 harg15 arg16 harg16 arg17 harg17 f15 fh0 fh1 fh2 fh3 fh4 fh5)) = codesR c fh0 fh1 fh2 fh3 fh4 fh5 :=
    funext fun y => View.read_writes_apply_of_pieces arg17.view _ _ _ (good_codes c arg7 harg7 arg8 harg8 arg9 harg9 arg10 harg10 arg11 harg11 arg12 harg12 arg13 harg13 arg14 harg14 arg15 harg15 arg16 harg16 arg17 harg17 f15 fh0 fh1 fh2 fh3 fh4 fh5 hlt) y (cover_codes c arg7 harg7 arg8 harg8 arg9 harg9 arg10 harg10 arg11 harg11 arg12 harg12 arg13 harg13 arg14 harg14 arg15 harg15 arg16 harg16 arg17 harg17 f15 fh0 fh1 fh2 fh3 fh4 fh5 y)
  exact h

/-- What the output block reads after the run: the scales. -/
theorem scales_eq (hlt : ∀ i, (IntOp.maxsi (NBq c fh2 i) 0#32).toNat < 640) (f7 f8 f9 f10 f11 f12 f13 f14 f16 fw6) (f : BufTy.Contents (Elt Ideal) arg7.view.ty) :
    arg7.view.read (Elt Ideal) (arg7.view.writes (Elt Ideal) f (kernelRun (F := Ideal) c arg7 harg7 arg8 harg8 arg9 harg9 arg10 harg10 arg11 harg11 arg12 harg12 arg13 harg13 arg14 harg14 arg15 harg15 arg16 harg16 arg17 harg17 f7 f8 f9 f10 f11 f12 f13 f14 f15 f16 f17 fh0 fh1 fh2 fh3 fh4 fh5 fw6).1) = scalesR c fh0 fh1 fh2 fh3 fh4 fh5 :=
  funext fun y => View.read_writes_apply_of_pieces arg7.view _ _ _ (good_scales c arg7 harg7 arg8 harg8 arg9 harg9 arg10 harg10 arg11 harg11 arg12 harg12 arg13 harg13 arg14 harg14 arg15 harg15 arg16 harg16 arg17 harg17 f15 f17 fh0 fh1 fh2 fh3 fh4 fh5 hlt f7 f8 f9 f10 f11 f12 f13 f14 f16 fw6) y
    (cover_scales c arg7 harg7 arg8 harg8 arg9 harg9 arg10 harg10 arg11 harg11 arg12 harg12 arg13 harg13 arg14 harg14 arg15 harg15 arg16 harg16 arg17 harg17 f15 f17 fh0 fh1 fh2 fh3 fh4 fh5 f7 f8 f9 f10 f11 f12 f13 f14 f16 fw6 y)

end Cert.KernelIdeal.Body
-- ==== Proof.KernelIdeal.Value.lean ====
/- The kernel's run with its two results named: the scales its output window holds, and the codes it writes to HBM by its own
   transfer. -/
module

public import proofs.«01_k».proof.Proof.KernelIdeal.Frame
public import proofs.«01_k».proof.Proof.KernelIdeal.Res
public import Idealize.ShloMosaic.Lib.Pipeline.FrameValue
public import Idealize.ShloMosaic.Lib.Pipeline.Value
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen
open Cert.KernelIdeal.Body hiding frame run_main
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (Pipeline.UD sig nD τ) ℕ

variable (m : (ℓ : Loc nD τ sig) → Buf (Elt Ideal) ℓ) (ρ : Dev nD → PrngReg)

/-- The codes the kernel leaves in HBM, from the operands as the host leaves them. -/
def codesG (c : Dev nD) : S3x160x448.Idx → EReal :=
  codesQ (V m c main_v0) (V m c main_arg1) (V m c main_v1) (V m c main_v2) (V m c main_v3) (V m c main_v4)

/-- The scales the kernel leaves in its output window. -/
def scalesG (c : Dev nD) : S3x160.Idx → EReal :=
  scalesQ (V m c main_v0) (V m c main_arg1) (V m c main_v1) (V m c main_v2) (V m c main_v3) (V m c main_v4)

/-- The buffers after the body: the codes array at the codes, every other as the region found it. -/
def valG (c : Dev nD) (b : Ref sig .tc) : Buf (Elt Ideal) ((c.tc : Thread nD τ).loc b) :=
  Function.update (V m c) main_v5_0 (codesG m c) b

theorem valG_self (c : Dev nD) : valG m c main_v5_0 = codesG m c := Function.update_self ..

/-- The one written operand's points-to at named contents. -/
theorem routed0_eq (G : (c : Dev nD) → (b : Ref sig .tc) → Buf (Elt Ideal) ((c.tc : Thread nD τ).loc b)) (c : Dev nD) :
    (Pipeline.routed R0 c (G c) : sProp 𝕄) = hbPt0 c hbM0_6 (G c main_v5_0) := by
  unfold Pipeline.routed; rw [BI.bigSep_eq_bigSepL_of_eq [main_v5_0] (by decide) (by decide)]; rfl

/-- The invariant conjunct by conjunct, the written operand at named contents. -/
theorem PhiDRG0_eq (G : (c : Dev nD) → (b : Ref sig .tc) → Buf (Elt Ideal) ((c.tc : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ iprop(hbPt0 c hbM0_0 (V m c main_v0) ∗ hbPt0 c hbM0_1 (V m c main_arg1) ∗ hbPt0 c hbM0_2 (V m c main_v1) ∗ hbPt0 c hbM0_3 (V m c main_v2) ∗ hbPt0 c hbM0_4 (V m c main_v3) ∗ hbPt0 c hbM0_5 (V m c main_v4)) ∗ hbPt0 c hbM0_6 (G c main_v5_0)) := by
  rw [Pipeline.ΦDRG_eq, scopedRest0_eq, ownSems00_eq, hbmPts0_eq, routed0_eq]; simp only [scM0_0, scM0_1, scM0_2, scM0_3, scM0_4, scM0_5, scM0_6, scM0_7, scM0_8, scM0_9, owns_whole]; try rfl

/-- The invariant at a point: the codes array as found before the body, at the codes after it. -/
def phiV (c : Dev nD) (n : ℕ) : sProp 𝕄 :=
  Pipeline.ΦDRG osem0 spec0 H0 R0 (V m) (if n = 0 then V m else valG m) c

/-- The proof data, with both results stated. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => scalesG m c
  Φ t := phiV m c t.val
  q _ := fullShare
  owed _ := 0

theorem AV_eq (c : Dev nD) (w : Fin cfg0.W) : (datsV m 0 c).A w = V m c (Pipeline.arrRef spec0 w) := by
  dsimp only [datsV]

theorem after0_0 (c : Dev nD) (t : Fin cfg0.N) : (datsV m 0 c).after 0 t = scalesG m c := rfl

/-- A write of the whole codes array by the codes leaves the named contents. -/
theorem codes_entry (c : Dev nD) (fw : Buf (Elt Ideal) ((c.tc : Thread nD τ).loc main_v5_0)) (X : S3x160x448.Idx → EReal)
    (hX : X = codesG m c) :
    View.write (Elt Ideal) (Memref.whole main_v5_0 : Memref sig .tc .hbm S3x160x448 .fp8e4m3).view fw X Finset.univ = valG m c main_v5_0 := by
  rw [valG_self, ← hX]
  exact View.write_whole_univ (Val := Elt Ideal) main_v5_0 fw X

variable (h : ∀ c i, (IntOp.maxsi (V m c main_v1 i : BitVec 32) 0#32).toNat < 640)
include h

set_option maxHeartbeats 1600000 in
/-- The body at its point, both results stated. -/
theorem sound_bodyV (c : Dev nD) (t : Fin cfg0.N) :
    iprop((datsV m 0 c).Φ t.castSucc ∗ (datsV m 0 c).owesAt () t.castSucc ∗ (∃ d, owns (c : Thread nD τ) (ms0_0 t) fullShare ((datsV m 0 c).before 0 t d)))
    ⊢ wp frame (wpE (defs₀ (F := Ideal)) Variants.none c none) Set.univ (bodyAt0 t)
      (fun _ => iprop((datsV m 0 c).Φ t.succ ∗ (datsV m 0 c).owesAt () t.succ ∗ owns (c : Thread nD τ) (ms0_0 t) fullShare ((datsV m 0 c).after 0 t))) := by
  have ht : t.val = 0 := by have := t.isLt; have : cfg0.N = 1 := rfl; omega
  have e0 : (datsV m 0 c).Φ t.castSucc = Pipeline.ΦDRG osem0 spec0 H0 R0 (V m) (V m) c := by
    show phiV m c t.val = _
    unfold phiV; rw [if_pos ht]
  have e1 : (datsV m 0 c).Φ t.succ = Pipeline.ΦDRG osem0 spec0 H0 R0 (V m) (valG m) c := by
    show phiV m c (t.val + 1) = _
    unfold phiV; rw [if_neg (by omega)]
  unfold bodyAt0
  rw [e0, e1, PhiDRG0_eq, PhiDRG0_eq, after0_0]
  unfold Dat.owesAt Pipeline.owesWithin
  rw [show (datsV m 0 c).owed t.castSucc = 0 from rfl, show (datsV m 0 c).owed t.succ = 0 from rfl]
  unfold owns
  iintro ⟨⟨⟨⟨%d8, %f8, -, HS0⟩, ⟨%d9, %f9, -, HS1⟩, ⟨%d10, %f10, -, HS2⟩, ⟨%d11, %f11, -, HS3⟩, ⟨%d12, %f12, -, HS4⟩, ⟨%d13, %f13, -, HS5⟩, ⟨%d14, %f14, -, HS6⟩, ⟨%d15, %f15, -, HS7⟩, ⟨%d16, %f16, -, HS8⟩, ⟨%d17, %f17, -, HS9⟩⟩, Hg, ⟨Hq0, Hq1, Hq2, Hq3, Hq4, Hq5, Hq6⟩, ⟨Hh0, Hh1, Hh2, Hh3, Hh4, Hh5⟩, Hh6⟩, ⟨%W, -, HW⟩, ⟨%d7, %f7, -, H0⟩⟩
  iapply ((kernelRun c (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) f7 f8 f9 f10 f11 f12 f13 f14 f15 f16 f17 (V m c main_v0) (V m c main_arg1) (V m c main_v1) (V m c main_v2) (V m c main_v3) (V m c main_v4) (V m c main_v5_0)).2.2 W _)
  isplitl [H0]; · iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [HW]; · iexact HW
  iintro ⟨H0, ⟨%g0, HS0⟩, ⟨%g1, HS1⟩, ⟨%g2, HS2⟩, ⟨%g3, HS3⟩, ⟨%g4, HS4⟩, ⟨%g5, HS5⟩, ⟨%g6, HS6⟩, ⟨%g7, HS7⟩, ⟨%g8, HS8⟩, ⟨%g9, HS9⟩, Hq0, Hq1, Hq2, Hq3, Hq4, Hq5, Hq6, Hh0, Hh1, Hh2, Hh3, Hh4, Hh5, Hh6, ⟨%W', HW'⟩⟩
  isplitl [HS0 HS1 HS2 HS3 HS4 HS5 HS6 HS7 HS8 HS9 Hg Hq0 Hq1 Hq2 Hq3 Hq4 Hq5 Hq6 Hh0 Hh1 Hh2 Hh3 Hh4 Hh5 Hh6]
  · isplitl [HS0 HS1 HS2 HS3 HS4 HS5 HS6 HS7 HS8 HS9]
    · isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      iexists _, _; isplitr; swap; · iexact HS9
      ipureintro; rfl
    isplitl [Hg]; · iexact Hg
    isplitl [Hq0 Hq1 Hq2 Hq3 Hq4 Hq5 Hq6]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hq6
    isplitl [Hh0 Hh1 Hh2 Hh3 Hh4 Hh5]
    · isplitl [Hh0]; · iexact Hh0
      isplitl [Hh1]; · iexact Hh1
      isplitl [Hh2]; · iexact Hh2
      isplitl [Hh3]; · iexact Hh3
      isplitl [Hh4]; · iexact Hh4
      iexact Hh5
    rw [show (kernelRun c (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) f7 f8 f9 f10 f11 f12 f13 f14 f15 f16 f17 (V m c main_v0) (V m c main_arg1) (V m c main_v1) (V m c main_v2) (V m c main_v3) (V m c main_v4) (V m c main_v5_0)).2.1 = valG m c main_v5_0 from codes_entry m c _ _ (dma70_eq c (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) f15 f17 (V m c main_v0) (V m c main_arg1) (V m c main_v1) (V m c main_v2) (V m c main_v3) (V m c main_v4) (h c))]
    iexact Hh6
  isplitl [HW']
  · iexists W'; isplitr; · ipureintro; exact fun _ _ => Or.inl trivial
    iexact HW'
  iexists _; isplitr; swap; · iexact H0
  ipureintro
  exact scales_eq c (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) f15 f17 (V m c main_v0) (V m c main_arg1) (V m c main_v1) (V m c main_v2) (V m c main_v3) (V m c main_v4) (h c) f7 f8 f9 f10 f11 f12 f13 f14 f16 (V m c main_v5_0) f7

/-- The library's body obligation with both results stated. -/
theorem body_obligationV (c : Dev nD) :
    BodyObligation (datsV m 0 c) (defs₀ (F := Ideal)) Variants.none () Set.univ := fun t => by
  rw [bigSep_W0]; try rw [bigSep_W0]
  rw [defs₀_row]
  exact triple_restated (sound_bodyV m h c t) rfl .rfl fun _ => .rfl

set_option backward.isDefEq.respectTransparency.types false in
/-- THE LAUNCH with both results named. -/
theorem run_value : θ_run defs (onTc (τ := τ) (main (F := Ideal))) (s₀ m ρ) (Pipeline.FramePostRG cfgs (datsV m) 0 R0 (V m) (valG m)) :=
  Pipeline.θ_run_frame_dmaRG (Q' := _) cfgs (datsV m) (0 : Fin 1) launch0 osem0 defs₀ Variants.none ownSemFacts0 H0 R0 H0_sub R0_sub m ρ main
    (hbody := fun c => (body_obligationV m h c).loose) (hshare := fun c => (datsV m 0 c).share_full fun _ => rfl)
    (howed := fun _ _ => rfl) (V := V m) (hmain := hmainD m Variants.none) (hA := AV_eq m) (G := valG m)
    (hin := fun _ => .rfl) (hout := fun _ => .rfl)

omit h in
/-- The scales array after the run. -/
theorem finalV (c : Dev nD) : (datsV m 0 c).arrAt 0 cfg0.N = scalesG m c := by
  refine (datsV m 0 c).arrAt_eq_of_after_last 0 t0_0 (by decide +kernel) _ fun j => ?_
  blk_simp
  rw [after0_0]

/-- The run with each result named, the arguments unchanged. -/
theorem run_blocks : θ_run defs (onTc (τ := τ) (main (F := Ideal))) ⟨m, fun _ => 0, ρ⟩ fun r => ∀ c : Dev nD,
      r.2.mem ((c : Thread nD τ).loc main_v5_0) = codesG m c
      ∧ r.2.mem ((c : Thread nD τ).loc main_v5_1) = scalesG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r hr c => ⟨(hr.written c (by decide)).trans (valG_self m c),
      ((hr.1 c).1 0).trans (finalV m c),
      ((hr.1 c).2 main_arg0 (Finset.mem_sdiff.mpr ⟨Pipeline.mem_restRefs_of main_arg0 (by decide) (by decide), by decide⟩)).trans (V_main_arg0 m c),
      ((hr.1 c).2 main_arg1 (Finset.mem_sdiff.mpr ⟨Pipeline.mem_restRefs_of main_arg1 (by decide) (by decide), by decide⟩)).trans (V_main_arg1 m c),
      ((hr.1 c).2 main_arg2 (Finset.mem_sdiff.mpr ⟨Pipeline.mem_restRefs_of main_arg2 (by decide) (by decide), by decide⟩)).trans (V_main_arg2 m c),
      ((hr.1 c).2 main_arg3 (Finset.mem_sdiff.mpr ⟨Pipeline.mem_restRefs_of main_arg3 (by decide) (by decide), by decide⟩)).trans (V_main_arg3 m c),
      ((hr.1 c).2 main_arg4 (Finset.mem_sdiff.mpr ⟨Pipeline.mem_restRefs_of main_arg4 (by decide) (by decide), by decide⟩)).trans (V_main_arg4 m c),
      ((hr.1 c).2 main_arg5 (Finset.mem_sdiff.mpr ⟨Pipeline.mem_restRefs_of main_arg5 (by decide) (by decide), by decide⟩)).trans (V_main_arg5 m c)⟩) (run_value m ρ h)

end Cert.KernelIdeal.Value
-- ==== Proof.KernelIdeal.Exp.lean ====
/- The exponent: the kernel's biased exponent of the scaled maximum and the reference's sum over octaves are one number, so the
   scales and their inverses, formed from bits on one side and by exp2 on the other, are equal. -/
module
public import proofs.«01_k».proof.Proof.KernelIdeal.Out

@[expose] public section
set_option maxRecDepth 16384
noncomputable section
open Idealize.ShloMosaic
namespace Cert.KernelIdeal.Body
open Cert.KernelIdeal Cert.KernelIdeal.Gen

/-- The reference's exponent: the sum, over the octaves, of the octave that holds the value. -/
def eR (v : EReal) : BitVec 32 :=
  Finset.fold IntOp.addi (0#32) (fun x : Fin 252 =>
    Scalar.select
      (IntOp.andi
        (BitVec.ofBool (decide (FloatOps.exp2 (F := Ideal) (φ := .f32) (FloatOps.sitofp .f32 (IntOp.subi (IntOp.subi (BitVec.ofNat 32 x.val) 125#32) 1#32)) ≤ v)))
        (BitVec.ofBool (decide (v < FloatOps.exp2 (F := Ideal) (φ := .f32) (FloatOps.sitofp .f32 (IntOp.subi (BitVec.ofNat 32 x.val) 125#32))))))
      (IntOp.subi (BitVec.ofNat 32 x.val) 125#32) 0#32)
    Finset.univ

/-- 2 to an integer power, as an extended real. -/
def p2 (k : Int) : EReal := (((2 : ℝ) ^ k : ℝ) : EReal)

theorem p2_mono {a b : Int} (h : a ≤ b) : p2 a ≤ p2 b := EReal.coe_le_coe_iff.2 (zpow_le_zpow_right₀ (by norm_num) h)

theorem toInt_125 : ∀ n : Fin 252, (IntOp.subi (BitVec.ofNat 32 n.val) 125#32).toInt = (n.val : Int) - 125 := by decide +kernel
theorem toInt_126 : ∀ n : Fin 252, (IntOp.subi (IntOp.subi (BitVec.ofNat 32 n.val) 125#32) 1#32).toInt = (n.val : Int) - 126 := by decide +kernel
theorem toInt_neg : ∀ n : Fin 252, (IntOp.subi 0#32 (BitVec.ofNat 32 n.val - 125#32)).toInt = 125 - (n.val : Int) := by decide +kernel
theorem exp_field : ∀ n : Fin 255, ((IntOp.shli .vector (BitVec.ofNat 32 n.val) 23#32).extractLsb' 23 8).toNat = n.val
    ∧ ((IntOp.shli .vector (BitVec.ofNat 32 n.val) 23#32).extractLsb' 0 23).toNat = 0
    ∧ ((IntOp.shli .vector (BitVec.ofNat 32 n.val) 23#32).extractLsb' 31 1 == 1#1) = false := by decide +kernel

/-- A power of two read from its exponent field. -/
theorem ofBits_exp (n : Nat) (h1 : 1 ≤ n) (h2 : n ≤ 254) : Ideal.ofBits .f32 (IntOp.shli .vector (BitVec.ofNat 32 n) 23#32) = p2 (n - 127) := by
  obtain ⟨k1, k2, k3⟩ := exp_field ⟨n, by omega⟩
  dsimp only at k1 k2 k3
  generalize IntOp.shli .vector (BitVec.ofNat 32 n) 23#32 = w at k1 k2 k3 ⊢
  show Ideal.ieee 8 23 w = _
  unfold Ideal.ieee p2
  simp only [k1, k2, k3]
  rw [if_neg (by omega), if_neg (by omega)]
  congr 1
  simp only [Bool.false_eq_true, if_false]
  rw [show ((n : Int) - 127) = 23 + ((n : Int) - (2 ^ (8 - 1) - 1) - (23 : Nat)) by norm_num, zpow_add₀ (by norm_num)]
  norm_num

theorem exp2_int (b : BitVec 32) : FloatOps.exp2 (F := Ideal) (φ := .f32) (FloatOps.sitofp .f32 b) = p2 b.toInt := by
  show (Real.rpow 2 ((b.toInt : ℝ)) : EReal) = _
  unfold p2
  congr 1
  exact Real.rpow_intCast 2 b.toInt

theorem top_bits : Ideal.ofBits FTy.f32 2122317824#32 = p2 126 := by
  have := ofBits_exp 253 (by norm_num) (by norm_num)
  have e : IntOp.shli .vector (BitVec.ofNat 32 253) 23#32 = 2122317824#32 := by decide
  rw [e] at this
  rw [this]; norm_num

/-- The octave of a value. -/
def oct (v : EReal) (n : Fin 252) : Prop := p2 ((n.val : Int) - 126) ≤ v ∧ v < p2 ((n.val : Int) - 125)

theorem oct_unique {v : EReal} {n n' : Fin 252} (h : oct v n) (h' : oct v n') : n = n' := by
  rcases lt_trichotomy n.val n'.val with hl | he | hl
  · exact absurd (h'.1.trans_lt h.2) (not_lt.2 (p2_mono (by omega)))
  · exact Fin.ext he
  · exact absurd (h.1.trans_lt h'.2) (not_lt.2 (p2_mono (by omega)))

theorem fold_zero {n : Nat} (f : Fin n → BitVec 32) (s : Finset (Fin n)) (h : ∀ x ∈ s, f x = 0#32) : Finset.fold IntOp.addi (0#32) f s = 0#32 := by
  induction s using Finset.induction_on with
  | empty => rfl
  | insert a s ha ih =>
    rw [Finset.fold_insert ha, h a (Finset.mem_insert_self a s), ih fun x hx => h x (Finset.mem_insert_of_mem hx)]
    rfl

/-- A sum with one term that is not zero is that term. -/
theorem fold_one {n : Nat} (f : Fin n → BitVec 32) (k : Fin n) (h : ∀ x, x ≠ k → f x = 0#32) : Finset.fold IntOp.addi (0#32) f Finset.univ = f k := by
  rw [← Finset.insert_erase (Finset.mem_univ k), Finset.fold_insert (Finset.notMem_erase k _), fold_zero f _ fun x hx => h x (Finset.ne_of_mem_erase hx)]
  exact BitVec.add_zero _

theorem select_ofBool {α : Type} (b : Bool) (x y : α) : Scalar.select (BitVec.ofBool b) x y = if b then x else y := by
  cases b <;> rfl

theorem and_ofBool (a b : Bool) : IntOp.andi (BitVec.ofBool a) (BitVec.ofBool b) = BitVec.ofBool (a && b) := by
  cases a <;> cases b <;> rfl

/-- A term of the reference's sum. -/
theorem eR_term (v : EReal) (x : Fin 252) [Decidable (oct v x)] :
    Scalar.select
      (IntOp.andi
        (BitVec.ofBool (decide (FloatOps.exp2 (F := Ideal) (φ := .f32) (FloatOps.sitofp .f32 (IntOp.subi (IntOp.subi (BitVec.ofNat 32 x.val) 125#32) 1#32)) ≤ v)))
        (BitVec.ofBool (decide (v < FloatOps.exp2 (F := Ideal) (φ := .f32) (FloatOps.sitofp .f32 (IntOp.subi (BitVec.ofNat 32 x.val) 125#32))))))
      (IntOp.subi (BitVec.ofNat 32 x.val) 125#32) 0#32 = if oct v x then BitVec.ofNat 32 x.val - 125#32 else 0#32 := by
  rw [exp2_int, exp2_int, and_ofBool, select_ofBool, toInt_125, toInt_126]
  by_cases h : oct v x
  · rw [if_pos h, if_pos (by simp [h.1, h.2])]; rfl
  · rw [if_neg h, if_neg (by simpa [oct] using h)]

theorem eR_of_oct {v : EReal} {n : Fin 252} (h : oct v n) : eR v = BitVec.ofNat 32 n.val - 125#32 := by
  classical
  unfold eR
  rw [fold_one _ n fun x hx => by rw [eR_term, if_neg fun h' => hx (oct_unique h' h)], eR_term, if_pos h]

theorem eR_of_none {v : EReal} (h : ∀ n, ¬oct v n) : eR v = 0#32 := by
  classical
  unfold eR
  exact fold_zero _ _ fun x _ => by rw [eR_term, if_neg (h x)]

theorem cmp_1 : ∀ x : Fin 256, IntOp.cmpi .sge (BitVec.ofNat 32 x.val) 1#32 = BitVec.ofBool (decide (1 ≤ x.val)) := by decide +kernel
theorem cmp_252 : ∀ x : Fin 256, IntOp.cmpi .sle (BitVec.ofNat 32 x.val) 252#32 = BitVec.ofBool (decide (x.val ≤ 252)) := by decide +kernel
theorem succ_word : ∀ x : Fin 256, IntOp.addi (BitVec.ofNat 32 x.val) 1#32 = BitVec.ofNat 32 (x.val + 1) := by decide +kernel

/-- A term of the kernel's sum. -/
theorem eb_term (v : EReal) (x : Fin 256) :
    Scalar.select
      (IntOp.andi
        (IntOp.andi
          (IntOp.andi (IntOp.cmpi CmpIPredicate.sge (BitVec.ofNat 32 x.val) 1#32)
            (IntOp.cmpi CmpIPredicate.sle (BitVec.ofNat 32 x.val) 252#32))
          (BitVec.ofBool (decide (Ideal.ofBits FTy.f32 (IntOp.shli ArithUnit.vector (BitVec.ofNat 32 x.val) 23#32) ≤ v))))
        (BitVec.ofBool (decide (v < Ideal.ofBits FTy.f32 (IntOp.shli ArithUnit.vector (IntOp.addi (BitVec.ofNat 32 x.val) 1#32) 23#32)))))
      (BitVec.ofNat 32 x.val) 0#32
      = @ite _ (∃ n : Fin 252, n.val + 1 = x.val ∧ oct v n) (Classical.propDecidable _) (BitVec.ofNat 32 x.val) 0#32 := by
  rw [cmp_1, cmp_252, and_ofBool, and_ofBool, and_ofBool, select_ofBool, succ_word]
  by_cases hx : 1 ≤ x.val ∧ x.val ≤ 252
  · rw [ofBits_exp x.val (by omega) (by omega), ofBits_exp (x.val + 1) (by omega) (by omega)]
    have hq : (∃ n : Fin 252, n.val + 1 = x.val ∧ oct v n) ↔ p2 ((x.val : Int) - 127) ≤ v ∧ v < p2 (((x.val + 1 : Nat) : Int) - 127) := by
      constructor
      · rintro ⟨n, hn, h1, h2⟩
        rw [← hn]
        refine ⟨?_, ?_⟩
        · rw [show (((n.val + 1 : Nat) : Int) - 127) = (n.val : Int) - 126 by omega]; exact h1
        · rw [show (((n.val + 1 + 1 : Nat) : Int) - 127) = (n.val : Int) - 125 by omega]; exact h2
      · rintro ⟨h1, h2⟩
        refine ⟨⟨x.val - 1, by omega⟩, by simp only []; omega, ?_, ?_⟩
        · simp only []
          rw [show (((x.val - 1 : Nat) : Int) - 126) = (x.val : Int) - 127 by omega]; exact h1
        · simp only []
          rw [show (((x.val - 1 : Nat) : Int) - 125) = ((x.val + 1 : Nat) : Int) - 127 by omega]; exact h2
    by_cases h : ∃ n : Fin 252, n.val + 1 = x.val ∧ oct v n
    · rw [if_pos h, if_pos (by simp only [hx.1, hx.2, (hq.1 h).1, (hq.1 h).2, decide_true, Bool.and_self])]
    · rw [if_neg h, if_neg]
      intro hh
      simp only [Bool.and_eq_true, decide_eq_true_eq] at hh
      exact h (hq.2 ⟨hh.1.2, hh.2⟩)
  · have h : ¬∃ n : Fin 252, n.val + 1 = x.val ∧ oct v n := by
      rintro ⟨n, hn, _⟩
      have := n.isLt
      omega
    rw [if_neg h, if_neg]
    intro hh
    simp only [Bool.and_eq_true, decide_eq_true_eq] at hh
    exact hx hh.1.1

theorem ebK_of_oct {v : EReal} {n : Fin 252} (h : oct v n) : ebK v = BitVec.ofNat 32 (n.val + 1) := by
  have hn := n.isLt
  unfold ebK
  rw [top_bits, if_neg (not_le.2 (h.2.trans_le (p2_mono (by omega))))]
  rw [fold_one _ ⟨n.val + 1, by omega⟩ fun x hx => by
    rw [eb_term, if_neg]
    rintro ⟨n', hn', h'⟩
    exact hx (Fin.ext (by rw [← hn', oct_unique h' h])), eb_term, if_pos ⟨n, rfl, h⟩]

theorem ebK_of_none {v : EReal} (h : ∀ n, ¬oct v n) : ebK v = 255#32 ∨ ebK v = 0#32 := by
  unfold ebK
  split
  · exact .inl rfl
  · exact .inr (fold_zero _ _ fun x _ => by rw [eb_term, if_neg fun ⟨n, _, h'⟩ => h n h'])

theorem ex_word : ∀ n : Fin 252, Scalar.select (IntOp.ori (IntOp.cmpi .eq (BitVec.ofNat 32 (n.val + 1)) 0#32) (IntOp.cmpi .eq (BitVec.ofNat 32 (n.val + 1)) 255#32)) (0#32) (IntOp.subi (BitVec.ofNat 32 (n.val + 1)) 126#32)
    = BitVec.ofNat 32 n.val - 125#32 := by decide +kernel

/-- The two exponents are one. -/
theorem exK_eq (v : EReal) : exK v = eR v := by
  by_cases h : ∃ n, oct v n
  · obtain ⟨n, h⟩ := h
    unfold exK
    rw [eR_of_oct h, ebK_of_oct h, ex_word]
  · have h' : ∀ n, ¬oct v n := fun n hn => h ⟨n, hn⟩
    unfold exK
    rw [eR_of_none h']
    rcases ebK_of_none h' with e | e <;> rw [e] <;> decide

theorem up_word : ∀ n : Fin 252, IntOp.addi (BitVec.ofNat 32 n.val - 125#32) 127#32 = BitVec.ofNat 32 (n.val + 2) := by decide +kernel
theorem dn_word : ∀ n : Fin 252, IntOp.subi 127#32 (BitVec.ofNat 32 n.val - 125#32) = BitVec.ofNat 32 (252 - n.val) := by decide +kernel

/-- The scale from bits is the scale by exp2. -/
theorem scK_eq (v : EReal) : scK v = FloatOps.exp2 (F := Ideal) (φ := .f32) (FloatOps.sitofp .f32 (eR v)) := by
  unfold scK
  rw [exK_eq, exp2_int]
  by_cases h : ∃ n, oct v n
  · obtain ⟨n, h⟩ := h
    have hn := n.isLt
    rw [eR_of_oct h, up_word, ofBits_exp _ (by omega) (by omega)]
    have := toInt_125 n
    unfold IntOp.subi at this
    rw [this]; congr 1; omega
  · rw [eR_of_none fun n hn => h ⟨n, hn⟩]
    exact (ofBits_exp 127 (by norm_num) (by norm_num)).trans (by norm_num)

/-- The inverse scale likewise. -/
theorem inK_eq (v : EReal) : inK v = FloatOps.exp2 (F := Ideal) (φ := .f32) (FloatOps.sitofp .f32 (IntOp.subi 0#32 (eR v))) := by
  unfold inK
  rw [exK_eq, exp2_int]
  by_cases h : ∃ n, oct v n
  · obtain ⟨n, h⟩ := h
    have hn := n.isLt
    rw [eR_of_oct h, dn_word, ofBits_exp _ (by omega) (by omega), toInt_neg n]
    congr 1; omega
  · rw [eR_of_none fun n hn => h ⟨n, hn⟩]
    exact (ofBits_exp 127 (by norm_num) (by norm_num)).trans (congrArg p2 (by decide))

theorem p2_nonneg (k : Int) : 0 ≤ p2 k := EReal.coe_nonneg.2 (zpow_nonneg (by norm_num) k)

theorem inK_nonneg (v : EReal) : 0 ≤ inK v := by rw [inK_eq, exp2_int]; exact p2_nonneg _

end Cert.KernelIdeal.Body
-- ==== Proof.ReferenceIdeal.Body.lean ====
/- The reference's body in closed form: what it leaves in its two results, entry by entry, as functions of its six operands. -/
module
public import proofs.«01_k».proof.Proof.Gen.ReferenceIdeal.Frame
public import proofs.«01_k».proof.Proof.KernelIdeal.Exp
public import Idealize.ShloMosaic.Lib.Pipeline.ValueKit

@[expose] public section
set_option maxRecDepth 16384
noncomputable section
open Idealize.ShloMosaic
namespace Cert.ReferenceIdeal.Body
open Cert.ReferenceIdeal Cert.ReferenceIdeal.Gen
open Cert.KernelIdeal.Body (yK vK cdK scK inK eR scK_eq inK_eq inK_nonneg eR_of_none p2)

theorem p2_pos (k : Int) : 0 < p2 k := EReal.coe_pos.2 (zpow_pos (by norm_num) k)

theorem yK_nonneg (a w b : EReal) : 0 ≤ yK a w b := le_max_right _ _

/-- Where the maximum is 0, no octave holds the scaled value: the exponent is 0 already. -/
theorem eR_guard (a : EReal) [Decidable (a = 0)] : (if a = 0 then 0#32 else eR (a * Ideal.ofBits .f32 991054117#32)) = eR (a * Ideal.ofBits .f32 991054117#32) := by
  split
  · next h =>
    rw [h, zero_mul, eR_of_none fun n hn => absurd hn.1 (not_le.2 (p2_pos _))]
  · rfl

/-- Clipping a product of numbers that are not negative clips it from above. -/
theorem clip_eq {y v : EReal} (h : 0 ≤ y) : min (Ideal.ofBits FTy.f32 1138753536#32) (max (Ideal.ofBits FTy.f32 3286237184#32) (y * inK v)) = cdK y v := by
  have hneg : Ideal.ofBits FTy.f32 3286237184#32 ≤ 0 := by
    have : Ideal.ofBits FTy.f32 3286237184#32 = ((-448 : ℝ) : EReal) := by
      simp [Ideal.ofBits, Ideal.ieee, -EReal.coe_mul]; norm_num
    rw [this]; exact EReal.coe_nonpos.2 (by norm_num)
  rw [max_eq_right (hneg.trans (mul_nonneg h (inK_nonneg v))), min_comm]
  rfl

section
variable (x0 : Vec Ideal S8x480x1 .i32) (x1 : Vec Ideal S8x480x576 .fp8e4m3) (x2 : Vec Ideal S8x480x1 .f32) (x3 : Vec Ideal S8x576x448 .fp8e4m3) (x4 x5 : Vec Ideal S1x448 .f32)

/-- A row before quantisation. -/
def yR (r : Fin 480) (o : Fin 448) : EReal :=
  yK (∑ k : Fin 8, ∑ x : Fin 576, Scalar.select (IntOp.cmpi .sge (x0 (ix3 k r 0)) 0#32) ((show EReal from x1 (ix3 k r x)) * (show EReal from x2 (ix3 k r 0)) * (show EReal from x3 (ix3 k x o))) 0)
    (x4 (ix2 0 o)) (x5 (ix2 0 o))

theorem yPay_at (r : Fin 480) (o : Fin 448) : k0_pay15 (k0_pay19 x0 x1 x2 x3 x4 x5) (k0_pay20 x0 x1 x2 x3 x4 x5) (ix2 r o) = yR x0 x1 x2 x3 x4 x5 r o := by
  pointwise [k0_pay15, k0_pay19, k0_pay20, k0_pay2, k0_pay3, k0_pay4, k0_pay5, k0_pay6, k0_pay7, k0_pay8, k0_pay9, k0_pay10, k0_pay11, k0_pay12, k0_pay13, k0_pay14]
  unfold yR
  rw [Fin.sum_univ_eight]
  rfl

theorem abs_nonneg {y : EReal} (h : 0 ≤ y) : FloatOps.absf (F := Ideal) (φ := .f32) y = y := by
  show max y (-y) = y
  have h' : -y ≤ 0 := by simpa using EReal.neg_le_neg_iff.2 h
  exact max_eq_left (h'.trans h)

theorem ePay_at (r : Fin 480) : k0_pay16 (k0_pay19 x0 x1 x2 x3 x4 x5) (k0_pay20 x0 x1 x2 x3 x4 x5) (ix2 r 0) = eR (vK (yR x0 x1 x2 x3 x4 x5 r)) := by
  pointwise [k0_pay16]
  have e : (fun x => FloatOps.absf (F := Ideal) (φ := .f32) (k0_pay15 (k0_pay19 x0 x1 x2 x3 x4 x5) (k0_pay20 x0 x1 x2 x3 x4 x5) (ix2 r x))) = yR x0 x1 x2 x3 x4 x5 r := by
    funext x
    rw [yPay_at]
    exact abs_nonneg (yK_nonneg _ _ _)
  rw [e]
  exact eR_guard _

/-- The codes. -/
theorem out6_at (b : Fin 3) (t : Fin 160) (o : Fin 448) :
    out0_6 x0 x1 x2 x3 x4 x5 (ix3 b t o) = cdK (yR x0 x1 x2 x3 x4 x5 ⟨b.val * 160 + t.val, by omega⟩ o) (vK (yR x0 x1 x2 x3 x4 x5 ⟨b.val * 160 + t.val, by omega⟩)) := by
  unfold out0_6
  have e : ∀ X : Vec Ideal S3x160x448 .fp8e4m3, View.canon [⟨r0_25, X⟩] = X := fun X => by frame_out
  rw [e]
  pointwise [k0_pay18]
  rw [yPay_at, ePay_at, ← inK_eq]
  exact clip_eq (yK_nonneg _ _ _)

/-- The scales. -/
theorem out7_at (b : Fin 3) (t : Fin 160) :
    out0_7 x0 x1 x2 x3 x4 x5 (ix2 b t) = scK (vK (yR x0 x1 x2 x3 x4 x5 ⟨b.val * 160 + t.val, by omega⟩)) := by
  unfold out0_7
  have e : ∀ X : Vec Ideal S3x160 .f32, View.canon [⟨r0_26, X⟩] = X := fun X => by frame_out
  rw [e]
  pointwise [k0_pay17, k0_pay1]
  rw [ePay_at, ← scK_eq]
end

end Cert.ReferenceIdeal.Body
-- ==== Proof.ReferenceIdeal.Run.lean ====
/- The reference's run with its two result arrays named: each is the body's result over the operands as the host leaves them. -/
module
public import proofs.«01_k».proof.Proof.ReferenceIdeal.Body
public import Idealize.ShloMosaic.Lib.Pipeline.Value
public import Idealize.ShloMosaic.Lib.Claim

@[expose] public section
set_option maxRecDepth 16384

noncomputable section

namespace Cert.ReferenceIdeal.Body

open Cert.ReferenceIdeal Cert.ReferenceIdeal.Gen Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v42_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v42_1) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v42_0) = (dats m 0 c).arrAt 6 cfg0.N
      ∧ r.2.mem ((c : Thread nD τ).loc main_v42_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c⟩) (run_main m ρ)

end

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0] ∧ win0_5.index t = ![0, 0] ∧ win0_6.index t = ![0, 0, 0] ∧ win0_7.index t = ![0, 0] :=
  (by decide +kernel : ∀ t : Fin grid0.N, _)

theorem iblk_0 (c : Dev nD) (t : Fin cfg0.N) : iblk m c 0 t = V m c main_v35 := by blk_ext! [iblk, idx t]
theorem iblk_1 (c : Dev nD) (t : Fin cfg0.N) : iblk m c 1 t = V m c main_v37 := by blk_ext! [iblk, idx t]
theorem iblk_2 (c : Dev nD) (t : Fin cfg0.N) : iblk m c 2 t = V m c main_v39 := by blk_ext! [iblk, idx t]
theorem iblk_3 (c : Dev nD) (t : Fin cfg0.N) : iblk m c 3 t = V m c main_arg3 := by blk_ext! [iblk, idx t]
theorem iblk_4 (c : Dev nD) (t : Fin cfg0.N) : iblk m c 4 t = V m c main_v40 := by blk_ext! [iblk, idx t]
theorem iblk_5 (c : Dev nD) (t : Fin cfg0.N) : iblk m c 5 t = V m c main_v41 := by blk_ext! [iblk, idx t]

/-- The codes array after the run. -/
theorem final6 (c : Dev nD) : (dats m 0 c).arrAt 6 cfg0.N
    = out0_6 (V m c main_v35) (V m c main_v37) (V m c main_v39) (V m c main_arg3) (V m c main_v40) (V m c main_v41) := by
  refine (dats m 0 c).arrAt_eq_of_after_last 6 t0_0 (by decide +kernel) _ fun j => ?_
  blk_simp
  rw [after0_6, iblk_0, iblk_1, iblk_2, iblk_3, iblk_4, iblk_5]

/-- The scales array after the run. -/
theorem final7 (c : Dev nD) : (dats m 0 c).arrAt 7 cfg0.N
    = out0_7 (V m c main_v35) (V m c main_v37) (V m c main_v39) (V m c main_arg3) (V m c main_v40) (V m c main_v41) := by
  refine (dats m 0 c).arrAt_eq_of_after_last 7 t0_0 (by decide +kernel) _ fun j => ?_
  blk_simp
  rw [after0_7, iblk_0, iblk_1, iblk_2, iblk_3, iblk_4, iblk_5]

end Cert.ReferenceIdeal.Body
-- ==== Proof.ReferenceIdeal.Host.lean ====
/- The reference's operands as the host leaves them: the gathers, transposes and reshapes read at an index. -/
module
public import proofs.«01_k».proof.Proof.ReferenceIdeal.Run

@[expose] public section
set_option maxRecDepth 16384

noncomputable section

namespace Cert.ReferenceIdeal.Body

open Cert.ReferenceIdeal Cert.ReferenceIdeal.Gen Idealize.ShloMosaic Idealize.ShloMosaic.TcCoe

section Gather
variable {α : Type}

private abbrev G3 := gather_S3x640x576_S3x160x8x2_S3x160x8x576_3_01_n_n_01_3_11576
private abbrev G2 := gather_S3x640_S3x160x8x2_S3x160x8_n_01_n_n_01_3_11

/-- The gather of code rows at an index: the batch and the row are the two start indices, clamped into the array. -/
theorem gather3_at (x : S3x640x576.Idx → α) (idx : IVec S3x160x8x2 32) (b : Fin 3) (t : Fin 160) (k : Fin 8) (c : Fin 576) :
    Host.gather gather_S3x640x576_S3x160x8x2_S3x160x8x576_3_01_n_n_01_3_11576 x idx (ix4 b t k c)
      = x (ix3 ⟨min (idx (ix4 b t k 0)).toInt.toNat 2, by omega⟩ ⟨min (idx (ix4 b t k 1)).toInt.toNat 639, by omega⟩ c) := by
  unfold Host.gather
  congr 1
  funext a
  refine Fin.ext ?_
  show G3.start (ix4 b t k c) idx a + G3.batchCoord (ix4 b t k c) a + G3.offCoord (ix4 b t k c) a = _
  have h : a = 0 ∨ a = 1 ∨ a = 2 := by
    match a with
    | ⟨0, _⟩ => exact .inl rfl
    | ⟨1, _⟩ => exact .inr (.inl rfl)
    | ⟨2, _⟩ => exact .inr (.inr rfl)
  rcases h with rfl | rfl | rfl
  · rw [GatherDims.batchCoord_eq_zero _ _ _ List.not_mem_nil, GatherDims.offCoord_eq_zero _ _ _ (by decide)]
    unfold GatherDims.start
    rw [dif_pos (by decide)]
    have e : G3.siIdx (ix4 b t k c) ⟨List.idxOf (0 : Fin 3) G3.startIndexMap, by decide⟩ = ix4 b t k 0 := by
      funext b; refine Fin.ext ?_
      match b with
      | ⟨0, _⟩ => rfl
      | ⟨1, _⟩ => rfl
      | ⟨2, _⟩ => rfl
      | ⟨3, _⟩ => rfl
    rw [e]
    rfl
  · rw [GatherDims.batchCoord_eq_zero _ _ _ List.not_mem_nil, GatherDims.offCoord_eq_zero _ _ _ (by decide)]
    unfold GatherDims.start
    rw [dif_pos (by decide)]
    have e : G3.siIdx (ix4 b t k c) ⟨List.idxOf (1 : Fin 3) G3.startIndexMap, by decide⟩ = ix4 b t k 1 := by
      funext b; refine Fin.ext ?_
      match b with
      | ⟨0, _⟩ => rfl
      | ⟨1, _⟩ => rfl
      | ⟨2, _⟩ => rfl
      | ⟨3, _⟩ => rfl
    rw [e]
    rfl
  · rw [GatherDims.batchCoord_eq_zero _ _ _ List.not_mem_nil]
    unfold GatherDims.start
    rw [dif_neg (by decide)]
    unfold GatherDims.offCoord
    rw [dif_pos (by decide)]
    simp only [Nat.zero_add]
    rfl

/-- The gather of row scales at an index. -/
theorem gather2_at (x : S3x640.Idx → α) (idx : IVec S3x160x8x2 32) (b : Fin 3) (t : Fin 160) (k : Fin 8) :
    Host.gather gather_S3x640_S3x160x8x2_S3x160x8_n_01_n_n_01_3_11 x idx (ix3 b t k)
      = x (ix2 ⟨min (idx (ix4 b t k 0)).toInt.toNat 2, by omega⟩ ⟨min (idx (ix4 b t k 1)).toInt.toNat 639, by omega⟩) := by
  unfold Host.gather
  congr 1
  funext a
  refine Fin.ext ?_
  show G2.start (ix3 b t k) idx a + G2.batchCoord (ix3 b t k) a + G2.offCoord (ix3 b t k) a = _
  have h : a = 0 ∨ a = 1 := by
    match a with
    | ⟨0, _⟩ => exact .inl rfl
    | ⟨1, _⟩ => exact .inr rfl
  rcases h with rfl | rfl
  · rw [GatherDims.batchCoord_eq_zero _ _ _ List.not_mem_nil, GatherDims.offCoord_eq_zero _ _ _ (by decide)]
    unfold GatherDims.start
    rw [dif_pos (by decide)]
    have e : G2.siIdx (ix3 b t k) ⟨List.idxOf (0 : Fin 2) G2.startIndexMap, by decide⟩ = ix4 b t k 0 := by
      funext b; refine Fin.ext ?_
      match b with
      | ⟨0, _⟩ => rfl
      | ⟨1, _⟩ => rfl
      | ⟨2, _⟩ => rfl
      | ⟨3, _⟩ => rfl
    rw [e]
    rfl
  · rw [GatherDims.batchCoord_eq_zero _ _ _ List.not_mem_nil, GatherDims.offCoord_eq_zero _ _ _ (by decide)]
    unfold GatherDims.start
    rw [dif_pos (by decide)]
    have e : G2.siIdx (ix3 b t k) ⟨List.idxOf (1 : Fin 2) G2.startIndexMap, by decide⟩ = ix4 b t k 1 := by
      funext b; refine Fin.ext ?_
      match b with
      | ⟨0, _⟩ => rfl
      | ⟨1, _⟩ => rfl
      | ⟨2, _⟩ => rfl
      | ⟨3, _⟩ => rfl
    rw [e]
    rfl

end Gather

variable (m : (ℓ : Loc nD τ sig) → Buf (Elt Ideal) ℓ)

/-- The start indices of both gathers: batch number and clamped row number, after jnp's own correction of negative indices. -/
def starts (NB : IVec S3x160x8 32) : IVec S3x160x8x2 32 :=
  concatenate S3x160x8x2 3
    [⟨S3x160x8x1,
        broadcastInDim S3x160x8x1 ![0, 1, 2] bcast_S3x160x8_S3x160x8x1_0_1_2
          (broadcastInDim S3x160x8 ![0, 1, 2] bcast_S3x1x1_S3x160x8_0_1_2
            (select
              (cmpi CmpIPredicate.slt (broadcastInDim S3x1x1 ![0] bcast_S3_S3x1x1_0 (iotaInDim S3 32 0))
                (broadcastInDim S3x1x1 ![] bcast_S_S3x1x1 (constantI S_ 32 0#32)))
              (addi (broadcastInDim S3x1x1 ![0] bcast_S3_S3x1x1_0 (iotaInDim S3 32 0))
                (broadcastInDim S3x1x1 ![] bcast_S_S3x1x1 (constantI S_ 32 3#32)))
              (broadcastInDim S3x1x1 ![0] bcast_S3_S3x1x1_0 (iotaInDim S3 32 0))))⟩,
      ⟨S3x160x8x1,
        broadcastInDim S3x160x8x1 ![0, 1, 2] bcast_S3x160x8_S3x160x8x1_0_1_2
          (select
            (cmpi CmpIPredicate.slt
              (maxsi NB (broadcastInDim S3x160x8 ![] bcast_S_S3x160x8 (constantI S_ 32 0#32)))
              (broadcastInDim S3x160x8 ![] bcast_S_S3x160x8 (constantI S_ 32 0#32)))
            (addi
              (maxsi NB (broadcastInDim S3x160x8 ![] bcast_S_S3x160x8 (constantI S_ 32 0#32)))
              (broadcastInDim S3x160x8 ![] bcast_S_S3x160x8 (constantI S_ 32 640#32)))
            (maxsi NB (broadcastInDim S3x160x8 ![] bcast_S_S3x160x8 (constantI S_ 32 0#32))))⟩]
    concatenates_S3x160x8x1_S3x160x8x1_S3x160x8x2_d3

theorem maxsi_nonneg (w : BitVec 32) : 0 ≤ (IntOp.maxsi w 0#32).toInt := by
  unfold IntOp.maxsi
  split
  · rename_i h
    have h' := BitVec.slt_iff_toInt_lt.1 h
    rw [show (0#32).toInt = 0 from by decide] at h'
    exact h'.le
  · decide

theorem maxsi_toNat (w : BitVec 32) : (IntOp.maxsi w 0#32).toInt.toNat = (IntOp.maxsi w 0#32).toNat := by
  have h := maxsi_nonneg w
  rw [BitVec.toInt_eq_toNat_cond] at h ⊢
  split at h <;> rename_i h'
  · rw [if_pos h']; rfl
  · omega

theorem starts_0 (NB : IVec S3x160x8 32) (b : Fin 3) (t : Fin 160) (k : Fin 8) : starts NB (ix4 b t k 0) = BitVec.ofNat 32 b.val := by
  unfold starts
  pointwise
  revert b
  decide

theorem starts_1 (NB : IVec S3x160x8 32) (b : Fin 3) (t : Fin 160) (k : Fin 8) : starts NB (ix4 b t k 1) = IntOp.maxsi (NB (ix3 b t k)) 0#32 := by
  unfold starts
  pointwise
  have h := maxsi_nonneg (NB (ix3 b t k))
  have e : IntOp.cmpi .slt (IntOp.maxsi (NB (ix3 b t k)) 0#32) 0#32 = 0#1 := by
    have : (IntOp.maxsi (NB (ix3 b t k)) 0#32).slt 0#32 = false := by
      simpa [BitVec.slt] using h
    unfold IntOp.cmpi
    simp [this]
  rw [e]
  rfl

theorem start_b : ∀ b : Fin 3, min (BitVec.ofNat 32 b.val).toInt.toNat 2 = b.val := by decide

theorem start_batch (NB : IVec S3x160x8 32) (b : Fin 3) (t : Fin 160) (k : Fin 8) (h) :
    (⟨min (starts NB (ix4 b t k 0)).toInt.toNat 2, h⟩ : Fin 3) = b := by
  refine Fin.ext ?_
  show min (starts NB (ix4 b t k 0)).toInt.toNat 2 = b.val
  rw [starts_0, start_b]

theorem start_row (NB : IVec S3x160x8 32) (b : Fin 3) (t : Fin 160) (k : Fin 8) (h) :
    (⟨min (starts NB (ix4 b t k 1)).toInt.toNat 639, h⟩ : Fin 640) = Cert.KernelIdeal.Body.src (NB (ix3 b t k)) := by
  refine Fin.ext ?_
  show min (starts NB (ix4 b t k 1)).toInt.toNat 639 = min (IntOp.maxsi (NB (ix3 b t k)) 0#32).toNat 639
  rw [starts_1, maxsi_toNat]

/-- The neighbour operand at an index. -/
theorem v35_at (c : Dev nD) (b : Fin 3) (t : Fin 160) (k : Fin 8) :
    V m c main_v35 (ix3 k (⟨b.val * 160 + t.val, by omega⟩ : Fin 480) 0) = m ((c : Thread nD τ).loc main_arg2) (ix3 b t k) := by
  entry_read
  pointwise

theorem v40_at (c : Dev nD) (o : Fin 448) :
    V m c main_v40 (ix2 0 o) = m ((c : Thread nD τ).loc main_arg4) (ix1 o) := by
  entry_read
  pointwise

theorem v41_at (c : Dev nD) (o : Fin 448) :
    V m c main_v41 (ix2 0 o) = m ((c : Thread nD τ).loc main_arg5) (ix1 o) := by
  entry_read
  pointwise

/-- The gathered codes at an index. -/
theorem v37_at (c : Dev nD) (b : Fin 3) (t : Fin 160) (k : Fin 8) (x : Fin 576) :
    V m c main_v37 (ix3 k (⟨b.val * 160 + t.val, by omega⟩ : Fin 480) x)
      = m ((c : Thread nD τ).loc main_arg0) (ix3 b (Cert.KernelIdeal.Body.src (m ((c : Thread nD τ).loc main_arg2) (ix3 b t k))) x) := by
  have h : V m c main_v37 (ix3 k (⟨b.val * 160 + t.val, by omega⟩ : Fin 480) x)
      = Host.gather gather_S3x640x576_S3x160x8x2_S3x160x8x576_3_01_n_n_01_3_11576 (m ((c : Thread nD τ).loc main_arg0))
        (starts (m ((c : Thread nD τ).loc main_arg2))) (ix4 b t k x) := by
    unfold starts
    entry_read
    pointwise
  rw [h, gather3_at, start_batch, start_row]

/-- The gathered scales at an index. -/
theorem v39_at (c : Dev nD) (b : Fin 3) (t : Fin 160) (k : Fin 8) :
    V m c main_v39 (ix3 k (⟨b.val * 160 + t.val, by omega⟩ : Fin 480) 0)
      = m ((c : Thread nD τ).loc main_arg1) (ix2 b (Cert.KernelIdeal.Body.src (m ((c : Thread nD τ).loc main_arg2) (ix3 b t k)))) := by
  have h : V m c main_v39 (ix3 k (⟨b.val * 160 + t.val, by omega⟩ : Fin 480) 0)
      = Host.gather gather_S3x640_S3x160x8x2_S3x160x8_n_01_n_n_01_3_11 (m ((c : Thread nD τ).loc main_arg1))
        (starts (m ((c : Thread nD τ).loc main_arg2))) (ix3 b t k) := by
    unfold starts
    entry_read
    pointwise
  rw [h, gather2_at, start_batch, start_row]

end Cert.ReferenceIdeal.Body
-- ==== Proof.Join.lean ====
/- Both results of the kernel equal the reference's: the operands of each side read at an index, and the one rearrangement of a
   product that separates their accumulators. -/
module
public import proofs.«01_k».proof.Proof.KernelIdeal.Value
public import proofs.«01_k».proof.Proof.ReferenceIdeal.Host
public import proofs.«01_k».proof.Proof.Gen.Pre_pre
public import proofs.«01_k».proof.Defs
public import Idealize.ShloMosaic.Lib.ReduceAll

@[expose] public section
set_option maxRecDepth 16384

noncomputable section

namespace Cert.Join

open Idealize.ShloMosaic Idealize.ShloMosaic.TcCoe
open Cert.KernelIdeal.Body (src scl act yK yRow vK cdK scK)

section Kernel
open Cert.KernelIdeal Cert.KernelIdeal.Gen
variable (m : (ℓ : Loc nD τ sig) → Buf (Elt Ideal) ℓ)

/-- The kernel's operand of codes, transposed by the host. -/
theorem k0_at (c : Dev nD) (b : Fin 3) (x : Fin 576) (s : Fin 640) :
    V m c main_v0 (ix3 b x s) = m ((c : Thread nD τ).loc main_arg0) (ix3 b s x) := by
  entry_read
  pointwise

/-- The kernel's operand of neighbours, transposed by the host. -/
theorem k1_at (c : Dev nD) (b : Fin 3) (k : Fin 8) (t : Fin 160) :
    V m c main_v1 (ix3 b k t) = m ((c : Thread nD τ).loc main_arg2) (ix3 b t k) := by
  entry_read
  pointwise

/-- The kernel's operand of weights, transposed by the host. -/
theorem k2_at (c : Dev nD) (k : Fin 8) (o : Fin 448) (x : Fin 576) :
    V m c main_v2 (ix3 k o x) = m ((c : Thread nD τ).loc main_arg3) (ix3 k x o) := by
  entry_read
  pointwise

theorem k3_at (c : Dev nD) (o : Fin 448) : V m c main_v3 (ix2 0 o) = m ((c : Thread nD τ).loc main_arg4) (ix1 o) := by
  entry_read
  pointwise

theorem k4_at (c : Dev nD) (o : Fin 448) : V m c main_v4 (ix2 0 o) = m ((c : Thread nD τ).loc main_arg5) (ix1 o) := by
  entry_read
  pointwise

end Kernel

/-- One term of the accumulator: the kernel masks the scale, the reference the product. -/
theorem term_eq (w : BitVec 32) (x s y : EReal) :
    y * (x * Scalar.select (IntOp.cmpi .sge w 0#32) s 0) = Scalar.select (IntOp.cmpi .sge w 0#32) (x * s * y) 0 := by
  generalize IntOp.cmpi .sge w 0#32 = p
  unfold Scalar.select
  split
  · rw [mul_comm]
  · simp

/-- What the precondition says: every neighbour index is below the number of rows. -/
theorem pre_lt (x0 x1 : _) (NB : IVec Cert.KernelIdeal.S3x160x8 32) (x3 x4 x5 : _)
    (h : Cert.Pre_pre.fn (F := Ideal) x0 x1 NB x3 x4 x5 = fun _ => 1#1) (i : Cert.KernelIdeal.S3x160x8.Idx) : (NB i).toInt < 640 := by
  have e := congrFun h ix0
  unfold Cert.Pre_pre.fn at e
  exact IntOp.cmpi_slt.1 (Host.reduce_andi_all _ _ _ _ _ e i)

/-- So the clamped row number is a row. -/
theorem clamp_lt (w : BitVec 32) (h : w.toInt < 640) : (IntOp.maxsi w 0#32).toNat < 640 := by
  have h0 := Cert.ReferenceIdeal.Body.maxsi_toNat w
  rw [← h0]
  unfold IntOp.maxsi
  split
  · omega
  · decide

/-- One row before the quantiser, from what the operands of both sides have in common. -/
theorem row_abs (X : Cert.KernelIdeal.S3x576x640.Idx → EReal) (XS : Cert.KernelIdeal.S3x640.Idx → EReal) (NB : Cert.KernelIdeal.S3x8x160.Idx → BitVec 32)
    (W : Cert.KernelIdeal.S8x448x576.Idx → EReal) (WS Bi : Cert.KernelIdeal.S1x448.Idx → EReal)
    (x0 : Vec Ideal Cert.ReferenceIdeal.S8x480x1 .i32) (x1 : Vec Ideal Cert.ReferenceIdeal.S8x480x576 .fp8e4m3) (x2 : Vec Ideal Cert.ReferenceIdeal.S8x480x1 .f32)
    (x3 : Vec Ideal Cert.ReferenceIdeal.S8x576x448 .fp8e4m3) (x4 x5 : Vec Ideal Cert.ReferenceIdeal.S1x448 .f32)
    (b : Fin 3) (t : Fin 160) (r : Fin 480)
    (h0 : ∀ k, x0 (ix3 k r 0) = NB (ix3 b k t)) (h1 : ∀ k x, x1 (ix3 k r x) = X (ix3 b x (src (NB (ix3 b k t)))))
    (h2 : ∀ k, x2 (ix3 k r 0) = XS (ix2 b (src (NB (ix3 b k t))))) (h3 : ∀ k x o, x3 (ix3 k x o) = W (ix3 k o x))
    (h4 : ∀ o, x4 (ix2 0 o) = WS (ix2 0 o)) (h5 : ∀ o, x5 (ix2 0 o) = Bi (ix2 0 o)) :
    yRow X XS NB W WS Bi b t = Cert.ReferenceIdeal.Body.yR x0 x1 x2 x3 x4 x5 r := by
  funext o
  unfold yRow Cert.ReferenceIdeal.Body.yR
  rw [h4, h5]
  congr 1
  refine Finset.sum_congr rfl fun k _ => Finset.sum_congr rfl fun x _ => ?_
  unfold act scl
  rw [h0, h1, h2, h3]
  exact term_eq _ _ _ _

section Rows
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments agree on one device. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- One row before the quantiser: the kernel's is the reference's. -/
theorem row_eq (c : Dev Cert.KernelIdeal.nD) (h : Agree m m' c) (b : Fin 3) (t : Fin 160) (hr) :
    yRow (Cert.KernelIdeal.Gen.V m c Cert.KernelIdeal.main_v0) (Cert.KernelIdeal.Gen.V m c Cert.KernelIdeal.main_arg1)
        (Cert.KernelIdeal.Gen.V m c Cert.KernelIdeal.main_v1) (Cert.KernelIdeal.Gen.V m c Cert.KernelIdeal.main_v2)
        (Cert.KernelIdeal.Gen.V m c Cert.KernelIdeal.main_v3) (Cert.KernelIdeal.Gen.V m c Cert.KernelIdeal.main_v4) b t
      = Cert.ReferenceIdeal.Body.yR (Cert.ReferenceIdeal.Gen.V m' c Cert.ReferenceIdeal.main_v35)
        (Cert.ReferenceIdeal.Gen.V m' c Cert.ReferenceIdeal.main_v37) (Cert.ReferenceIdeal.Gen.V m' c Cert.ReferenceIdeal.main_v39)
        (Cert.ReferenceIdeal.Gen.V m' c Cert.ReferenceIdeal.main_arg3) (Cert.ReferenceIdeal.Gen.V m' c Cert.ReferenceIdeal.main_v40)
        (Cert.ReferenceIdeal.Gen.V m' c Cert.ReferenceIdeal.main_v41) ⟨b.val * 160 + t.val, hr⟩ := by
  obtain ⟨h0, h1, h2, h3, h4, h5⟩ := h
  refine row_abs _ _ _ _ _ _ _ _ _ _ _ _ b t _ (fun k => ?_) (fun k x => ?_) (fun k => ?_) (fun k x o => ?_) (fun o => ?_) (fun o => ?_)
  · exact (Cert.ReferenceIdeal.Body.v35_at m' c b t k).trans ((congrFun h2 _).trans (k1_at m c b k t).symm)
  · refine (Cert.ReferenceIdeal.Body.v37_at m' c b t k x).trans ?_
    rw [k0_at, k1_at, h0, h2]
  · refine (Cert.ReferenceIdeal.Body.v39_at m' c b t k).trans ?_
    rw [k1_at, Cert.KernelIdeal.Gen.V_main_arg1, h1, h2]
  · rw [k2_at, Cert.ReferenceIdeal.Gen.V_main_arg3, h3]
  · exact (Cert.ReferenceIdeal.Body.v40_at m' c o).trans ((congrFun h4 _).trans (k3_at m c o).symm)
  · exact (Cert.ReferenceIdeal.Body.v41_at m' c o).trans ((congrFun h5 _).trans (k4_at m c o).symm)

/-- The codes of both programs. -/
theorem codes_eq (c : Dev Cert.KernelIdeal.nD) (h : Agree m m' c) :
    (Cert.ReferenceIdeal.Gen.dats m' 0 c).arrAt 6 Cert.ReferenceIdeal.cfg0.N = Cert.KernelIdeal.Value.codesG m c := by
  rw [Cert.ReferenceIdeal.Body.final6]
  funext i
  obtain ⟨b, t, o, rfl⟩ : ∃ b t o, i = ix3 b t o := ⟨i 0, i 1, i 2, by idx_vars i⟩
  rw [Cert.ReferenceIdeal.Body.out6_at, ← row_eq m m' c h b t _]
  rfl

/-- The scales of both programs. -/
theorem scales_eq (c : Dev Cert.KernelIdeal.nD) (h : Agree m m' c) :
    (Cert.ReferenceIdeal.Gen.dats m' 0 c).arrAt 7 Cert.ReferenceIdeal.cfg0.N = Cert.KernelIdeal.Value.scalesG m c := by
  rw [Cert.ReferenceIdeal.Body.final7]
  funext i
  obtain ⟨b, t, rfl⟩ : ∃ b t, i = ix2 b t := ⟨i 0, i 1, by idx_vars i⟩
  rw [Cert.ReferenceIdeal.Body.out7_at, ← row_eq m m' c h b t _]
  rfl

/-- The kernel's neighbour operand under the precondition. -/
theorem nbr_lt (c : Dev Cert.KernelIdeal.nD)
    (h : ∀ i, (m ((c.tc : Thread Cert.KernelIdeal.nD Cert.KernelIdeal.τ).loc Cert.KernelIdeal.main_arg2) i : BitVec 32).toInt < 640)
    (i : Cert.KernelIdeal.S3x8x160.Idx) :
    (IntOp.maxsi (Cert.KernelIdeal.Gen.V m c Cert.KernelIdeal.main_v1 i : BitVec 32) 0#32).toNat < 640 := by
  obtain ⟨b, k, t, rfl⟩ : ∃ b k t, i = ix3 b k t := ⟨i 0, i 1, i 2, by idx_vars i⟩
  rw [k1_at]
  exact clamp_lt _ (h _)

end Rows

end Cert.Join
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_pre
public import proofs.«01_k».proof.Proof.Gen.ReferenceIdeal.Frame

public import proofs.«01_k».proof.Proof.Kernel.Frame
public import proofs.«01_k».proof.Proof.KernelIdeal.Frame
public import proofs.«01_k».proof.Proof.Join
public import Idealize.ShloMosaic.Adequacy
public import Idealize.ShloMosaic.Init

@[expose] public section

noncomputable section

namespace Cert.Proof

open Idealize.ShloMosaic Idealize.SL.Sem

/-- The kernel's two results equal the reference's at the ideal instance. -/
theorem algebraic : Cert.algebraic_KernelIdeal_ReferenceIdeal_pre_pre := by
  intro m g m' g' hpre hagree
  have hlt : ∀ c i, (IntOp.maxsi (Cert.KernelIdeal.Gen.V m c Cert.KernelIdeal.main_v1 i : BitVec 32) 0#32).toNat < 640 :=
    fun c => Cert.Join.nbr_lt m c (Cert.Join.pre_lt _ _ _ _ _ _ (hpre c))
  refine ⟨Cert.KernelIdeal.Value.codesG m, Cert.KernelIdeal.Value.scalesG m, Cert.KernelIdeal.Value.run_blocks m g hlt, ?_⟩
  refine (θ_run _ _ _).mono (fun r h c => ?_) (Cert.ReferenceIdeal.Body.run_blocks m' g')
  exact ⟨(h c).1.trans (Cert.Join.codes_eq m m' c (hagree c)), (h c).2.1.trans (Cert.Join.scales_eq m m' c (hagree c)), (h c).2.2⟩

theorem claim : Cert.Claim := ⟨Cert.Kernel.Gen.facts, Cert.KernelIdeal.Gen.facts, Cert.ReferenceIdeal.Gen.facts, Cert.Pre_pre.Gen.facts,
  fun m ρ _ => Cert.Kernel.Body.frame m ρ,
  fun m ρ _ => Cert.KernelIdeal.Body.frame m ρ, fun m ρ _ => Cert.KernelIdeal.Body.frame m ρ,
  fun m ρ _ => Cert.ReferenceIdeal.Gen.frame m ρ, fun m ρ _ => Cert.ReferenceIdeal.Gen.frame m ρ, trivial, algebraic⟩

end Cert.Proof

end
